-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  IdealRules.named_const.Statement Cert.KernelIdeal.κ "gelu_k" .f32 0x3D372713#32 ((8943 / 200000 : ℝ) : EReal)
  ∧ IdealRules.named_const.Statement Cert.KernelIdeal.κ "gelu_3k" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v30)) (v3 : (c : Dev Cert.KernelIdeal.nD) → Buf (Elt Ideal) ((c.tc : Thread Cert.KernelIdeal.nD Cert.KernelIdeal.τ).loc Cert.KernelIdeal.main_v32)) (v4 : (c : Dev Cert.KernelIdeal.nD) → Buf (Elt Ideal) ((c.tc : Thread Cert.KernelIdeal.nD Cert.KernelIdeal.τ).loc Cert.KernelIdeal.main_v22_4)) (v5 : (c : Dev Cert.KernelIdeal.nD) → Buf (Elt Ideal) ((c.tc : Thread Cert.KernelIdeal.nD Cert.KernelIdeal.τ).loc Cert.KernelIdeal.main_v22_5)) (v6 : (c : Dev Cert.KernelIdeal.nD) → Buf (Elt Ideal) ((c.tc : Thread Cert.KernelIdeal.nD Cert.KernelIdeal.τ).loc Cert.KernelIdeal.main_v22_6)) (v7 : (c : Dev Cert.KernelIdeal.nD) → Buf (Elt Ideal) ((c.tc : Thread Cert.KernelIdeal.nD Cert.KernelIdeal.τ).loc Cert.KernelIdeal.main_v22_7)) (v8 : (c : Dev Cert.KernelIdeal.nD) → Buf (Elt Ideal) ((c.tc : Thread Cert.KernelIdeal.nD Cert.KernelIdeal.τ).loc Cert.KernelIdeal.main_v34)) (v9 : (c : Dev Cert.KernelIdeal.nD) → Buf (Elt Ideal) ((c.tc : Thread Cert.KernelIdeal.nD Cert.KernelIdeal.τ).loc Cert.KernelIdeal.main_v36)) (v10 : (c : Dev Cert.KernelIdeal.nD) → Buf (Elt Ideal) ((c.tc : Thread Cert.KernelIdeal.nD Cert.KernelIdeal.τ).loc Cert.KernelIdeal.main_v42)) (v11 : (c : Dev Cert.KernelIdeal.nD) → Buf (Elt Ideal) ((c.tc : Thread Cert.KernelIdeal.nD Cert.KernelIdeal.τ).loc Cert.KernelIdeal.main_v44)) (v12 : (c : Dev Cert.KernelIdeal.nD) → Buf (Elt Ideal) ((c.tc : Thread Cert.KernelIdeal.nD Cert.KernelIdeal.τ).loc Cert.KernelIdeal.main_v46)) (v13 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_v22_4) = v4 c
          ∧ r.2.mem ((c.tc : Thread Cert.KernelIdeal.nD Cert.KernelIdeal.τ).loc Cert.KernelIdeal.main_v22_5) = v5 c
          ∧ r.2.mem ((c.tc : Thread Cert.KernelIdeal.nD Cert.KernelIdeal.τ).loc Cert.KernelIdeal.main_v22_6) = v6 c
          ∧ r.2.mem ((c.tc : Thread Cert.KernelIdeal.nD Cert.KernelIdeal.τ).loc Cert.KernelIdeal.main_v22_7) = v7 c
          ∧ r.2.mem ((c.tc : Thread Cert.KernelIdeal.nD Cert.KernelIdeal.τ).loc Cert.KernelIdeal.main_v34) = v8 c
          ∧ r.2.mem ((c.tc : Thread Cert.KernelIdeal.nD Cert.KernelIdeal.τ).loc Cert.KernelIdeal.main_v36) = v9 c
          ∧ r.2.mem ((c.tc : Thread Cert.KernelIdeal.nD Cert.KernelIdeal.τ).loc Cert.KernelIdeal.main_v42) = v10 c
          ∧ r.2.mem ((c.tc : Thread Cert.KernelIdeal.nD Cert.KernelIdeal.τ).loc Cert.KernelIdeal.main_v44) = v11 c
          ∧ r.2.mem ((c.tc : Thread Cert.KernelIdeal.nD Cert.KernelIdeal.τ).loc Cert.KernelIdeal.main_v46) = v12 c
          ∧ r.2.mem ((c.tc : Thread Cert.KernelIdeal.nD Cert.KernelIdeal.τ).loc Cert.KernelIdeal.main_v48) = v13 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v237) = v1 c
          ∧ r.2.mem ((c.tc : Thread Cert.ReferenceIdeal.nD Cert.ReferenceIdeal.τ).loc Cert.ReferenceIdeal.main_v238) = v2 c
          ∧ r.2.mem ((c.tc : Thread Cert.ReferenceIdeal.nD Cert.ReferenceIdeal.τ).loc Cert.ReferenceIdeal.main_v213) = v3 c
          ∧ r.2.mem ((c.tc : Thread Cert.ReferenceIdeal.nD Cert.ReferenceIdeal.τ).loc Cert.ReferenceIdeal.main_v189) = v4 c
          ∧ r.2.mem ((c.tc : Thread Cert.ReferenceIdeal.nD Cert.ReferenceIdeal.τ).loc Cert.ReferenceIdeal.main_v163) = v5 c
          ∧ r.2.mem ((c.tc : Thread Cert.ReferenceIdeal.nD Cert.ReferenceIdeal.τ).loc Cert.ReferenceIdeal.main_v165) = v6 c
          ∧ r.2.mem ((c.tc : Thread Cert.ReferenceIdeal.nD Cert.ReferenceIdeal.τ).loc Cert.ReferenceIdeal.main_v197) = v7 c
          ∧ r.2.mem ((c.tc : Thread Cert.ReferenceIdeal.nD Cert.ReferenceIdeal.τ).loc Cert.ReferenceIdeal.main_v217) = v8 c
          ∧ r.2.mem ((c.tc : Thread Cert.ReferenceIdeal.nD Cert.ReferenceIdeal.τ).loc Cert.ReferenceIdeal.main_v195) = v9 c
          ∧ r.2.mem ((c.tc : Thread Cert.ReferenceIdeal.nD Cert.ReferenceIdeal.τ).loc Cert.ReferenceIdeal.main_v223) = v10 c
          ∧ r.2.mem ((c.tc : Thread Cert.ReferenceIdeal.nD Cert.ReferenceIdeal.τ).loc Cert.ReferenceIdeal.main_v174) = v11 c
          ∧ r.2.mem ((c.tc : Thread Cert.ReferenceIdeal.nD Cert.ReferenceIdeal.τ).loc Cert.ReferenceIdeal.main_v139) = v12 c
          ∧ r.2.mem ((c.tc : Thread Cert.ReferenceIdeal.nD Cert.ReferenceIdeal.τ).loc Cert.ReferenceIdeal.main_v133) = v13 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v67)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v67) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v119) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v66)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v66) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v117) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4096x512 : Shape := ⟨2, ![4096, 512]⟩
abbrev S4096x1024 : Shape := ⟨2, ![4096, 1024]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_arg15 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  main_v78

def fn_part3 {F : FTy → Type} [FloatOps F] (main_arg11 : FVec F S512 .f32) (main_arg12 : FVec F S512 .f32) (main_arg13 : FVec F S1024x1024 .f32) (main_arg14 : FVec F S1024 .f32) (main_arg15 : FVec F S1024 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_v63 main_v67

def fn_part2 {F : FTy → Type} [FloatOps F] (main_arg7 : FVec F S4096x1024 .f32) (main_arg8 : FVec F S512 .f32) (main_arg9 : FVec F S512x512 .f32) (main_arg10 : FVec F S512 .f32) (main_arg11 : FVec F S512 .f32) (main_arg12 : FVec F S512 .f32) (main_arg13 : FVec F S1024x1024 .f32) (main_arg14 : FVec F S1024 .f32) (main_arg15 : FVec F S1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_v48 main_v49 main_v50

def fn_part1 {F : FTy → Type} [FloatOps F] (main_arg4 : FVec F S4096x512 .f32) (main_arg5 : FVec F S4096x512 .f32) (main_arg6 : FVec F S4096x1024 .f32) (main_arg7 : FVec F S4096x1024 .f32) (main_arg8 : FVec F S512 .f32) (main_arg9 : FVec F S512x512 .f32) (main_arg10 : FVec F S512 .f32) (main_arg11 : FVec F S512 .f32) (main_arg12 : FVec F S512 .f32) (main_arg13 : FVec F S1024x1024 .f32) (main_arg14 : FVec F S1024 .f32) (main_arg15 : FVec F S1024 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096x512 .f32 := Host.absf main_arg5
  let main_cst_8 : FVec F S_ .f32 := constant S_ .f32 0x7F800000#32
  let main_v25 : FVec F S4096x512 .f32 := broadcastInDim S4096x512 ![] bcast_S_S4096x512 main_cst_8
  let main_v26 : IVec S4096x512 1 := cmpf .olt main_v24 main_v25
  let main_c_9 : IVec S_ 1 := constantI S_ 1 1#1
  let main_v27 : IVec S_ 1 := (fun x v => Host.reduce IntOp.andi x v reducesTo_S4096x512_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x512 .f32) (main_arg5 : FVec F S4096x512 .f32) (main_arg6 : FVec F S4096x1024 .f32) (main_arg7 : FVec F S4096x1024 .f32) (main_arg8 : FVec F S512 .f32) (main_arg9 : FVec F S512x512 .f32) (main_arg10 : FVec F S512 .f32) (main_arg11 : FVec F S512 .f32) (main_arg12 : FVec F S512 .f32) (main_arg13 : FVec F S1024x1024 .f32) (main_arg14 : FVec F S1024 .f32) (main_arg15 : FVec F S1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x512 : Shape := ⟨2, ![4096, 512]⟩
abbrev S4096x1024 : Shape := ⟨2, ![4096, 1024]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S4096x2x4x64 : Shape := ⟨4, ![4096, 2, 4, 64]⟩
abbrev S4096x4x2x64 : Shape := ⟨4, ![4096, 4, 2, 64]⟩
abbrev S4096x4x128 : Shape := ⟨3, ![4096, 4, 128]⟩
abbrev S4x4096x128 : Shape := ⟨3, ![4, 4096, 128]⟩
abbrev S1x512 : Shape := ⟨2, ![1, 512]⟩
abbrev S2x4x64 : Shape := ⟨3, ![2, 4, 64]⟩
abbrev S4x2x64 : Shape := ⟨3, ![4, 2, 64]⟩
abbrev S1x1024 : Shape := ⟨2, ![1, 1024]⟩
abbrev S8x128 : Shape := ⟨2, ![8, 128]⟩
abbrev S8x1024 : Shape := ⟨2, ![8, 1024]⟩
abbrev S4x512x128 : Shape := ⟨3, ![4, 512, 128]⟩
abbrev S512x1024 : Shape := ⟨2, ![512, 1024]⟩
abbrev S64x1024 : Shape := ⟨2, ![64, 1024]⟩
abbrev S512x1 : Shape := ⟨2, ![512, 1]⟩
abbrev S1x512x128 : Shape := ⟨3, ![1, 512, 128]⟩
abbrev S512x128 : Shape := ⟨2, ![512, 128]⟩
abbrev S1x512x1 : Shape := ⟨3, ![1, 512, 1]⟩
abbrev S1 : Shape := ⟨1, ![1]⟩
abbrev S1x1x1 : Shape := ⟨3, ![1, 1, 1]⟩
abbrev S128x1024 : Shape := ⟨2, ![128, 1024]⟩
abbrev S1x1 : Shape := ⟨2, ![1, 1]⟩
abbrev S_ : Shape := ⟨0, ![]⟩

abbrev nBuf : Space → Nat
  | .hbm => 73
  | .vmem => 39
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S1024x1024, .f32⟩
  | .hbm, ⟨14, _⟩ => ⟨S1024, .f32⟩
  | .hbm, ⟨15, _⟩ => ⟨S1024, .f32⟩
  | .hbm, ⟨16, _⟩ => ⟨S4096x2x4x64, .f32⟩
  | .hbm, ⟨17, _⟩ => ⟨S4096x4x2x64, .f32⟩
  | .hbm, ⟨18, _⟩ => ⟨S4096x512, .f32⟩
  | .hbm, ⟨19, _⟩ => ⟨S4096x2x4x64, .f32⟩
  | .hbm, ⟨20, _⟩ => ⟨S4096x4x2x64, .f32⟩
  | .hbm, ⟨21, _⟩ => ⟨S4096x512, .f32⟩
  | .hbm, ⟨22, _⟩ => ⟨S4096x4x128, .f32⟩
  | .hbm, ⟨23, _⟩ => ⟨S4x4096x128, .f32⟩
  | .hbm, ⟨24, _⟩ => ⟨S4096x4x128, .f32⟩
  | .hbm, ⟨25, _⟩ => ⟨S4x4096x128, .f32⟩
  | .hbm, ⟨26, _⟩ => ⟨S4096x4x128, .f32⟩
  | .hbm, ⟨27, _⟩ => ⟨S4x4096x128, .f32⟩
  | .hbm, ⟨28, _⟩ => ⟨S1x512, .f32⟩
  | .hbm, ⟨29, _⟩ => ⟨S512x512, .bf16⟩
  | .hbm, ⟨30, _⟩ => ⟨S1x512, .f32⟩
  | .hbm, ⟨31, _⟩ => ⟨S2x4x64, .f32⟩
  | .hbm, ⟨32, _⟩ => ⟨S4x2x64, .f32⟩
  | .hbm, ⟨33, _⟩ => ⟨S1x512, .f32⟩
  | .hbm, ⟨34, _⟩ => ⟨S1x512, .f32⟩
  | .hbm, ⟨35, _⟩ => ⟨S1024x1024, .bf16⟩
  | .hbm, ⟨36, _⟩ => ⟨S1x1024, .f32⟩
  | .hbm, ⟨37, _⟩ => ⟨S1x1024, .f32⟩
  | .hbm, ⟨38, _⟩ => ⟨S8x128, .f32⟩
  | .hbm, ⟨39, _⟩ => ⟨S4096x512, .f32⟩
  | .hbm, ⟨40, _⟩ => ⟨S4096x512, .f32⟩
  | .hbm, ⟨41, _⟩ => ⟨S4x4096x128, .f32⟩
  | .hbm, ⟨42, _⟩ => ⟨S4096x512, .f32⟩
  | .hbm, ⟨43, _⟩ => ⟨S4096x1024, .f32⟩
  | .hbm, ⟨44, _⟩ => ⟨S1024x1024, .f32⟩
  | .hbm, ⟨45, _⟩ => ⟨S512x512, .f32⟩
  | .hbm, ⟨46, _⟩ => ⟨S8x1024, .f32⟩
  | .hbm, ⟨47, _⟩ => ⟨S1x1, .f32⟩
  | .hbm, ⟨48, _⟩ => ⟨S_, .f32⟩
  | .hbm, ⟨49, _⟩ => ⟨S4096x4x2x64, .f32⟩
  | .hbm, ⟨50, _⟩ => ⟨S4096x2x4x64, .f32⟩
  | .hbm, ⟨51, _⟩ => ⟨S4096x512, .f32⟩
  | .hbm, ⟨52, _⟩ => ⟨S4096x4x2x64, .f32⟩
  | .hbm, ⟨53, _⟩ => ⟨S4096x2x4x64, .f32⟩
  | .hbm, ⟨54, _⟩ => ⟨S4096x512, .f32⟩
  | .hbm, ⟨55, _⟩ => ⟨S4096x4x128, .f32⟩
  | .hbm, ⟨56, _⟩ => ⟨S4096x512, .f32⟩
  | .hbm, ⟨57, _⟩ => ⟨S1x512, .f32⟩
  | .hbm, ⟨58, _⟩ => ⟨S512, .f32⟩
  | .hbm, ⟨59, _⟩ => ⟨S1x512, .f32⟩
  | .hbm, ⟨60, _⟩ => ⟨S512, .f32⟩
  | .hbm, ⟨61, _⟩ => ⟨S1x512, .f32⟩
  | .hbm, ⟨62, _⟩ => ⟨S512, .f32⟩
  | .hbm, ⟨63, _⟩ => ⟨S4x2x64, .f32⟩
  | .hbm, ⟨64, _⟩ => ⟨S2x4x64, .f32⟩
  | .hbm, ⟨65, _⟩ => ⟨S1x512, .f32⟩
  | .hbm, ⟨66, _⟩ => ⟨S512, .f32⟩
  | .hbm, ⟨67, _⟩ => ⟨S1x512, .f32⟩
  | .hbm, ⟨68, _⟩ => ⟨S512, .f32⟩
  | .hbm, ⟨69, _⟩ => ⟨S1x1024, .f32⟩
  | .hbm, ⟨70, _⟩ => ⟨S1024, .f32⟩
  | .hbm, ⟨71, _⟩ => ⟨S1x1024, .f32⟩
  | .hbm, ⟨72, _⟩ => ⟨S1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4x512x128, .f32⟩
  | .local _ .vmem, ⟨5, _⟩ => ⟨S4x512x128, .f32⟩
  | .local _ .vmem, ⟨6, _⟩ => ⟨S4x512x128, .f32⟩
  | .local _ .vmem, ⟨7, _⟩ => ⟨S4x512x128, .f32⟩
  | .local _ .vmem, ⟨8, _⟩ => ⟨S4x512x128, .f32⟩
  | .local _ .vmem, ⟨9, _⟩ => ⟨S4x512x128, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x512, .f32⟩
  | .local _ .vmem, ⟨17, _⟩ => ⟨S512x512, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S8x128, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S4x512x128, .f32⟩
  | .local _ .vmem, ⟨30, _⟩ => ⟨S4x512x128, .f32⟩
  | .local _ .vmem, ⟨31, _⟩ => ⟨S512x512, .f32⟩
  | .local _ .vmem, ⟨32, _⟩ => ⟨S512x512, .f32⟩
  | .local _ .vmem, ⟨33, _⟩ => ⟨S512x1024, .f32⟩
  | .local _ .vmem, ⟨34, _⟩ => ⟨S512x1024, .f32⟩
  | .local _ .vmem, ⟨35, _⟩ => ⟨S1024x1024, .f32⟩
  | .local _ .vmem, ⟨36, _⟩ => ⟨S512x512, .f32⟩
  | .local _ .vmem, ⟨37, _⟩ => ⟨S8x1024, .f32⟩
  | .local _ .vmem, ⟨38, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_v22_2 : Ref sig .tc := ⟨.hbm, 40, rfl⟩
abbrev main_v22_3 : Ref sig .tc := ⟨.hbm, 41, rfl⟩
abbrev main_v22_4 : Ref sig .tc := ⟨.hbm, 42, rfl⟩
abbrev main_v22_5 : Ref sig .tc := ⟨.hbm, 43, rfl⟩
abbrev main_v22_6 : Ref sig .tc := ⟨.hbm, 44, rfl⟩
abbrev main_v22_7 : Ref sig .tc := ⟨.hbm, 45, rfl⟩
abbrev main_v22_8 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem23_0 : DmaSem sig := 36
abbrev cc0_sem24_0 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1024x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== KernelIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== ReferenceIdeal.lean ====
abbrev S4096x512 : Shape := ⟨2, ![4096, 512]⟩
abbrev S4096x1024 : Shape := ⟨2, ![4096, 1024]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S1x1024 : Shape := ⟨2, ![1, 1024]⟩

abbrev nBuf : Space → Nat
  | .hbm => 351
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S4096x512, .f32⟩
  | 6 => ⟨S4096x1024, .f32⟩
  | 7 => ⟨S4096x1024, .f32⟩
  | 8 => ⟨S512, .f32⟩
  | 9 => ⟨S512x512, .f32⟩
  | 10 => ⟨S512, .f32⟩
  | 11 => ⟨S512, .f32⟩
  | 12 => ⟨S512, .f32⟩
  | 13 => ⟨S1024x1024, .f32⟩
  | 14 => ⟨S1024, .f32⟩
  | 15 => ⟨S1024, .f32⟩
  | 16 => ⟨S4096x512, .f32⟩
  | 17 => ⟨S_, .f32⟩
  | 18 => ⟨S4096x1024, .f32⟩
  | 19 => ⟨S4096x1024, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x512, .f32⟩
  | 53 => ⟨S4096x512, .f32⟩
  | 54 => ⟨S1x512, .f32⟩
  | 55 => ⟨S4096x512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S4096x512, .f32⟩
  | 74 => ⟨S_, .f32⟩
  | 75 => ⟨S4096x512, .f32⟩
  | 76 => ⟨S4096x512, .f32⟩
  | 77 => ⟨S4096x512, .f32⟩
  | 78 => ⟨S_, .f32⟩
  | 79 => ⟨S4096x512, .f32⟩
  | 80 => ⟨S4096x512, .f32⟩
  | 81 => ⟨S_, .f32⟩
  | 82 => ⟨S4096x512, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S4096x512, .f32⟩
  | 92 => ⟨S4096x512, .f32⟩
  | 93 => ⟨S1x512, .f32⟩
  | 94 => ⟨S4096x512, .f32⟩
  | 95 => ⟨S4096x512, .f32⟩
  | 96 => ⟨S4096x512, .f32⟩
  | 97 => ⟨S4096x512, .f32⟩
  | 98 => ⟨S_, .f32⟩
  | 99 => ⟨S4096x512, .f32⟩
  | 100 => ⟨S4096x512, .f32⟩
  | 101 => ⟨S_, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S4096x512, .f32⟩
  | 108 => ⟨S4096x512, .f32⟩
  | 109 => ⟨S4096x512, .f32⟩
  | 110 => ⟨S4096x512, .f32⟩
  | 111 => ⟨S_, .f32⟩
  | 112 => ⟨S4096x512, .f32⟩
  | 113 => ⟨S4096x512, .f32⟩
  | 114 => ⟨S_, .f32⟩
  | 115 => ⟨S4096x512, .f32⟩
  | 116 => ⟨S4096x512, .f32⟩
  | 117 => ⟨S_, .f32⟩
  | 118 => ⟨S4096x512, .f32⟩
  | 119 => ⟨S4096x512, .f32⟩
  | 120 => ⟨S4096x512, .f32⟩
  | 121 => ⟨S4096x512, .f32⟩
  | 122 => ⟨S4096x512, .f32⟩
  | 123 => ⟨S4096x512, .f32⟩
  | 124 => ⟨S_, .f32⟩
  | 125 => ⟨S4096x512, .f32⟩
  | 126 => ⟨S4096x512, .f32⟩
  | 127 => ⟨S_, .f32⟩
  | _ => ⟨S4096x512, .f32⟩

abbrev hbmTy0_1 (i : Nat) : BufTy := match i % 128 with
  | 0 => ⟨S4096, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096x1, .f32⟩
  | 7 => ⟨S4096x1, .f32⟩
  | 8 => ⟨S4096x1, .f32⟩
  | 9 => ⟨S4096x1, .f32⟩
  | 10 => ⟨S_, .f32⟩
  | 11 => ⟨S4096x1, .f32⟩
  | 12 => ⟨S4096x1, .f32⟩
  | 13 => ⟨S4096x512, .f32⟩
  | 14 => ⟨S4096x512, .f32⟩
  | 15 => ⟨S1x512, .f32⟩
  | 16 => ⟨S4096x512, .f32⟩
  | 17 => ⟨S4096x512, .f32⟩
  | 18 => ⟨S4096x1024, .f32⟩
  | 19 => ⟨S4096x1024, .f32⟩
  | 20 => ⟨S4096x1024, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x1024, .f32⟩
  | 40 => ⟨S4096x1024, .f32⟩
  | 41 => ⟨S_, .f32⟩
  | 42 => ⟨S4096x1, .f32⟩
  | 43 => ⟨S4096x1, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1024, .f32⟩
  | 50 => ⟨S4096x1024, .f32⟩
  | 51 => ⟨S1x1024, .f32⟩
  | 52 => ⟨S4096x1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S_, .f32⟩
  | 63 => ⟨S4096, .f32⟩
  | 64 => ⟨S_, .f32⟩
  | 65 => ⟨S4096, .f32⟩
  | 66 => ⟨S4096, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S4096, .f32⟩
  | 75 => ⟨S_, .f32⟩
  | 76 => ⟨S4096, .f32⟩
  | 77 => ⟨S4096, .f32⟩
  | 78 => ⟨S4096x1024, .f32⟩
  | 79 => ⟨S4096x1024, .f32⟩
  | 80 => ⟨S_, .f32⟩
  | 81 => ⟨S1024, .f32⟩
  | 82 => ⟨S1x1024, .f32⟩
  | 83 => ⟨S_, .f32⟩
  | 84 => ⟨S1024, .f32⟩
  | 85 => ⟨S4096x1024, .f32⟩
  | 86 => ⟨S_, .f32⟩
  | 87 => ⟨S1024, .f32⟩
  | 88 => ⟨S1x1024, .f32⟩
  | 89 => ⟨S4096x1024, .f32⟩
  | 90 => ⟨S4096x1024, .f32⟩
  | 91 => ⟨S_, .f32⟩
  | 92 => ⟨S1024, .f32⟩
  | 93 => ⟨S4096x1024, .f32⟩
  | 94 => ⟨S_, .f32⟩
  | 95 => ⟨S4096, .f32⟩
  | 96 => ⟨S4096x1, .f32⟩
  | 97 => ⟨S4096x1024, .f32⟩
  | 98 => ⟨S4096x1024, .f32⟩
  | 99 => ⟨S4096x1, .f32⟩
  | 100 => ⟨S4096x1024, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x1024, .f32⟩
  | 110 => ⟨S4096x1024, .f32⟩
  | 111 => ⟨S4096x1024, .f32⟩
  | 112 => ⟨S_, .f32⟩
  | 113 => ⟨S4096, .f32⟩
  | 114 => ⟨S4096x1, .f32⟩
  | 115 => ⟨S4096x1024, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x1024, .f32⟩
  | 123 => ⟨S4096x1024, .f32⟩
  | 124 => ⟨S1024x1024, .f32⟩
  | 125 => ⟨S1024x1024, .f32⟩
  | 126 => ⟨S4096x1024, .f32⟩
  | 127 => ⟨S4096x512, .f32⟩
  | _ => ⟨S4096x512, .f32⟩

abbrev hbmTy0_2 (i : Nat) : BufTy := match i % 128 with
  | 0 => ⟨S4096x512, .f32⟩
  | 1 => ⟨S4096x512, .f32⟩
  | 2 => ⟨S_, .f32⟩
  | 3 => ⟨S512, .f32⟩
  | 4 => ⟨S1x512, .f32⟩
  | 5 => ⟨S4096x512, .f32⟩
  | 6 => ⟨S4096x512, .f32⟩
  | 7 => ⟨S_, .f32⟩
  | 8 => ⟨S512, .f32⟩
  | 9 => ⟨S4096x512, .f32⟩
  | 10 => ⟨S_, .f32⟩
  | 11 => ⟨S4096, .f32⟩
  | 12 => ⟨S4096x1, .f32⟩
  | 13 => ⟨S4096x512, .f32⟩
  | 14 => ⟨S4096x512, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S_, .f32⟩
  | 34 => ⟨S512, .f32⟩
  | 35 => ⟨S1x512, .f32⟩
  | 36 => ⟨S_, .f32⟩
  | 37 => ⟨S512, .f32⟩
  | 38 => ⟨S512x512, .f32⟩
  | 39 => ⟨S512x512, .f32⟩
  | 40 => ⟨S4096x512, .f32⟩
  | 41 => ⟨S4096x512, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S_, .f32⟩
  | 56 => ⟨S4096x512, .f32⟩
  | 57 => ⟨S4096x512, .f32⟩
  | 58 => ⟨S4096x512, .f32⟩
  | 59 => ⟨S4096x512, .f32⟩
  | 60 => ⟨S4096x512, .f32⟩
  | 61 => ⟨S_, .f32⟩
  | 62 => ⟨S512, .f32⟩
  | 63 => ⟨S1x512, .f32⟩
  | 64 => ⟨S_, .f32⟩
  | 65 => ⟨S512, .f32⟩
  | 66 => ⟨S4096x512, .f32⟩
  | 67 => ⟨S_, .f32⟩
  | 68 => ⟨S512, .f32⟩
  | 69 => ⟨S1x512, .f32⟩
  | 70 => ⟨S4096x512, .f32⟩
  | 71 => ⟨S4096x512, .f32⟩
  | 72 => ⟨S_, .f32⟩
  | 73 => ⟨S512, .f32⟩
  | 74 => ⟨S4096x512, .f32⟩
  | 75 => ⟨S_, .f32⟩
  | 76 => ⟨S4096, .f32⟩
  | 77 => ⟨S4096x1, .f32⟩
  | 78 => ⟨S4096x512, .f32⟩
  | 79 => ⟨S4096x512, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096, .f32⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v3_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v3_1 : Ref sig .tc := ⟨.hbm, 31, rfl⟩
abbrev main_v3_0 : Ref sig .tc := ⟨.hbm, 32, rfl⟩
abbrev main_v4 : Ref sig .tc := ⟨.hbm, 33, rfl⟩
abbrev main_v5 : Ref sig .tc := ⟨.hbm, 34, rfl⟩
abbrev main_cst_0 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_v11 : Ref sig .tc := ⟨.hbm, 43, rfl⟩
abbrev main_cst_3 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst_4 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_5 : Ref sig .tc := ⟨.hbm, 64, rfl⟩
abbrev main_v30 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_v33 : Ref sig .tc := ⟨.hbm, 69, rfl⟩
abbrev main_cst_7 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_8 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_9 : Ref sig .tc := ⟨.hbm, 78, rfl⟩
abbrev main_v40 : Ref sig .tc := ⟨.hbm, 79, rfl⟩
abbrev main_v41 : Ref sig .tc := ⟨.hbm, 80, rfl⟩
abbrev main_cst_10 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_11 : Ref sig .tc := ⟨.hbm, 85, rfl⟩
abbrev main_v45 : Ref sig .tc := ⟨.hbm, 86, rfl⟩
abbrev main_v46 : Ref sig .tc := ⟨.hbm, 87, rfl⟩
abbrev main_cst_12 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_13 : Ref sig .tc := ⟨.hbm, 98, rfl⟩
abbrev main_v56 : Ref sig .tc := ⟨.hbm, 99, rfl⟩
abbrev main_v57 : Ref sig .tc := ⟨.hbm, 100, rfl⟩
abbrev main_cst_14 : Ref sig .tc := ⟨.hbm, 101, rfl⟩
abbrev main_v58 : Ref sig .tc := ⟨.hbm, 102, rfl⟩
abbrev main_v59 : Ref sig .tc := ⟨.hbm, 103, rfl⟩
abbrev main_cst_15 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_call1_v0 : Ref sig .tc := ⟨.hbm, 109, rfl⟩
abbrev main_call1_v1 : Ref sig .tc := ⟨.hbm, 110, rfl⟩
abbrev main_call1_cst : Ref sig .tc := ⟨.hbm, 111, rfl⟩
abbrev main_call1_v2 : Ref sig .tc := ⟨.hbm, 112, rfl⟩
abbrev main_call1_v3 : Ref sig .tc := ⟨.hbm, 113, rfl⟩
abbrev main_call1_cst_0 : Ref sig .tc := ⟨.hbm, 114, rfl⟩
abbrev main_call1_v4 : Ref sig .tc := ⟨.hbm, 115, rfl⟩
abbrev main_v64_2 : Ref sig .tc := ⟨.hbm, 116, rfl⟩
abbrev main_call1_cst_1 : Ref sig .tc := ⟨.hbm, 117, rfl⟩
abbrev main_call1_v6 : Ref sig .tc := ⟨.hbm, 118, rfl⟩
abbrev main_call1_v7 : Ref sig .tc := ⟨.hbm, 119, rfl⟩
abbrev main_v64_1 : Ref sig .tc := ⟨.hbm, 120, rfl⟩
abbrev main_v64_0 : Ref sig .tc := ⟨.hbm, 121, rfl⟩
abbrev main_v65 : Ref sig .tc := ⟨.hbm, 122, rfl⟩
abbrev main_v66 : Ref sig .tc := ⟨.hbm, 123, rfl⟩
abbrev main_cst_16 : Ref sig .tc := ⟨.hbm, 124, rfl⟩
abbrev main_v67 : Ref sig .tc := ⟨.hbm, 125, rfl⟩
abbrev main_v68 : Ref sig .tc := ⟨.hbm, 126, rfl⟩
abbrev main_cst_17 : Ref sig .tc := ⟨.hbm, 127, rfl⟩
abbrev main_v69 : Ref sig .tc := ⟨.hbm, 128, rfl⟩
abbrev main_v70 : Ref sig .tc := ⟨.hbm, 129, rfl⟩
abbrev main_cst_18 : Ref sig .tc := ⟨.hbm, 130, rfl⟩
abbrev main_v71 : Ref sig .tc := ⟨.hbm, 131, rfl⟩
abbrev main_v72 : Ref sig .tc := ⟨.hbm, 132, rfl⟩
abbrev main_cst_19 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_20 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_21 : Ref sig .tc := ⟨.hbm, 149, rfl⟩
abbrev main_v87 : Ref sig .tc := ⟨.hbm, 150, rfl⟩
abbrev main_v88 : Ref sig .tc := ⟨.hbm, 151, rfl⟩
abbrev main_cst_22 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_cst_23 : Ref sig .tc := ⟨.hbm, 158, rfl⟩
abbrev main_v94 : Ref sig .tc := ⟨.hbm, 159, rfl⟩
abbrev main_v95 : Ref sig .tc := ⟨.hbm, 160, rfl⟩
abbrev main_cst_24 : Ref sig .tc := ⟨.hbm, 161, rfl⟩
abbrev main_v96 : Ref sig .tc := ⟨.hbm, 162, rfl⟩
abbrev main_v97 : Ref sig .tc := ⟨.hbm, 163, rfl⟩
abbrev main_cst_25 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_cst_26 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_cst_27 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_cst_28 : Ref sig .tc := ⟨.hbm, 187, rfl⟩
abbrev main_v118 : Ref sig .tc := ⟨.hbm, 188, rfl⟩
abbrev main_v119 : Ref sig .tc := ⟨.hbm, 189, rfl⟩
abbrev main_cst_29 : Ref sig .tc := ⟨.hbm, 190, rfl⟩
abbrev main_v120 : Ref sig .tc := ⟨.hbm, 191, rfl⟩
abbrev main_cst_30 : Ref sig .tc := ⟨.hbm, 192, rfl⟩
abbrev main_v121 : Ref sig .tc := ⟨.hbm, 193, rfl⟩
abbrev main_v122 : Ref sig .tc := ⟨.hbm, 194, rfl⟩
abbrev main_cst_31 : Ref sig .tc := ⟨.hbm, 195, rfl⟩
abbrev main_v123 : Ref sig .tc := ⟨.hbm, 196, rfl⟩
abbrev main_cst_32 : Ref sig .tc := ⟨.hbm, 197, rfl⟩
abbrev main_v124 : Ref sig .tc := ⟨.hbm, 198, rfl⟩
abbrev main_cst_33 : Ref sig .tc := ⟨.hbm, 199, rfl⟩
abbrev main_cst_34 : Ref sig .tc := ⟨.hbm, 200, rfl⟩
abbrev main_v125 : Ref sig .tc := ⟨.hbm, 201, rfl⟩
abbrev main_v126 : Ref sig .tc := ⟨.hbm, 202, rfl⟩
abbrev main_cst_35 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_36 : Ref sig .tc := ⟨.hbm, 208, rfl⟩
abbrev main_v131 : Ref sig .tc := ⟨.hbm, 209, rfl⟩
abbrev main_v132 : Ref sig .tc := ⟨.hbm, 210, rfl⟩
abbrev main_cst_37 : Ref sig .tc := ⟨.hbm, 211, rfl⟩
abbrev main_v133 : Ref sig .tc := ⟨.hbm, 212, rfl⟩
abbrev main_v134 : Ref sig .tc := ⟨.hbm, 213, rfl⟩
abbrev main_cst_38 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_39 : Ref sig .tc := ⟨.hbm, 219, rfl⟩
abbrev main_v139 : Ref sig .tc := ⟨.hbm, 220, rfl⟩
abbrev main_v140 : Ref sig .tc := ⟨.hbm, 221, rfl⟩
abbrev main_cst_40 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_cst_41 : Ref sig .tc := ⟨.hbm, 229, rfl⟩
abbrev main_v147 : Ref sig .tc := ⟨.hbm, 230, rfl⟩
abbrev main_v148 : Ref sig .tc := ⟨.hbm, 231, rfl⟩
abbrev main_cst_42 : Ref sig .tc := ⟨.hbm, 232, rfl⟩
abbrev main_v149 : Ref sig .tc := ⟨.hbm, 233, rfl⟩
abbrev main_v150 : Ref sig .tc := ⟨.hbm, 234, rfl⟩
abbrev main_cst_43 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_cst_44 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_cst_45 : Ref sig .tc := ⟨.hbm, 245, rfl⟩
abbrev main_v159 : Ref sig .tc := ⟨.hbm, 246, rfl⟩
abbrev main_v160 : Ref sig .tc := ⟨.hbm, 247, rfl⟩
abbrev main_cst_46 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_cst_47 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_cst_48 : Ref sig .tc := ⟨.hbm, 263, rfl⟩
abbrev main_v174 : Ref sig .tc := ⟨.hbm, 264, rfl⟩
abbrev main_v175 : Ref sig .tc := ⟨.hbm, 265, rfl⟩
abbrev main_cst_49 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_cst_50 : Ref sig .tc := ⟨.hbm, 272, rfl⟩
abbrev main_v181 : Ref sig .tc := ⟨.hbm, 273, rfl⟩
abbrev main_v182 : Ref sig .tc := ⟨.hbm, 274, rfl⟩
abbrev main_cst_51 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_call2_v0 : Ref sig .tc := ⟨.hbm, 282, rfl⟩
abbrev main_call2_v1 : Ref sig .tc := ⟨.hbm, 283, rfl⟩
abbrev main_call2_v2 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_v192 : Ref sig .tc := ⟨.hbm, 288, rfl⟩
abbrev main_cst_52 : Ref sig .tc := ⟨.hbm, 289, rfl⟩
abbrev main_v193 : Ref sig .tc := ⟨.hbm, 290, rfl⟩
abbrev main_v194 : Ref sig .tc := ⟨.hbm, 291, rfl⟩
abbrev main_cst_53 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_cst_54 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_cst_55 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_cst_56 : Ref sig .tc := ⟨.hbm, 308, rfl⟩
abbrev main_v208 : Ref sig .tc := ⟨.hbm, 309, rfl⟩
abbrev main_v209 : Ref sig .tc := ⟨.hbm, 310, rfl⟩
abbrev main_cst_57 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_cst_58 : Ref sig .tc := ⟨.hbm, 317, rfl⟩
abbrev main_v215 : Ref sig .tc := ⟨.hbm, 318, rfl⟩
abbrev main_v216 : Ref sig .tc := ⟨.hbm, 319, rfl⟩
abbrev main_cst_59 : Ref sig .tc := ⟨.hbm, 320, rfl⟩
abbrev main_v217 : Ref sig .tc := ⟨.hbm, 321, rfl⟩
abbrev main_v218 : Ref sig .tc := ⟨.hbm, 322, rfl⟩
abbrev main_cst_60 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_cst_61 : Ref sig .tc := ⟨.hbm, 328, rfl⟩
abbrev main_v223 : Ref sig .tc := ⟨.hbm, 329, rfl⟩
abbrev main_v224 : Ref sig .tc := ⟨.hbm, 330, rfl⟩
abbrev main_cst_62 : Ref sig .tc := ⟨.hbm, 331, rfl⟩
abbrev main_v225 : Ref sig .tc := ⟨.hbm, 332, rfl⟩
abbrev main_v226 : Ref sig .tc := ⟨.hbm, 333, rfl⟩
abbrev main_v227 : Ref sig .tc := ⟨.hbm, 334, rfl⟩
abbrev main_v228 : Ref sig .tc := ⟨.hbm, 335, rfl⟩
abbrev main_v229 : Ref sig .tc := ⟨.hbm, 336, rfl⟩
abbrev main_cst_63 : Ref sig .tc := ⟨.hbm, 337, rfl⟩
abbrev main_v230 : Ref sig .tc := ⟨.hbm, 338, rfl⟩
abbrev main_v231 : Ref sig .tc := ⟨.hbm, 339, rfl⟩
abbrev main_cst_64 : Ref sig .tc := ⟨.hbm, 340, rfl⟩
abbrev main_v232 : Ref sig .tc := ⟨.hbm, 341, rfl⟩
abbrev main_v233 : Ref sig .tc := ⟨.hbm, 342, rfl⟩
abbrev main_v234 : Ref sig .tc := ⟨.hbm, 343, rfl⟩
abbrev main_v235 : Ref sig .tc := ⟨.hbm, 344, rfl⟩
abbrev main_v236 : Ref sig .tc := ⟨.hbm, 345, rfl⟩
abbrev main_v237 : Ref sig .tc := ⟨.hbm, 346, rfl⟩
abbrev main_call3_v0 : Ref sig .tc := ⟨.hbm, 347, rfl⟩
abbrev main_call3_v1 : Ref sig .tc := ⟨.hbm, 348, rfl⟩
abbrev main_call3_v2 : Ref sig .tc := ⟨.hbm, 349, rfl⟩
abbrev main_v238 : Ref sig .tc := ⟨.hbm, 350, rfl⟩

abbrev nD : Nat := 1
abbrev τ : Topo := Topo.v7x

variable {F : FTy → Type} [FloatOps F]
-- ==== Kernel2.lean ====
abbrev S4096x1024 : Shape := ⟨2, ![4096, 1024]⟩
abbrev S1024x2304 : Shape := ⟨2, ![1024, 2304]⟩
abbrev S512 : Shape := ⟨1, ![512]⟩
abbrev S4096x512 : Shape := ⟨2, ![4096, 512]⟩
abbrev S4096x128 : Shape := ⟨2, ![4096, 128]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S64 : Shape := ⟨1, ![64]⟩
abbrev S1x64 : Shape := ⟨2, ![1, 64]⟩
abbrev S2x64 : Shape := ⟨2, ![2, 64]⟩
abbrev S32x1 : Shape := ⟨2, ![32, 1]⟩
abbrev S1x128 : Shape := ⟨2, ![1, 128]⟩
abbrev S32x128 : Shape := ⟨2, ![32, 128]⟩
abbrev S1x32x128 : Shape := ⟨3, ![1, 32, 128]⟩
abbrev S3x32x128 : Shape := ⟨3, ![3, 32, 128]⟩
abbrev S128x1 : Shape := ⟨2, ![128, 1]⟩
abbrev S128x128 : Shape := ⟨2, ![128, 128]⟩
abbrev S1x128x128 : Shape := ⟨3, ![1, 128, 128]⟩
abbrev S3x128x128 : Shape := ⟨3, ![3, 128, 128]⟩
abbrev S4096x2x4x64 : Shape := ⟨4, ![4096, 2, 4, 64]⟩
abbrev S4096x4x2x64 : Shape := ⟨4, ![4096, 4, 2, 64]⟩
abbrev S4096x4x128 : Shape := ⟨3, ![4096, 4, 128]⟩
abbrev S4x4096x128 : Shape := ⟨3, ![4, 4096, 128]⟩
abbrev S1x512 : Shape := ⟨2, ![1, 512]⟩
abbrev S2304x1024 : Shape := ⟨2, ![2304, 1024]⟩
abbrev S512x512 : Shape := ⟨2, ![512, 512]⟩
abbrev S512x128 : Shape := ⟨2, ![512, 128]⟩
abbrev S4x512x128 : Shape := ⟨3, ![4, 512, 128]⟩
abbrev S512x1024 : Shape := ⟨2, ![512, 1024]⟩
abbrev S1x1x128 : Shape := ⟨3, ![1, 1, 128]⟩
abbrev S1x512x128 : Shape := ⟨3, ![1, 512, 128]⟩
abbrev S512x2304 : Shape := ⟨2, ![512, 2304]⟩

abbrev nBuf : Space → Nat
  | .hbm => 85
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S512, .f32⟩
  | .hbm, ⟨3, _⟩ => ⟨S4096x512, .f32⟩
  | .hbm, ⟨4, _⟩ => ⟨S4096x128, .f32⟩
  | .hbm, ⟨5, _⟩ => ⟨S4096x128, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x1024, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .f32⟩
  | .hbm, ⟨37, _⟩ => ⟨S32x1, .f32⟩
  | .hbm, ⟨38, _⟩ => ⟨S1x128, .f32⟩
  | .hbm, ⟨39, _⟩ => ⟨S32x128, .f32⟩
  | .hbm, ⟨40, _⟩ => ⟨S32x128, .f32⟩
  | .hbm, ⟨41, _⟩ => ⟨S32x128, .f32⟩
  | .hbm, ⟨42, _⟩ => ⟨S32x128, .f32⟩
  | .hbm, ⟨43, _⟩ => ⟨S32x128, .f32⟩
  | .hbm, ⟨44, _⟩ => ⟨S32x128, .f32⟩
  | .hbm, ⟨45, _⟩ => ⟨S1x128, .f32⟩
  | .hbm, ⟨46, _⟩ => ⟨S32x128, .f32⟩
  | .hbm, ⟨47, _⟩ => ⟨S32x128, .f32⟩
  | .hbm, ⟨48, _⟩ => ⟨S1x32x128, .f32⟩
  | .hbm, ⟨49, _⟩ => ⟨S1x32x128, .f32⟩
  | .hbm, ⟨50, _⟩ => ⟨S1x32x128, .f32⟩
  | .hbm, ⟨51, _⟩ => ⟨S3x32x128, .f32⟩
  | .hbm, ⟨52, _⟩ => ⟨S128, .i32⟩
  | .hbm, ⟨53, _⟩ => ⟨S128, .f32⟩
  | .hbm, ⟨54, _⟩ => ⟨S128x1, .f32⟩
  | .hbm, ⟨55, _⟩ => ⟨S1x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S128x128, .f32⟩
  | .hbm, ⟨64, _⟩ => ⟨S128x128, .f32⟩
  | .hbm, ⟨65, _⟩ => ⟨S1x128x128, .f32⟩
  | .hbm, ⟨66, _⟩ => ⟨S1x128x128, .f32⟩
  | .hbm, ⟨67, _⟩ => ⟨S1x128x128, .f32⟩
  | .hbm, ⟨68, _⟩ => ⟨S3x128x128, .f32⟩
  | .hbm, ⟨69, _⟩ => ⟨S4096x2x4x64, .f32⟩
  | .hbm, ⟨70, _⟩ => ⟨S4096x4x2x64, .f32⟩
  | .hbm, ⟨71, _⟩ => ⟨S4096x512, .f32⟩
  | .hbm, ⟨72, _⟩ => ⟨S4096x2x4x64, .f32⟩
  | .hbm, ⟨73, _⟩ => ⟨S4096x4x2x64, .f32⟩
  | .hbm, ⟨74, _⟩ => ⟨S4096x512, .f32⟩
  | .hbm, ⟨75, _⟩ => ⟨S4096x4x128, .f32⟩
  | .hbm, ⟨76, _⟩ => ⟨S4x4096x128, .f32⟩
  | .hbm, ⟨77, _⟩ => ⟨S4096x4x128, .f32⟩
  | .hbm, ⟨78, _⟩ => ⟨S4x4096x128, .f32⟩
  | .hbm, ⟨79, _⟩ => ⟨S4096x4x128, .f32⟩
  | .hbm, ⟨80, _⟩ => ⟨S4x4096x128, .f32⟩
  | .hbm, ⟨81, _⟩ => ⟨S1x512, .f32⟩
  | .hbm, ⟨82, _⟩ => ⟨S2304x1024, .f32⟩
  | .hbm, ⟨83, _⟩ => ⟨S2304x1024, .bf16⟩
  | .hbm, ⟨84, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | .local _ .vmem, ⟨11, _⟩ => ⟨S4x512x128, .f32⟩
  | .local _ .vmem, ⟨12, _⟩ => ⟨S4x512x128, .f32⟩
  | .local _ .vmem, ⟨13, _⟩ => ⟨S4x512x128, .f32⟩
  | .local _ .vmem, ⟨14, _⟩ => ⟨S512x512, .f32⟩
  | .local _ .vmem, ⟨15, _⟩ => ⟨S512x512, .f32⟩
  | .local _ .vmem, ⟨16, _⟩ => ⟨S1x512, .f32⟩
  | .local _ .vmem, ⟨17, _⟩ => ⟨S3x32x128, .f32⟩
  | .local _ .vmem, ⟨18, _⟩ => ⟨S3x128x128, .f32⟩
  | .local _ .vmem, ⟨19, _⟩ => ⟨S512x1024, .f32⟩
  | .local _ .vmem, ⟨20, _⟩ => ⟨S512x1024, .f32⟩
  | .local _ .vmem, ⟨21, _⟩ => ⟨S2304x1024, .bf16⟩
  | .local _ .vmem, ⟨22, _⟩ => ⟨S512x1024, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 3 → Nat :=
  let c0_6 : Index := 0#32
  let arg0 : BitVec 32 := BitVec.ofNat 32 (i 0).val
  let c4_i32 : BitVec 32 := 4#32
  let v0 : BitVec 32 := Scalar.muli arg0 c4_i32
  let v7 : BitVec 32 := Scalar.addi v0 c0_i32
  let v8 : Index := Scalar.indexCast v7
  let c0_7 : Index := 0#32
  ![0, v8.toNat, 0]
def k0_off2 (i : grid0.Coords) (c0_i32_8 : BitVec 32) : Fin 3 → Nat :=
  let c1_9 : Index := 1#32
  let arg0 : BitVec 32 := BitVec.ofNat 32 (i 0).val
  let c4_i32 : BitVec 32 := 4#32
  let v0 : BitVec 32 := Scalar.muli arg0 c4_i32
  let v11 : BitVec 32 := Scalar.addi v0 c0_i32_8
  let v12 : Index := Scalar.indexCast v11
  let c0_10 : Index := 0#32
  ![1, v12.toNat, 0]
def k0_off3 (i : grid0.Coords) (c0_i32_11 : BitVec 32) : Fin 3 → Nat :=
  let c2_12 : Index := 2#32
  let arg0 : BitVec 32 := BitVec.ofNat 32 (i 0).val
  let c4_i32 : BitVec 32 := 4#32
  let v0 : BitVec 32 := Scalar.muli arg0 c4_i32
  let v15 : BitVec 32 := Scalar.addi v0 c0_i32_11
  let v16 : Index := Scalar.indexCast v15
  let c0_13 : Index := 0#32
  ![2, v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2304x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S4096x1024 : Shape := ⟨2, ![4096, 1024]⟩
abbrev S1024x2304 : Shape := ⟨2, ![1024, 2304]⟩
abbrev S512 : Shape := ⟨1, ![512]⟩
abbrev S4096x512 : Shape := ⟨2, ![4096, 512]⟩
abbrev S4096x128 : Shape := ⟨2, ![4096, 128]⟩
abbrev S4096 : Shape := ⟨1, ![4096]⟩
abbrev S4096x2304 : Shape := ⟨2, ![4096, 2304]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x2x64 : Shape := ⟨3, ![4096, 2, 64]⟩
abbrev S4096x2x32 : Shape := ⟨3, ![4096, 2, 32]⟩
abbrev S1x512 : Shape := ⟨2, ![1, 512]⟩

abbrev nBuf : Space → Nat
  | .hbm => 142
  | .vmem => 0
  | .smem => 0
  | _ => 0

abbrev hbmTy0_0 (i : Nat) : BufTy := match i % 128 with
  | 0 => ⟨S4096x1024, .f32⟩
  | 1 => ⟨S1024x2304, .f32⟩
  | 2 => ⟨S512, .f32⟩
  | 3 => ⟨S4096x512, .f32⟩
  | 4 => ⟨S4096x128, .f32⟩
  | 5 => ⟨S4096x128, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S4096x1024, .f32⟩
  | 12 => ⟨S4096, .i32⟩
  | 13 => ⟨S4096x2304, .f32⟩
  | 14 => ⟨S4096x512, .f32⟩
  | 15 => ⟨S4096x128, .f32⟩
  | 16 => ⟨S4096x128, .f32⟩
  | 17 => ⟨S4096x512, .f32⟩
  | 18 => ⟨S4096x512, .f32⟩
  | 19 => ⟨S4096x512, .f32⟩
  | 20 => ⟨S4096x8x64, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S4096, .f32⟩
  | 30 => ⟨S4096x1, .f32⟩
  | 31 => ⟨S1x32, .f32⟩
  | 32 => ⟨S4096x32, .f32⟩
  | 33 => ⟨S4096x32, .f32⟩
  | 34 => ⟨S4096x32, .f32⟩
  | 35 => ⟨S4096x32, .f32⟩
  | 36 => ⟨S4096x1x32, .f32⟩
  | 37 => ⟨S4096x32, .f32⟩
  | 38 => ⟨S4096x1x32, .f32⟩
  | 39 => ⟨S4096x8x32, .f32⟩
  | 40 => ⟨S4096x8x32, .f32⟩
  | 41 => ⟨S4096x8x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x32, .f32⟩
  | 47 => ⟨S4096x8x32, .f32⟩
  | 48 => ⟨S4096x8x32, .f32⟩
  | 49 => ⟨S4096x8x32, .f32⟩
  | 50 => ⟨S4096x8x32, .f32⟩
  | 51 => ⟨S4096x8x64, .f32⟩
  | 52 => ⟨S4096x512, .f32⟩
  | 53 => ⟨S4096x2x64, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S4096, .f32⟩
  | 63 => ⟨S4096x1, .f32⟩
  | 64 => ⟨S1x32, .f32⟩
  | 65 => ⟨S4096x32, .f32⟩
  | 66 => ⟨S4096x32, .f32⟩
  | 67 => ⟨S4096x32, .f32⟩
  | 68 => ⟨S4096x32, .f32⟩
  | 69 => ⟨S4096x1x32, .f32⟩
  | 70 => ⟨S4096x32, .f32⟩
  | 71 => ⟨S4096x1x32, .f32⟩
  | 72 => ⟨S4096x2x32, .f32⟩
  | 73 => ⟨S4096x2x32, .f32⟩
  | 74 => ⟨S4096x2x32, .f32⟩
  | 75 => ⟨S4096x2x32, .f32⟩
  | 76 => ⟨S4096x2x32, .f32⟩
  | 77 => ⟨S4096x2x32, .f32⟩
  | 78 => ⟨S4096x2x32, .f32⟩
  | 79 => ⟨S4096x2x32, .f32⟩
  | 80 => ⟨S4096x2x32, .f32⟩
  | 81 => ⟨S4096x2x32, .f32⟩
  | 82 => ⟨S4096x2x32, .f32⟩
  | 83 => ⟨S4096x2x32, .f32⟩
  | 84 => ⟨S4096x2x64, .f32⟩
  | 85 => ⟨S4096x128, .f32⟩
  | 86 => ⟨S1x512, .f32⟩
  | 87 => ⟨S4096x512, .f32⟩
  | 88 => ⟨S4096x512, .f32⟩
  | 89 => ⟨S_, .f32⟩
  | 90 => ⟨S4096x1024, .f32⟩
  | 91 => ⟨S4096x1024, .f32⟩
  | 92 => ⟨S4096x512, .f32⟩
  | 93 => ⟨S_, .f32⟩
  | 94 => ⟨S4096x1024, .f32⟩
  | 95 => ⟨S4096x1024, .f32⟩
  | 96 => ⟨S4096x512, .f32⟩
  | 97 => ⟨S4096x512, .f32⟩
  | 98 => ⟨S4096x512, .f32⟩
  | 99 => ⟨S4096x2x64, .f32⟩
  | 100 => ⟨S4096x2x32, .f32⟩
  | 101 => ⟨S4096x2x32, .f32⟩
  | 102 => ⟨S4096x2x32, .f32⟩
  | 103 => ⟨S4096x2x32, .f32⟩
  | 104 => ⟨S4096x2x32, .f32⟩
  | 105 => ⟨S4096x2x32, .f32⟩
  | 106 => ⟨S4096x2x32, .f32⟩
  | 107 => ⟨S4096x2x32, .f32⟩
  | 108 => ⟨S4096x2x32, .f32⟩
  | 109 => ⟨S4096x2x32, .f32⟩
  | 110 => ⟨S4096x2x32, .f32⟩
  | 111 => ⟨S4096x2x32, .f32⟩
  | 112 => ⟨S4096x2x32, .f32⟩
  | 113 => ⟨S_, .f32⟩
  | 114 => ⟨S4096x2x64, .f32⟩
  | 115 => ⟨S_, .f32⟩
  | 116 => ⟨S4096x2x64, .f32⟩
  | 117 => ⟨S4096x2x64, .f32⟩
  | 118 => ⟨S4096x128, .f32⟩
  | 119 => ⟨S4096x8x64, .f32⟩
  | 120 => ⟨S4096x8x32, .f32⟩
  | 121 => ⟨S4096x8x32, .f32⟩
  | 122 => ⟨S4096x8x32, .f32⟩
  | 123 => ⟨S4096x8x32, .f32⟩
  | 124 => ⟨S4096x8x32, .f32⟩
  | 125 => ⟨S4096x8x32, .f32⟩
  | 126 => ⟨S4096x8x32, .f32⟩
  | 127 => ⟨S4096x8x32, .f32⟩
  | _ => ⟨S4096x1024, .f32⟩

abbrev hbmTy0_1 (i : Nat) : BufTy := match i % 128 with
  | 0 => ⟨S4096x8x32, .f32⟩
  | 1 => ⟨S4096x8x32, .f32⟩
  | 2 => ⟨S4096x8x32, .f32⟩
  | 3 => ⟨S4096x8x32, .f32⟩
  | 4 => ⟨S4096x8x32, .f32⟩
  | 5 => ⟨S_, .f32⟩
  | 6 => ⟨S4096x8x64, .f32⟩
  | 7 => ⟨S_, .f32⟩
  | 8 => ⟨S4096x8x64, .f32⟩
  | 9 => ⟨S4096x8x64, .f32⟩
  | 10 => ⟨S4096x512, .f32⟩
  | 11 => ⟨S4096x2304, .f32⟩
  | 12 => ⟨S4096x1024, .f32⟩
  | 13 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_1 : Ref sig .tc := ⟨.hbm, 56, rfl⟩
abbrev main_v42 : Ref sig .tc := ⟨.hbm, 57, rfl⟩
abbrev main_v43 : Ref sig .tc := ⟨.hbm, 58, rfl⟩
abbrev main_cst_2 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_3 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_4 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_5 : Ref sig .tc := ⟨.hbm, 113, rfl⟩
abbrev main_v95 : Ref sig .tc := ⟨.hbm, 114, rfl⟩
abbrev main_cst_6 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_7 : Ref sig .tc := ⟨.hbm, 133, rfl⟩
abbrev main_v113 : Ref sig .tc := ⟨.hbm, 134, rfl⟩
abbrev main_cst_8 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩

abbrev nD : Nat := 1
abbrev τ : Topo := Topo.v7x

variable {F : FTy → Type} [FloatOps F]
-- ==== Kernel3.lean ====
abbrev S4096x1024 : Shape := ⟨2, ![4096, 1024]⟩
abbrev S1024x2304 : Shape := ⟨2, ![1024, 2304]⟩
abbrev S512 : Shape := ⟨1, ![512]⟩
abbrev S4096x512 : Shape := ⟨2, ![4096, 512]⟩
abbrev S4096x128 : Shape := ⟨2, ![4096, 128]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S64 : Shape := ⟨1, ![64]⟩
abbrev S1x64 : Shape := ⟨2, ![1, 64]⟩
abbrev S2x64 : Shape := ⟨2, ![2, 64]⟩
abbrev S32x1 : Shape := ⟨2, ![32, 1]⟩
abbrev S1x128 : Shape := ⟨2, ![1, 128]⟩
abbrev S32x128 : Shape := ⟨2, ![32, 128]⟩
abbrev S1x32x128 : Shape := ⟨3, ![1, 32, 128]⟩
abbrev S3x32x128 : Shape := ⟨3, ![3, 32, 128]⟩
abbrev S128x1 : Shape := ⟨2, ![128, 1]⟩
abbrev S128x128 : Shape := ⟨2, ![128, 128]⟩
abbrev S1x128x128 : Shape := ⟨3, ![1, 128, 128]⟩
abbrev S3x128x128 : Shape := ⟨3, ![3, 128, 128]⟩
abbrev S4096x2x4x64 : Shape := ⟨4, ![4096, 2, 4, 64]⟩
abbrev S4096x4x2x64 : Shape := ⟨4, ![4096, 4, 2, 64]⟩
abbrev S4096x4x128 : Shape := ⟨3, ![4096, 4, 128]⟩
abbrev S4x4096x128 : Shape := ⟨3, ![4, 4096, 128]⟩
abbrev S1x512 : Shape := ⟨2, ![1, 512]⟩
abbrev S2304x1024 : Shape := ⟨2, ![2304, 1024]⟩
abbrev S512x1024 : Shape := ⟨2, ![512, 1024]⟩
abbrev S512x512 : Shape := ⟨2, ![512, 512]⟩
abbrev S512x128 : Shape := ⟨2, ![512, 128]⟩
abbrev S4x512x128 : Shape := ⟨3, ![4, 512, 128]⟩
abbrev S1x1x128 : Shape := ⟨3, ![1, 1, 128]⟩
abbrev S1x512x128 : Shape := ⟨3, ![1, 512, 128]⟩
abbrev S512x2304 : Shape := ⟨2, ![512, 2304]⟩
abbrev S768x1024 : Shape := ⟨2, ![768, 1024]⟩
abbrev S512x768 : Shape := ⟨2, ![512, 768]⟩

abbrev nBuf : Space → Nat
  | .hbm => 84
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S512, .f32⟩
  | .hbm, ⟨3, _⟩ => ⟨S4096x512, .f32⟩
  | .hbm, ⟨4, _⟩ => ⟨S4096x128, .f32⟩
  | .hbm, ⟨5, _⟩ => ⟨S4096x128, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x1024, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .f32⟩
  | .hbm, ⟨37, _⟩ => ⟨S32x1, .f32⟩
  | .hbm, ⟨38, _⟩ => ⟨S1x128, .f32⟩
  | .hbm, ⟨39, _⟩ => ⟨S32x128, .f32⟩
  | .hbm, ⟨40, _⟩ => ⟨S32x128, .f32⟩
  | .hbm, ⟨41, _⟩ => ⟨S32x128, .f32⟩
  | .hbm, ⟨42, _⟩ => ⟨S32x128, .f32⟩
  | .hbm, ⟨43, _⟩ => ⟨S32x128, .f32⟩
  | .hbm, ⟨44, _⟩ => ⟨S32x128, .f32⟩
  | .hbm, ⟨45, _⟩ => ⟨S1x128, .f32⟩
  | .hbm, ⟨46, _⟩ => ⟨S32x128, .f32⟩
  | .hbm, ⟨47, _⟩ => ⟨S32x128, .f32⟩
  | .hbm, ⟨48, _⟩ => ⟨S1x32x128, .f32⟩
  | .hbm, ⟨49, _⟩ => ⟨S1x32x128, .f32⟩
  | .hbm, ⟨50, _⟩ => ⟨S1x32x128, .f32⟩
  | .hbm, ⟨51, _⟩ => ⟨S3x32x128, .f32⟩
  | .hbm, ⟨52, _⟩ => ⟨S128, .i32⟩
  | .hbm, ⟨53, _⟩ => ⟨S128, .f32⟩
  | .hbm, ⟨54, _⟩ => ⟨S128x1, .f32⟩
  | .hbm, ⟨55, _⟩ => ⟨S1x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S128x128, .f32⟩
  | .hbm, ⟨64, _⟩ => ⟨S128x128, .f32⟩
  | .hbm, ⟨65, _⟩ => ⟨S1x128x128, .f32⟩
  | .hbm, ⟨66, _⟩ => ⟨S1x128x128, .f32⟩
  | .hbm, ⟨67, _⟩ => ⟨S1x128x128, .f32⟩
  | .hbm, ⟨68, _⟩ => ⟨S3x128x128, .f32⟩
  | .hbm, ⟨69, _⟩ => ⟨S4096x2x4x64, .f32⟩
  | .hbm, ⟨70, _⟩ => ⟨S4096x4x2x64, .f32⟩
  | .hbm, ⟨71, _⟩ => ⟨S4096x512, .f32⟩
  | .hbm, ⟨72, _⟩ => ⟨S4096x2x4x64, .f32⟩
  | .hbm, ⟨73, _⟩ => ⟨S4096x4x2x64, .f32⟩
  | .hbm, ⟨74, _⟩ => ⟨S4096x512, .f32⟩
  | .hbm, ⟨75, _⟩ => ⟨S4096x4x128, .f32⟩
  | .hbm, ⟨76, _⟩ => ⟨S4x4096x128, .f32⟩
  | .hbm, ⟨77, _⟩ => ⟨S4096x4x128, .f32⟩
  | .hbm, ⟨78, _⟩ => ⟨S4x4096x128, .f32⟩
  | .hbm, ⟨79, _⟩ => ⟨S4096x4x128, .f32⟩
  | .hbm, ⟨80, _⟩ => ⟨S4x4096x128, .f32⟩
  | .hbm, ⟨81, _⟩ => ⟨S1x512, .f32⟩
  | .hbm, ⟨82, _⟩ => ⟨S2304x1024, .f32⟩
  | .hbm, ⟨83, _⟩ => ⟨S1024x2304, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S4x512x128, .f32⟩
  | .local _ .vmem, ⟨11, _⟩ => ⟨S4x512x128, .f32⟩
  | .local _ .vmem, ⟨12, _⟩ => ⟨S4x512x128, .f32⟩
  | .local _ .vmem, ⟨13, _⟩ => ⟨S4x512x128, .f32⟩
  | .local _ .vmem, ⟨14, _⟩ => ⟨S4x512x128, .f32⟩
  | .local _ .vmem, ⟨15, _⟩ => ⟨S4x512x128, .f32⟩
  | .local _ .vmem, ⟨16, _⟩ => ⟨S512x512, .f32⟩
  | .local _ .vmem, ⟨17, _⟩ => ⟨S512x512, .f32⟩
  | .local _ .vmem, ⟨18, _⟩ => ⟨S1x512, .f32⟩
  | .local _ .vmem, ⟨19, _⟩ => ⟨S3x32x128, .f32⟩
  | .local _ .vmem, ⟨20, _⟩ => ⟨S3x128x128, .f32⟩
  | .local _ .vmem, ⟨21, _⟩ => ⟨S2304x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def k0_off1 (i : grid0.Coords) (c0_i32_7 : BitVec 32) : Fin 3 → Nat :=
  let c0_8 : Index := 0#32
  let arg0 : BitVec 32 := BitVec.ofNat 32 (i 0).val
  let c4_i32 : BitVec 32 := 4#32
  let v3 : BitVec 32 := Scalar.muli arg0 c4_i32
  let v10 : BitVec 32 := Scalar.addi v3 c0_i32_7
  let v11 : Index := Scalar.indexCast v10
  let c0_9 : Index := 0#32
  ![0, v11.toNat, 0]
def k0_off2 (i : grid0.Coords) (c0_i32_10 : BitVec 32) : Fin 3 → Nat :=
  let c1_11 : Index := 1#32
  let arg0 : BitVec 32 := BitVec.ofNat 32 (i 0).val
  let c4_i32 : BitVec 32 := 4#32
  let v3 : BitVec 32 := Scalar.muli arg0 c4_i32
  let v14 : BitVec 32 := Scalar.addi v3 c0_i32_10
  let v15 : Index := Scalar.indexCast v14
  let c0_12 : Index := 0#32
  ![1, v15.toNat, 0]
def k0_off3 (i : grid0.Coords) (c0_i32_13 : BitVec 32) : Fin 3 → Nat :=
  let c2_14 : Index := 2#32
  let arg0 : BitVec 32 := BitVec.ofNat 32 (i 0).val
  let c4_i32 : BitVec 32 := 4#32
  let v3 : BitVec 32 := Scalar.muli arg0 c4_i32
  let v18 : BitVec 32 := Scalar.addi v3 c0_i32_13
  let v19 : Index := Scalar.indexCast v18
  let c0_15 : Index := 0#32
  ![2, v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2304x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S4096x1024 : Shape := ⟨2, ![4096, 1024]⟩
abbrev S1024x2304 : Shape := ⟨2, ![1024, 2304]⟩
abbrev S512 : Shape := ⟨1, ![512]⟩
abbrev S4096x512 : Shape := ⟨2, ![4096, 512]⟩
abbrev S4096x128 : Shape := ⟨2, ![4096, 128]⟩
abbrev S4096 : Shape := ⟨1, ![4096]⟩
abbrev S4096x2304 : Shape := ⟨2, ![4096, 2304]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x2x64 : Shape := ⟨3, ![4096, 2, 64]⟩
abbrev S4096x2x32 : Shape := ⟨3, ![4096, 2, 32]⟩
abbrev S1x512 : Shape := ⟨2, ![1, 512]⟩
abbrev S2304x1024 : Shape := ⟨2, ![2304, 1024]⟩

abbrev nBuf : Space → Nat
  | .hbm => 139
  | .vmem => 0
  | .smem => 0
  | _ => 0

abbrev hbmTy0_0 (i : Nat) : BufTy := match i % 128 with
  | 0 => ⟨S4096x1024, .f32⟩
  | 1 => ⟨S1024x2304, .f32⟩
  | 2 => ⟨S512, .f32⟩
  | 3 => ⟨S4096x512, .f32⟩
  | 4 => ⟨S4096x128, .f32⟩
  | 5 => ⟨S4096x128, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S4096x1024, .f32⟩
  | 12 => ⟨S4096, .i32⟩
  | 13 => ⟨S4096x2304, .f32⟩
  | 14 => ⟨S4096x512, .f32⟩
  | 15 => ⟨S4096x128, .f32⟩
  | 16 => ⟨S4096x128, .f32⟩
  | 17 => ⟨S4096x512, .f32⟩
  | 18 => ⟨S4096x512, .f32⟩
  | 19 => ⟨S4096x512, .f32⟩
  | 20 => ⟨S4096x8x64, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S4096, .f32⟩
  | 30 => ⟨S4096x1, .f32⟩
  | 31 => ⟨S1x32, .f32⟩
  | 32 => ⟨S4096x32, .f32⟩
  | 33 => ⟨S4096x32, .f32⟩
  | 34 => ⟨S4096x32, .f32⟩
  | 35 => ⟨S4096x32, .f32⟩
  | 36 => ⟨S4096x1x32, .f32⟩
  | 37 => ⟨S4096x32, .f32⟩
  | 38 => ⟨S4096x1x32, .f32⟩
  | 39 => ⟨S4096x8x32, .f32⟩
  | 40 => ⟨S4096x8x32, .f32⟩
  | 41 => ⟨S4096x8x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x32, .f32⟩
  | 47 => ⟨S4096x8x32, .f32⟩
  | 48 => ⟨S4096x8x32, .f32⟩
  | 49 => ⟨S4096x8x32, .f32⟩
  | 50 => ⟨S4096x8x32, .f32⟩
  | 51 => ⟨S4096x8x64, .f32⟩
  | 52 => ⟨S4096x512, .f32⟩
  | 53 => ⟨S4096x2x64, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S4096, .f32⟩
  | 63 => ⟨S4096x1, .f32⟩
  | 64 => ⟨S1x32, .f32⟩
  | 65 => ⟨S4096x32, .f32⟩
  | 66 => ⟨S4096x32, .f32⟩
  | 67 => ⟨S4096x32, .f32⟩
  | 68 => ⟨S4096x32, .f32⟩
  | 69 => ⟨S4096x1x32, .f32⟩
  | 70 => ⟨S4096x32, .f32⟩
  | 71 => ⟨S4096x1x32, .f32⟩
  | 72 => ⟨S4096x2x32, .f32⟩
  | 73 => ⟨S4096x2x32, .f32⟩
  | 74 => ⟨S4096x2x32, .f32⟩
  | 75 => ⟨S4096x2x32, .f32⟩
  | 76 => ⟨S4096x2x32, .f32⟩
  | 77 => ⟨S4096x2x32, .f32⟩
  | 78 => ⟨S4096x2x32, .f32⟩
  | 79 => ⟨S4096x2x32, .f32⟩
  | 80 => ⟨S4096x2x32, .f32⟩
  | 81 => ⟨S4096x2x32, .f32⟩
  | 82 => ⟨S4096x2x32, .f32⟩
  | 83 => ⟨S4096x2x32, .f32⟩
  | 84 => ⟨S4096x2x64, .f32⟩
  | 85 => ⟨S4096x128, .f32⟩
  | 86 => ⟨S1x512, .f32⟩
  | 87 => ⟨S4096x512, .f32⟩
  | 88 => ⟨S4096x512, .f32⟩
  | 89 => ⟨S_, .f32⟩
  | 90 => ⟨S4096x1024, .f32⟩
  | 91 => ⟨S4096x1024, .f32⟩
  | 92 => ⟨S4096x512, .f32⟩
  | 93 => ⟨S4096x512, .f32⟩
  | 94 => ⟨S4096x512, .f32⟩
  | 95 => ⟨S4096x512, .f32⟩
  | 96 => ⟨S4096x2x64, .f32⟩
  | 97 => ⟨S4096x2x32, .f32⟩
  | 98 => ⟨S4096x2x32, .f32⟩
  | 99 => ⟨S4096x2x32, .f32⟩
  | 100 => ⟨S4096x2x32, .f32⟩
  | 101 => ⟨S4096x2x32, .f32⟩
  | 102 => ⟨S4096x2x32, .f32⟩
  | 103 => ⟨S4096x2x32, .f32⟩
  | 104 => ⟨S4096x2x32, .f32⟩
  | 105 => ⟨S4096x2x32, .f32⟩
  | 106 => ⟨S4096x2x32, .f32⟩
  | 107 => ⟨S4096x2x32, .f32⟩
  | 108 => ⟨S4096x2x32, .f32⟩
  | 109 => ⟨S4096x2x32, .f32⟩
  | 110 => ⟨S_, .f32⟩
  | 111 => ⟨S4096x2x64, .f32⟩
  | 112 => ⟨S_, .f32⟩
  | 113 => ⟨S4096x2x64, .f32⟩
  | 114 => ⟨S4096x2x64, .f32⟩
  | 115 => ⟨S4096x128, .f32⟩
  | 116 => ⟨S4096x8x64, .f32⟩
  | 117 => ⟨S4096x8x32, .f32⟩
  | 118 => ⟨S4096x8x32, .f32⟩
  | 119 => ⟨S4096x8x32, .f32⟩
  | 120 => ⟨S4096x8x32, .f32⟩
  | 121 => ⟨S4096x8x32, .f32⟩
  | 122 => ⟨S4096x8x32, .f32⟩
  | 123 => ⟨S4096x8x32, .f32⟩
  | 124 => ⟨S4096x8x32, .f32⟩
  | 125 => ⟨S4096x8x32, .f32⟩
  | 126 => ⟨S4096x8x32, .f32⟩
  | 127 => ⟨S4096x8x32, .f32⟩
  | _ => ⟨S4096x1024, .f32⟩

abbrev hbmTy0_1 (i : Nat) : BufTy := match i % 128 with
  | 0 => ⟨S4096x8x32, .f32⟩
  | 1 => ⟨S4096x8x32, .f32⟩
  | 2 => ⟨S_, .f32⟩
  | 3 => ⟨S4096x8x64, .f32⟩
  | 4 => ⟨S_, .f32⟩
  | 5 => ⟨S4096x8x64, .f32⟩
  | 6 => ⟨S4096x8x64, .f32⟩
  | 7 => ⟨S4096x512, .f32⟩
  | 8 => ⟨S4096x2304, .f32⟩
  | 9 => ⟨S2304x1024, .f32⟩
  | 10 => ⟨S1024x2304, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_1 : Ref sig .tc := ⟨.hbm, 56, rfl⟩
abbrev main_v42 : Ref sig .tc := ⟨.hbm, 57, rfl⟩
abbrev main_v43 : Ref sig .tc := ⟨.hbm, 58, rfl⟩
abbrev main_cst_2 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_3 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_4 : Ref sig .tc := ⟨.hbm, 110, rfl⟩
abbrev main_v93 : Ref sig .tc := ⟨.hbm, 111, rfl⟩
abbrev main_cst_5 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_6 : Ref sig .tc := ⟨.hbm, 130, rfl⟩
abbrev main_v111 : Ref sig .tc := ⟨.hbm, 131, rfl⟩
abbrev main_cst_7 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩

abbrev nD : Nat := 1
abbrev τ : Topo := Topo.v7x

variable {F : FTy → Type} [FloatOps F]
-- ==== Proof.MidRuns.lean ====
/- What the runs of the middle call's body are stated over: the contents of the buffers when the call is entered (`V`) and
   each input window's block at a point (`iblk`), the host's lines around the call, the frame from a run of the program
   (`frame_of`), the condition of the body's one branch in closed form over the points, and the staging buffers and the
   scratch by name. It follows the form of a launch that has one call and two cases of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1300000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host operation after the region writes `main_arg11`: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host operation after the region writes `main_arg12`: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host operation after the region writes `main_arg13`: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
/-- No host operation after the region writes `main_arg14`: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
/-- No host operation after the region writes `main_arg15`: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1500000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c)),
      (((h c).2 main_arg12 (Pipeline.mem_restRefs_of main_arg12 (by decide) (by decide))).trans (W_main_arg12 m dats c)),
      (((h c).2 main_arg13 (Pipeline.mem_restRefs_of main_arg13 (by decide) (by decide))).trans (W_main_arg13 m dats c)),
      (((h c).2 main_arg14 (Pipeline.mem_restRefs_of main_arg14 (by decide) (by decide))).trans (W_main_arg14 m dats c)),
      (((h c).2 main_arg15 (Pipeline.mem_restRefs_of main_arg15 (by decide) (by decide))).trans (W_main_arg15 m dats c))⟩) h

/-! ## The body's branch conditions -/

/-- The condition of the body's `scf.if` 0, from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The staging buffers and the scratch by name -/

/-- One staging buffer of output window 16, through which its contents are stated (`View.read_writes_of_cover`: the
    choice does not matter). -/
abbrev VO0_16 : View sig .tc .vmem S8x128 .f32 := (Memref.whole cc0_stg16_0 : Memref sig .tc .vmem S8x128 .f32).view
/-- One staging buffer of output window 17, through which its contents are stated (`View.read_writes_of_cover`: the
    choice does not matter). -/
abbrev VO0_17 : View sig .tc .vmem S512x512 .f32 := (Memref.whole cc0_stg17_0 : Memref sig .tc .vmem S512x512 .f32).view
/-- One staging buffer of output window 18, through which its contents are stated (`View.read_writes_of_cover`: the
    choice does not matter). -/
abbrev VO0_18 : View sig .tc .vmem S512x512 .f32 := (Memref.whole cc0_stg18_0 : Memref sig .tc .vmem S512x512 .f32).view
/-- One staging buffer of output window 19, through which its contents are stated (`View.read_writes_of_cover`: the
    choice does not matter). -/
abbrev VO0_19 : View sig .tc .vmem S4x512x128 .f32 := (Memref.whole cc0_stg19_0 : Memref sig .tc .vmem S4x512x128 .f32).view
/-- One staging buffer of output window 20, through which its contents are stated (`View.read_writes_of_cover`: the
    choice does not matter). -/
abbrev VO0_20 : View sig .tc .vmem S512x512 .f32 := (Memref.whole cc0_stg20_0 : Memref sig .tc .vmem S512x512 .f32).view
/-- One staging buffer of output window 21, through which its contents are stated (`View.read_writes_of_cover`: the
    choice does not matter). -/
abbrev VO0_21 : View sig .tc .vmem S512x1024 .f32 := (Memref.whole cc0_stg21_0 : Memref sig .tc .vmem S512x1024 .f32).view
/-- One staging buffer of output window 22, through which its contents are stated (`View.read_writes_of_cover`: the
    choice does not matter). -/
abbrev VO0_22 : View sig .tc .vmem S1024x1024 .f32 := (Memref.whole cc0_stg22_0 : Memref sig .tc .vmem S1024x1024 .f32).view
/-- One staging buffer of output window 23, through which its contents are stated (`View.read_writes_of_cover`: the
    choice does not matter). -/
abbrev VO0_23 : View sig .tc .vmem S512x512 .f32 := (Memref.whole cc0_stg23_0 : Memref sig .tc .vmem S512x512 .f32).view
/-- One staging buffer of output window 24, through which its contents are stated (`View.read_writes_of_cover`: the
    choice does not matter). -/
abbrev VO0_24 : View sig .tc .vmem S8x1024 .f32 := (Memref.whole cc0_stg24_0 : Memref sig .tc .vmem S8x1024 .f32).view
/-- Each window's current staging memref at point `t`, spelled as the pipeline passes it (`bodyAt0`), and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x512 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S512x512 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S4x512x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S512x512 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S512x1024 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1024x1024 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S512x512 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S8x1024 .f32 := win0_24.stage (cfg0.slots t 24)
abbrev hs0_24 (t : Fin cfg0.N) : (ms0_24 t).IsWhole := hstage0_24 ((cfg0.slots t 24).cast nbuf0_24)
/-- The scratch operands: whole scoped buffers of the kernel's own, passed beside the windows. -/
abbrev scM0_0 : Memref sig .tc .vmem S1024x1024 .bf16 := Memref.whole cc0_scratch0
/-- The scratch `arg26` the kernel carries between points, as a view: what it holds is stated through it. -/
abbrev VS0_0 : View sig .tc .vmem S1024x1024 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.MidRunA.lean ====
/- The run of the middle call's body in case A, the first point, at which the branch is taken. -/
module

public import proofs.«01_k».proof.Proof.MidRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 16000000 in
/-- Case A, the first point, at which the branch is taken. What the body's stores leave in each output's staging buffer, as pieces, the last first, with the proof
    that the body runs on whole staging buffers: the inputs' hold their contents, the other outputs' anything.
    It ends with the inputs' as they were, each output's buffer with its pieces written, and the scratch with its own.
    The pieces are found by running the body. -/
noncomputable def kernelRun0_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S4x512x128 .f32) (harg3 : arg3.IsWhole) (arg4 : Memref sig .tc .vmem S4x512x128 .f32) (harg4 : arg4.IsWhole) (arg5 : Memref sig .tc .vmem S4x512x128 .f32) (harg5 : arg5.IsWhole) (arg6 : Memref sig .tc .vmem S512x512 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S8x128 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S4x512x128 .f32) (harg20 : arg20.IsWhole) (arg21 : Memref sig .tc .vmem S512x512 .f32) (harg21 : arg21.IsWhole) (arg22 : Memref sig .tc .vmem S512x1024 .f32) (harg22 : arg22.IsWhole) (arg23 : Memref sig .tc .vmem S1024x1024 .f32) (harg23 : arg23.IsWhole) (arg24 : Memref sig .tc .vmem S512x512 .f32) (harg24 : arg24.IsWhole) (arg25 : Memref sig .tc .vmem S8x1024 .f32) (harg25 : arg25.IsWhole) (arg26 : Memref sig .tc .vmem S1024x1024 .bf16) (harg26 : arg26.IsWhole) (hc0 : cond0_0 i)
    (x0 : Vec F S512x512 .f32) (x1 : Vec F S512x512 .f32) (x2 : Vec F S4x512x128 .f32) (x3 : Vec F S4x512x128 .f32) (x4 : Vec F S4x512x128 .f32) (x5 : Vec F S512x512 .f32) (x6 : Vec F S512x1024 .f32) (x7 : Vec F S512x1024 .f32) (x8 : Vec F S1x512 .f32) (x9 : Vec F S512x512 .bf16) (x10 : Vec F S1x512 .f32) (x11 : Vec F S1x512 .f32) (x12 : Vec F S1x512 .f32) (x13 : Vec F S1024x1024 .bf16) (x14 : Vec F S1x1024 .f32) (x15 : Vec F S1x1024 .f32) :
    Σ' (L16 : List (View.Piece (Elt F) S8x128 .f32)), Σ' (L17 : List (View.Piece (Elt F) S512x512 .f32)), Σ' (L18 : List (View.Piece (Elt F) S512x512 .f32)), Σ' (L19 : List (View.Piece (Elt F) S4x512x128 .f32)), Σ' (L20 : List (View.Piece (Elt F) S512x512 .f32)), Σ' (L21 : List (View.Piece (Elt F) S512x1024 .f32)), Σ' (L22 : List (View.Piece (Elt F) S1024x1024 .f32)), Σ' (L23 : List (View.Piece (Elt F) S512x512 .f32)), Σ' (L24 : List (View.Piece (Elt F) S8x1024 .f32)), { LS0 : List (View.Piece (Elt F) S1024x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f LS0)) -∗ K ⟨⟩))
          ⊢ wp frame (wpE (defs₀ (F := F)) Variants.none c none) E (cc0_mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, ?_, fun E K => ?run⟩
  case run =>
    simp only [cc0_mid_eq_skeleton]; unfold cc0_mid_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact HS0

end Cert.KernelIdeal.Gen

end
-- ==== Proof.MidRunB.lean ====
/- The run of the middle call's body in case B, the later points, at which the branch is not taken. -/
module

public import proofs.«01_k».proof.Proof.MidRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 16000000 in
/-- Case B, the later points, at which the branch is not taken. What the body's stores leave in each output's staging buffer, as pieces, the last first, with the proof
    that the body runs on whole staging buffers: the inputs' hold their contents, the four outputs that are added to (16, 22, 23, 24) their contents so far, the other outputs' anything.
    It ends with the inputs' as they were, each output's buffer with its pieces written, and the scratch with its own.
    The pieces are found by running the body. -/
noncomputable def kernelRun0_B (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S4x512x128 .f32) (harg3 : arg3.IsWhole) (arg4 : Memref sig .tc .vmem S4x512x128 .f32) (harg4 : arg4.IsWhole) (arg5 : Memref sig .tc .vmem S4x512x128 .f32) (harg5 : arg5.IsWhole) (arg6 : Memref sig .tc .vmem S512x512 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S8x128 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S4x512x128 .f32) (harg20 : arg20.IsWhole) (arg21 : Memref sig .tc .vmem S512x512 .f32) (harg21 : arg21.IsWhole) (arg22 : Memref sig .tc .vmem S512x1024 .f32) (harg22 : arg22.IsWhole) (arg23 : Memref sig .tc .vmem S1024x1024 .f32) (harg23 : arg23.IsWhole) (arg24 : Memref sig .tc .vmem S512x512 .f32) (harg24 : arg24.IsWhole) (arg25 : Memref sig .tc .vmem S8x1024 .f32) (harg25 : arg25.IsWhole) (arg26 : Memref sig .tc .vmem S1024x1024 .bf16) (harg26 : arg26.IsWhole) (hc0 : ¬cond0_0 i)
    (x0 : Vec F S512x512 .f32) (x1 : Vec F S512x512 .f32) (x2 : Vec F S4x512x128 .f32) (x3 : Vec F S4x512x128 .f32) (x4 : Vec F S4x512x128 .f32) (x5 : Vec F S512x512 .f32) (x6 : Vec F S512x1024 .f32) (x7 : Vec F S512x1024 .f32) (x8 : Vec F S1x512 .f32) (x9 : Vec F S512x512 .bf16) (x10 : Vec F S1x512 .f32) (x11 : Vec F S1x512 .f32) (x12 : Vec F S1x512 .f32) (x13 : Vec F S1024x1024 .bf16) (x14 : Vec F S1x1024 .f32) (x15 : Vec F S1x1024 .f32) (xo16 : Vec F S8x128 .f32) (xo22 : Vec F S1024x1024 .f32) (xo23 : Vec F S512x512 .f32) (xo24 : Vec F S8x1024 .f32) (xs0 : Vec F S1024x1024 .bf16) :
    Σ' (L16 : List (View.Piece (Elt F) S8x128 .f32)), Σ' (L17 : List (View.Piece (Elt F) S512x512 .f32)), Σ' (L18 : List (View.Piece (Elt F) S512x512 .f32)), Σ' (L19 : List (View.Piece (Elt F) S4x512x128 .f32)), Σ' (L20 : List (View.Piece (Elt F) S512x512 .f32)), Σ' (L21 : List (View.Piece (Elt F) S512x1024 .f32)), Σ' (L22 : List (View.Piece (Elt F) S1024x1024 .f32)), Σ' (L23 : List (View.Piece (Elt F) S512x512 .f32)), Σ' (L24 : List (View.Piece (Elt F) S8x1024 .f32)), { LS0 : List (View.Piece (Elt F) S1024x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare xo16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xo22 ∗ owns (c : Thread nD τ) arg24 fullShare xo23 ∗ owns (c : Thread nD τ) arg25 fullShare xo24 ∗ owns (c : Thread nD τ) arg26 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (arg25.view.loc (c : Thread nD τ) ↦[arg25.view.set]{fullShare} arg25.view.writes (Elt F) (harg25.unread xo24) L24) ∗ owns (c : Thread nD τ) arg26 fullShare xs0) -∗ K ⟨⟩))
          ⊢ wp frame (wpE (defs₀ (F := F)) Variants.none c none) E (cc0_mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, [], fun E K => ?run⟩
  case run =>
    simp only [cc0_mid_eq_skeleton]; unfold cc0_mid_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, ⟨%f24, %hf24, H24⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg23.eq_unread hf22; obtain rfl := harg24.eq_unread hf23; obtain rfl := harg25.eq_unread hf24; obtain rfl := harg26.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexact H24
    iexists _; isplitr; · ipureintro; exact harg26.read_unread _
    iexact HS0

end Cert.KernelIdeal.Gen

end
-- ==== Proof.MidFrame.lean ====
/- The run of the middle call, point by point. Window 24 holds the eight rows of vector gradients: the first point clears it,
   and every point then adds into some of its rows only, so at a later point its block is the earlier contents with
   the new rows written over them. The scratch holds the reordered output weights from the first point on. From the two
   runs of the body (`kernelRun0_A` at the first point, `kernelRun0_B` at the others) this module builds what every
   buffer holds after every point (`outsAt0`), the proof data of the pipeline (`dats`), the body obligation, the run of the
   whole program (`run_main`) and its frame (`frame`). -/
module

public import proofs.«01_k».proof.Proof.MidRunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's run at the first point, on that point's staging buffers and input blocks. -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _)
    ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The body's run at a later point, over what the accumulated outputs and the scratch held before it. -/
abbrev runB (c : Dev nD) (t : Fin cfg0.N) (h0 : ¬t.val % 8 = 0) (xo16 : Vec F S8x128 .f32) (xo22 : Vec F S1024x1024 .f32)
    (xo23 : Vec F S512x512 .f32) (xo24 : Vec F S8x1024 .f32) (xs0 : Vec F S1024x1024 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _)
    (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xo16 xo22 xo23 xo24 xs0

/-! ## What the body leaves in each output's buffer -/

/-- The first point's stores cover the block of the loss. -/
theorem coverA_16 (c : Dev nD) (t : Fin cfg0.N) (h0 : t.val % 8 = 0) (y : S8x128.Idx) : ∃ pc ∈ (runA m c t h0).1, y ∈ pc.1.set :=
  View.cover_of_tiledL (runA m c t h0).1 S8x128.size (by sl_kernel_rfl) y

/-- What the first point leaves in the block of the loss. -/
def outA_16 (c : Dev nD) (t : Fin cfg0.N) (h0 : t.val % 8 = 0) : Vec F S8x128 .f32 :=
  VO0_16.read (Elt F) (VO0_16.writes (Elt F) VO0_16.junk (runA m c t h0).1)

/-- The first point's stores cover the block of the gradient of o. -/
theorem coverA_17 (c : Dev nD) (t : Fin cfg0.N) (h0 : t.val % 8 = 0) (y : S512x512.Idx) : ∃ pc ∈ (runA m c t h0).2.1, y ∈ pc.1.set :=
  View.cover_of_tiledL (runA m c t h0).2.1 S512x512.size (by sl_kernel_rfl) y

/-- What the first point leaves in the block of the gradient of o. -/
def outA_17 (c : Dev nD) (t : Fin cfg0.N) (h0 : t.val % 8 = 0) : Vec F S512x512 .f32 :=
  VO0_17.read (Elt F) (VO0_17.writes (Elt F) VO0_17.junk (runA m c t h0).2.1)

/-- The first point's stores cover the block of the gradient of z_attn. -/
theorem coverA_18 (c : Dev nD) (t : Fin cfg0.N) (h0 : t.val % 8 = 0) (y : S512x512.Idx) : ∃ pc ∈ (runA m c t h0).2.2.1, y ∈ pc.1.set :=
  View.cover_of_tiledL (runA m c t h0).2.2.1 S512x512.size (by sl_kernel_rfl) y

/-- What the first point leaves in the block of the gradient of z_attn. -/
def outA_18 (c : Dev nD) (t : Fin cfg0.N) (h0 : t.val % 8 = 0) : Vec F S512x512 .f32 :=
  VO0_18.read (Elt F) (VO0_18.writes (Elt F) VO0_18.junk (runA m c t h0).2.2.1)

/-- The first point's stores cover the block of the gradient of y_fwd. -/
theorem coverA_19 (c : Dev nD) (t : Fin cfg0.N) (h0 : t.val % 8 = 0) (y : S4x512x128.Idx) : ∃ pc ∈ (runA m c t h0).2.2.2.1, y ∈ pc.1.set :=
  View.cover_of_tiledL (runA m c t h0).2.2.2.1 S1x512x128.size (by sl_kernel_rfl) y

/-- What the first point leaves in the block of the gradient of y_fwd. -/
def outA_19 (c : Dev nD) (t : Fin cfg0.N) (h0 : t.val % 8 = 0) : Vec F S4x512x128 .f32 :=
  VO0_19.read (Elt F) (VO0_19.writes (Elt F) VO0_19.junk (runA m c t h0).2.2.2.1)

/-- The first point's stores cover the block of the gradient of z_ssm. -/
theorem coverA_20 (c : Dev nD) (t : Fin cfg0.N) (h0 : t.val % 8 = 0) (y : S512x512.Idx) : ∃ pc ∈ (runA m c t h0).2.2.2.2.1, y ∈ pc.1.set :=
  View.cover_of_tiledL (runA m c t h0).2.2.2.2.1 S512x512.size (by sl_kernel_rfl) y

/-- What the first point leaves in the block of the gradient of z_ssm. -/
def outA_20 (c : Dev nD) (t : Fin cfg0.N) (h0 : t.val % 8 = 0) : Vec F S512x512 .f32 :=
  VO0_20.read (Elt F) (VO0_20.writes (Elt F) VO0_20.junk (runA m c t h0).2.2.2.2.1)

/-- The first point's stores cover the block of the gradient of the projection. -/
theorem coverA_21 (c : Dev nD) (t : Fin cfg0.N) (h0 : t.val % 8 = 0) (y : S512x1024.Idx) : ∃ pc ∈ (runA m c t h0).2.2.2.2.2.1, y ∈ pc.1.set :=
  View.cover_of_tiledL (runA m c t h0).2.2.2.2.2.1 S512x1024.size (by sl_kernel_rfl) y

/-- What the first point leaves in the block of the gradient of the projection. -/
def outA_21 (c : Dev nD) (t : Fin cfg0.N) (h0 : t.val % 8 = 0) : Vec F S512x1024 .f32 :=
  VO0_21.read (Elt F) (VO0_21.writes (Elt F) VO0_21.junk (runA m c t h0).2.2.2.2.2.1)

/-- The first point's stores cover the block of the gradient of w_out. -/
theorem coverA_22 (c : Dev nD) (t : Fin cfg0.N) (h0 : t.val % 8 = 0) (y : S1024x1024.Idx) : ∃ pc ∈ (runA m c t h0).2.2.2.2.2.2.1, y ∈ pc.1.set :=
  View.cover_of_tiledBy (runA m c t h0).2.2.2.2.2.2.1 ![64, 1024] (by sl_kernel_rfl) y

/-- What the first point leaves in the block of the gradient of w_out. -/
def outA_22 (c : Dev nD) (t : Fin cfg0.N) (h0 : t.val % 8 = 0) : Vec F S1024x1024 .f32 :=
  VO0_22.read (Elt F) (VO0_22.writes (Elt F) VO0_22.junk (runA m c t h0).2.2.2.2.2.2.1)

/-- The first point's stores cover the block of the gradient of w_glu. -/
theorem coverA_23 (c : Dev nD) (t : Fin cfg0.N) (h0 : t.val % 8 = 0) (y : S512x512.Idx) : ∃ pc ∈ (runA m c t h0).2.2.2.2.2.2.2.1, y ∈ pc.1.set :=
  View.cover_of_tiledL (runA m c t h0).2.2.2.2.2.2.2.1 S512x512.size (by sl_kernel_rfl) y

/-- What the first point leaves in the block of the gradient of w_glu. -/
def outA_23 (c : Dev nD) (t : Fin cfg0.N) (h0 : t.val % 8 = 0) : Vec F S512x512 .f32 :=
  VO0_23.read (Elt F) (VO0_23.writes (Elt F) VO0_23.junk (runA m c t h0).2.2.2.2.2.2.2.1)

/-- The first point's stores cover the block of the gradients of the vectors. -/
theorem coverA_24 (c : Dev nD) (t : Fin cfg0.N) (h0 : t.val % 8 = 0) (y : S8x1024.Idx) : ∃ pc ∈ (runA m c t h0).2.2.2.2.2.2.2.2.1, y ∈ pc.1.set :=
  View.cover_of_tiledBy (runA m c t h0).2.2.2.2.2.2.2.2.1 ![1, 512] (by sl_kernel_rfl) y

/-- What the first point leaves in the block of the gradients of the vectors. -/
def outA_24 (c : Dev nD) (t : Fin cfg0.N) (h0 : t.val % 8 = 0) : Vec F S8x1024 .f32 :=
  VO0_24.read (Elt F) (VO0_24.writes (Elt F) VO0_24.junk (runA m c t h0).2.2.2.2.2.2.2.2.1)

/-- The first point's stores cover the scratch. -/
theorem coverA_s (c : Dev nD) (t : Fin cfg0.N) (h0 : t.val % 8 = 0) (y : S1024x1024.Idx) : ∃ pc ∈ (runA m c t h0).2.2.2.2.2.2.2.2.2.1, y ∈ pc.1.set :=
  View.cover_of_tiledBy (runA m c t h0).2.2.2.2.2.2.2.2.2.1 ![64, 1024] (by sl_kernel_rfl) y

/-- What the first point leaves in the scratch. -/
def outA_s (c : Dev nD) (t : Fin cfg0.N) (h0 : t.val % 8 = 0) : Vec F S1024x1024 .bf16 :=
  VS0_0.read (Elt F) (VS0_0.writes (Elt F) VS0_0.junk (runA m c t h0).2.2.2.2.2.2.2.2.2.1)

/-- A later point's stores cover the block of the loss. -/
theorem coverB_16 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) (y : S8x128.Idx) :
    ∃ pc ∈ (runB m c t h0 xo16 xo22 xo23 xo24 xs0).1, y ∈ pc.1.set :=
  View.cover_of_tiledL (runB m c t h0 xo16 xo22 xo23 xo24 xs0).1 S8x128.size (by sl_kernel_rfl) y

/-- What a later point leaves in the block of the loss. -/
def outB_16 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) : Vec F S8x128 .f32 :=
  VO0_16.read (Elt F) (VO0_16.writes (Elt F) VO0_16.junk (runB m c t h0 xo16 xo22 xo23 xo24 xs0).1)

/-- A later point's stores cover the block of the gradient of o. -/
theorem coverB_17 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) (y : S512x512.Idx) :
    ∃ pc ∈ (runB m c t h0 xo16 xo22 xo23 xo24 xs0).2.1, y ∈ pc.1.set :=
  View.cover_of_tiledL (runB m c t h0 xo16 xo22 xo23 xo24 xs0).2.1 S512x512.size (by sl_kernel_rfl) y

/-- What a later point leaves in the block of the gradient of o. -/
def outB_17 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) : Vec F S512x512 .f32 :=
  VO0_17.read (Elt F) (VO0_17.writes (Elt F) VO0_17.junk (runB m c t h0 xo16 xo22 xo23 xo24 xs0).2.1)

/-- A later point's stores cover the block of the gradient of z_attn. -/
theorem coverB_18 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) (y : S512x512.Idx) :
    ∃ pc ∈ (runB m c t h0 xo16 xo22 xo23 xo24 xs0).2.2.1, y ∈ pc.1.set :=
  View.cover_of_tiledL (runB m c t h0 xo16 xo22 xo23 xo24 xs0).2.2.1 S512x512.size (by sl_kernel_rfl) y

/-- What a later point leaves in the block of the gradient of z_attn. -/
def outB_18 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) : Vec F S512x512 .f32 :=
  VO0_18.read (Elt F) (VO0_18.writes (Elt F) VO0_18.junk (runB m c t h0 xo16 xo22 xo23 xo24 xs0).2.2.1)

/-- A later point's stores cover the block of the gradient of y_fwd. -/
theorem coverB_19 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) (y : S4x512x128.Idx) :
    ∃ pc ∈ (runB m c t h0 xo16 xo22 xo23 xo24 xs0).2.2.2.1, y ∈ pc.1.set :=
  View.cover_of_tiledL (runB m c t h0 xo16 xo22 xo23 xo24 xs0).2.2.2.1 S1x512x128.size (by sl_kernel_rfl) y

/-- What a later point leaves in the block of the gradient of y_fwd. -/
def outB_19 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) : Vec F S4x512x128 .f32 :=
  VO0_19.read (Elt F) (VO0_19.writes (Elt F) VO0_19.junk (runB m c t h0 xo16 xo22 xo23 xo24 xs0).2.2.2.1)

/-- A later point's stores cover the block of the gradient of z_ssm. -/
theorem coverB_20 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) (y : S512x512.Idx) :
    ∃ pc ∈ (runB m c t h0 xo16 xo22 xo23 xo24 xs0).2.2.2.2.1, y ∈ pc.1.set :=
  View.cover_of_tiledL (runB m c t h0 xo16 xo22 xo23 xo24 xs0).2.2.2.2.1 S512x512.size (by sl_kernel_rfl) y

/-- What a later point leaves in the block of the gradient of z_ssm. -/
def outB_20 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) : Vec F S512x512 .f32 :=
  VO0_20.read (Elt F) (VO0_20.writes (Elt F) VO0_20.junk (runB m c t h0 xo16 xo22 xo23 xo24 xs0).2.2.2.2.1)

/-- A later point's stores cover the block of the gradient of the projection. -/
theorem coverB_21 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) (y : S512x1024.Idx) :
    ∃ pc ∈ (runB m c t h0 xo16 xo22 xo23 xo24 xs0).2.2.2.2.2.1, y ∈ pc.1.set :=
  View.cover_of_tiledL (runB m c t h0 xo16 xo22 xo23 xo24 xs0).2.2.2.2.2.1 S512x1024.size (by sl_kernel_rfl) y

/-- What a later point leaves in the block of the gradient of the projection. -/
def outB_21 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) : Vec F S512x1024 .f32 :=
  VO0_21.read (Elt F) (VO0_21.writes (Elt F) VO0_21.junk (runB m c t h0 xo16 xo22 xo23 xo24 xs0).2.2.2.2.2.1)

/-- A later point's stores cover the block of the gradient of w_out. -/
theorem coverB_22 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) (y : S1024x1024.Idx) :
    ∃ pc ∈ (runB m c t h0 xo16 xo22 xo23 xo24 xs0).2.2.2.2.2.2.1, y ∈ pc.1.set :=
  View.cover_of_tiledBy (runB m c t h0 xo16 xo22 xo23 xo24 xs0).2.2.2.2.2.2.1 ![64, 1024] (by sl_kernel_rfl) y

/-- What a later point leaves in the block of the gradient of w_out. -/
def outB_22 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) : Vec F S1024x1024 .f32 :=
  VO0_22.read (Elt F) (VO0_22.writes (Elt F) VO0_22.junk (runB m c t h0 xo16 xo22 xo23 xo24 xs0).2.2.2.2.2.2.1)

/-- A later point's stores cover the block of the gradient of w_glu. -/
theorem coverB_23 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) (y : S512x512.Idx) :
    ∃ pc ∈ (runB m c t h0 xo16 xo22 xo23 xo24 xs0).2.2.2.2.2.2.2.1, y ∈ pc.1.set :=
  View.cover_of_tiledL (runB m c t h0 xo16 xo22 xo23 xo24 xs0).2.2.2.2.2.2.2.1 S512x512.size (by sl_kernel_rfl) y

/-- What a later point leaves in the block of the gradient of w_glu. -/
def outB_23 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) : Vec F S512x512 .f32 :=
  VO0_23.read (Elt F) (VO0_23.writes (Elt F) VO0_23.junk (runB m c t h0 xo16 xo22 xo23 xo24 xs0).2.2.2.2.2.2.2.1)

/-- What a later point leaves in the block of the vectors' gradients: its rows written over the earlier contents. -/
def outB_24 (c : Dev nD) (t : Fin cfg0.N) (h0 : ¬t.val % 8 = 0) (xo16 : Vec F S8x128 .f32) (xo22 : Vec F S1024x1024 .f32) (xo23 : Vec F S512x512 .f32) (xo24 : Vec F S8x1024 .f32) (xs0 : Vec F S1024x1024 .bf16) : Vec F S8x1024 .f32 :=
  (ms0_24 t).view.read (Elt F) ((ms0_24 t).view.writes (Elt F) ((hs0_24 t).unread xo24) (runB m c t h0 xo16 xo22 xo23 xo24 xs0).2.2.2.2.2.2.2.2.1)

/-- Everything the pipeline carries: the nine outputs' buffers in window order, then the scratch. -/
abbrev Outs (F : FTy → Type) : Type :=
  Vec F S8x128 .f32 × Vec F S512x512 .f32 × Vec F S512x512 .f32 × Vec F S4x512x128 .f32 × Vec F S512x512 .f32
    × Vec F S512x1024 .f32 × Vec F S1024x1024 .f32 × Vec F S512x512 .f32 × Vec F S8x1024 .f32 × Vec F S1024x1024 .bf16

/-- The buffers after the first point. -/
def outsA (c : Dev nD) (t : Fin cfg0.N) (h0 : t.val % 8 = 0) : Outs F :=
  (outA_16 m c t h0, outA_17 m c t h0, outA_18 m c t h0, outA_19 m c t h0, outA_20 m c t h0, outA_21 m c t h0, outA_22 m c t h0, outA_23 m c t h0, outA_24 m c t h0, outA_s m c t h0)

/-- The buffers after a later point that found `p`. -/
def outsB (c : Dev nD) (t : Fin cfg0.N) (h0 : ¬t.val % 8 = 0) (p : Outs F) : Outs F :=
  (outB_16 m c t h0 p.1 p.2.2.2.2.2.2.1 p.2.2.2.2.2.2.2.1 p.2.2.2.2.2.2.2.2.1 p.2.2.2.2.2.2.2.2.2, outB_17 m c t h0 p.1 p.2.2.2.2.2.2.1 p.2.2.2.2.2.2.2.1 p.2.2.2.2.2.2.2.2.1 p.2.2.2.2.2.2.2.2.2, outB_18 m c t h0 p.1 p.2.2.2.2.2.2.1 p.2.2.2.2.2.2.2.1 p.2.2.2.2.2.2.2.2.1 p.2.2.2.2.2.2.2.2.2, outB_19 m c t h0 p.1 p.2.2.2.2.2.2.1 p.2.2.2.2.2.2.2.1 p.2.2.2.2.2.2.2.2.1 p.2.2.2.2.2.2.2.2.2, outB_20 m c t h0 p.1 p.2.2.2.2.2.2.1 p.2.2.2.2.2.2.2.1 p.2.2.2.2.2.2.2.2.1 p.2.2.2.2.2.2.2.2.2, outB_21 m c t h0 p.1 p.2.2.2.2.2.2.1 p.2.2.2.2.2.2.2.1 p.2.2.2.2.2.2.2.2.1 p.2.2.2.2.2.2.2.2.2, outB_22 m c t h0 p.1 p.2.2.2.2.2.2.1 p.2.2.2.2.2.2.2.1 p.2.2.2.2.2.2.2.2.1 p.2.2.2.2.2.2.2.2.2, outB_23 m c t h0 p.1 p.2.2.2.2.2.2.1 p.2.2.2.2.2.2.2.1 p.2.2.2.2.2.2.2.2.1 p.2.2.2.2.2.2.2.2.2, outB_24 m c t h0 p.1 p.2.2.2.2.2.2.1 p.2.2.2.2.2.2.2.1 p.2.2.2.2.2.2.2.2.1 p.2.2.2.2.2.2.2.2.2,
    p.2.2.2.2.2.2.2.2.2)

/-! ## What the outputs hold after each point -/

/-- The buffers after the body at position `n`. -/
def outsAt0 (c : Dev nD) : (n : ℕ) → n < cfg0.N → Outs F
  | 0, hn => outsA m c ⟨0, hn⟩ rfl
  | n + 1, hn =>
    if h0 : (n + 1) % 8 = 0 then outsA m c ⟨n + 1, hn⟩ h0
    else outsB m c ⟨n + 1, hn⟩ h0 (outsAt0 c n (Nat.lt_of_succ_lt hn))

/-- The buffers after the first point. -/
theorem outsAt0_A (c : Dev nD) (t : Fin cfg0.N) (h0 : t.val % 8 = 0) : outsAt0 m c t.val t.isLt = outsA m c t h0 := by
  obtain ⟨n, hn⟩ := t
  cases n with
  | zero => exact rfl
  | succ n => exact (dif_pos h0).trans rfl

/-- The buffers after a later point, from those after the point before. -/
theorem outsAt0_B (c : Dev nD) (t : Fin cfg0.N) (h0 : ¬t.val % 8 = 0) :
    outsAt0 m c t.val t.isLt = outsB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- What holds between the points: before the first, the scratch holds anything; afterwards what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2)) ∗ (∃ r, prngReg c r)) := by
  cases n with
  | zero => exact absurd rfl hz
  | succ n => rfl

/-! ## The pipeline's proof data -/

/-- The proof data of the pipeline on core `c`: inputs stay at their blocks, outputs are at `outsAt0`, and between points
    `PhiS` holds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2.1
    | ⟨19, _⟩ => (outsAt0 m c t.val t.isLt).2.2.2.1
    | ⟨20, _⟩ => (outsAt0 m c t.val t.isLt).2.2.2.2.1
    | ⟨21, _⟩ => (outsAt0 m c t.val t.isLt).2.2.2.2.2.1
    | ⟨22, _⟩ => (outsAt0 m c t.val t.isLt).2.2.2.2.2.2.1
    | ⟨23, _⟩ => (outsAt0 m c t.val t.isLt).2.2.2.2.2.2.2.1
    | ⟨24, _⟩ => (outsAt0 m c t.val t.isLt).2.2.2.2.2.2.2.2.1
    | ⟨_ + 25, h⟩ => absurd h (Nat.not_lt.2 (Nat.le_add_left _ _))
  Φ t := PhiS m c t.val (Nat.le_of_lt_succ t.isLt)
  q _ := fullShare
  owed _ := 0

/-- The arrays of the proof data are those the region finds. -/
theorem A_eq (c : Dev nD) (w : Fin cfg0.W) : (dats m 0 c).A w = V m c (Pipeline.arrRef spec0 w) := by
  dsimp only [dats]

/-- The invariant before point `t`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]
theorem after0_19 (c : Dev nD) (t : Fin cfg0.N) : (dats m 0 c).after 19 t = (outsAt0 m c t.val t.isLt).2.2.2.1 := by dsimp only [dats]
theorem after0_20 (c : Dev nD) (t : Fin cfg0.N) : (dats m 0 c).after 20 t = (outsAt0 m c t.val t.isLt).2.2.2.2.1 := by dsimp only [dats]
theorem after0_21 (c : Dev nD) (t : Fin cfg0.N) : (dats m 0 c).after 21 t = (outsAt0 m c t.val t.isLt).2.2.2.2.2.1 := by dsimp only [dats]
theorem after0_22 (c : Dev nD) (t : Fin cfg0.N) : (dats m 0 c).after 22 t = (outsAt0 m c t.val t.isLt).2.2.2.2.2.2.1 := by dsimp only [dats]
theorem after0_23 (c : Dev nD) (t : Fin cfg0.N) : (dats m 0 c).after 23 t = (outsAt0 m c t.val t.isLt).2.2.2.2.2.2.2.1 := by dsimp only [dats]
theorem after0_24 (c : Dev nD) (t : Fin cfg0.N) : (dats m 0 c).after 24 t = (outsAt0 m c t.val t.isLt).2.2.2.2.2.2.2.2.1 := by dsimp only [dats]

/-- Every input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
/-- At a later point the buffer of window 16 still holds what the point before left. -/
theorem before0_16_B (c : Dev nD) (t : Fin cfg0.N) (h0 : ¬t.val % 8 = 0) (d) :
    (dats m 0 c).before 16 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 16 rfl t (by omega) (Bool.eq_false_iff.mpr fun h => by have := (flush0_16 _).mp h; dsimp only at this; omega)
    (fun _ => rfl) (fun _ _ => rfl)]
  dsimp only [dats]
/-- At a later point the buffer of window 22 still holds what the point before left. -/
theorem before0_22_B (c : Dev nD) (t : Fin cfg0.N) (h0 : ¬t.val % 8 = 0) (d) :
    (dats m 0 c).before 22 t d = (outsAt0 m c (t.val - 1) (Nat.lt_of_le_of_lt (Nat.sub_le _ _) t.isLt)).2.2.2.2.2.2.1 := by
  have hN : t.val < 8 := lt_of_lt_of_eq t.isLt (show cfg0.N = 8 from N_0)
  rw [Dat.before_out_kept _ 22 rfl t (by omega) (Bool.eq_false_iff.mpr fun h => by have := (flush0_22 _).mp h; dsimp only at this; omega)
    (fun _ => rfl) (fun _ _ => rfl)]
  dsimp only [dats]
/-- At a later point the buffer of window 23 still holds what the point before left. -/
theorem before0_23_B (c : Dev nD) (t : Fin cfg0.N) (h0 : ¬t.val % 8 = 0) (d) :
    (dats m 0 c).before 23 t d = (outsAt0 m c (t.val - 1) (Nat.lt_of_le_of_lt (Nat.sub_le _ _) t.isLt)).2.2.2.2.2.2.2.1 := by
  have hN : t.val < 8 := lt_of_lt_of_eq t.isLt (show cfg0.N = 8 from N_0)
  rw [Dat.before_out_kept _ 23 rfl t (by omega) (Bool.eq_false_iff.mpr fun h => by have := (flush0_23 _).mp h; dsimp only at this; omega)
    (fun _ => rfl) (fun _ _ => rfl)]
  dsimp only [dats]
/-- At a later point the buffer of window 24 still holds what the point before left. -/
theorem before0_24_B (c : Dev nD) (t : Fin cfg0.N) (h0 : ¬t.val % 8 = 0) (d) :
    (dats m 0 c).before 24 t d = (outsAt0 m c (t.val - 1) (Nat.lt_of_le_of_lt (Nat.sub_le _ _) t.isLt)).2.2.2.2.2.2.2.2.1 := by
  have hN : t.val < 8 := lt_of_lt_of_eq t.isLt (show cfg0.N = 8 from N_0)
  rw [Dat.before_out_kept _ 24 rfl t (by omega) (Bool.eq_false_iff.mpr fun h => by have := (flush0_24 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 19200000 in
/-- The body at any point. At the first the run of case A applies, at a later one that of case B, whose accumulated outputs
    and scratch hold what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc m c t, PhiS_zero m c _ _ hz, PhiA0_eq]
      rw [outsAt0_A m c t h0]
      simp only [outsA]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((runA m c t h0).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [HS0]; · iexact HS0
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%es0, HS0⟩⟩
      isplitl [HS0 Hg]
      · isplitl [HS0]
        · unfold owns; iexists _; isplitr
          swap; · iexact HS0
          ipureintro; exact View.read_writes_of_cover _ _ _ _ _ (coverA_s m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (coverA_16 m c t h0)
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      isplitl [H21]
      · unfold owns; iexists _; isplitr
        swap; · iexact H21
        ipureintro; exact View.read_writes_of_cover _ _ _ _ _ (coverA_21 m c t h0)
      isplitl [H22]
      · unfold owns; iexists _; isplitr
        swap; · iexact H22
        ipureintro; exact View.read_writes_of_cover _ _ _ _ _ (coverA_22 m c t h0)
      isplitl [H23]
      · unfold owns; iexists _; isplitr
        swap; · iexact H23
        ipureintro; exact View.read_writes_of_cover _ _ _ _ _ (coverA_23 m c t h0)
      unfold owns; iexists _; isplitr
      swap; · iexact H24
      ipureintro; exact View.read_writes_of_cover _ _ _ _ _ (coverA_24 m c t h0)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      simp only [before0_16_B m c t h0, before0_22_B m c t h0, before0_23_B m c t h0, before0_24_B m c t h0]
      simp only [outsB]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((runB m c t h0 _ _ _ _ _).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexact H22
      isplitl [H23]; · iexact H23
      isplitl [H24]; · iexact H24
      isplitl [HS0]; · iexact HS0
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, H24, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (coverB_16 m c t h0 _ _ _ _ _)
      isplitl [H17]
      · unfold owns; iexists _; isplitr
        swap; · iexact H17
        ipureintro; exact View.read_writes_of_cover _ _ _ _ _ (coverB_17 m c t h0 _ _ _ _ _)
      isplitl [H18]
      · unfold owns; iexists _; isplitr
        swap; · iexact H18
        ipureintro; exact View.read_writes_of_cover _ _ _ _ _ (coverB_18 m c t h0 _ _ _ _ _)
      isplitl [H19]
      · unfold owns; iexists _; isplitr
        swap; · iexact H19
        ipureintro; exact View.read_writes_of_cover _ _ _ _ _ (coverB_19 m c t h0 _ _ _ _ _)
      isplitl [H20]
      · unfold owns; iexists _; isplitr
        swap; · iexact H20
        ipureintro; exact View.read_writes_of_cover _ _ _ _ _ (coverB_20 m c t h0 _ _ _ _ _)
      isplitl [H21]
      · unfold owns; iexists _; isplitr
        swap; · iexact H21
        ipureintro; exact View.read_writes_of_cover _ _ _ _ _ (coverB_21 m c t h0 _ _ _ _ _)
      isplitl [H22]
      · unfold owns; iexists _; isplitr
        swap; · iexact H22
        ipureintro; exact View.read_writes_of_cover _ _ _ _ _ (coverB_22 m c t h0 _ _ _ _ _)
      isplitl [H23]
      · unfold owns; iexists _; isplitr
        swap; · iexact H23
        ipureintro; exact View.read_writes_of_cover _ _ _ _ _ (coverB_23 m c t h0 _ _ _ _ _)
      unfold owns; iexists _; isplitr
      swap; · iexact H24
      ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by unfold bodyPost; exact .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- `run_main`, and every semaphore counter at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- From any memory with zero counters every weakly fair execution ends, and every final state has each array of the pipeline
    at what the proof data say and every other buffer as the lines after the call leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The frame: every execution ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.KernelIdeal.Gen

end
-- ==== Proof.Model.lean ====
/- The mathematics of the section, over the reals and for ONE row of the sequence: what the row's forward
   values are, what the gradients at the row are, and which terms the row adds to the gradients of the weights.
   Nothing here mentions a program. -/
module

public import Mathlib.Analysis.SpecialFunctions.Trigonometric.DerivHyp
public import Mathlib.Analysis.Real.Sqrt
public import Mathlib.Tactic.Ring
public import Mathlib.Tactic.FieldSimp

@[expose] public section

noncomputable section

namespace Cert.Mid

/-- The number under the roots of the norms: the `f32` next to `1e-5`. -/
def eps : ℝ := 10995116 / 1099511627776
/-- The factor of the residual: the `f32` next to the fourth root of 2. -/
def alpha : ℝ := 9975792 / 8388608
/-- The outer factor of the GELU: the `f32` next to `√(2/π)`. -/
def gc : ℝ := 13386282 / 16777216
/-- The cubic factor of the GELU, `0.044715`. -/
def gk : ℝ := 8943 / 200000
/-- Three times the cubic factor. -/
def gk3 : ℝ := 26829 / 200000

theorem eps_pos : 0 < eps := by norm_num [eps]

theorem gk3_eq : gk3 = 3 * gk := by norm_num [gk3, gk]

/-- The logistic function. -/
def sg (z : ℝ) : ℝ := (1 + Real.exp (-z))⁻¹

/-- The logistic function by a hyperbolic tangent. -/
theorem sg_tanh (z : ℝ) : 1 / 2 * Real.tanh (1 / 2 * z) + 1 / 2 = sg z := by
  have h := Real.exp_pos (1 / 2 * z)
  have e : Real.exp (-z) = (Real.exp (1 / 2 * z))⁻¹ * (Real.exp (1 / 2 * z))⁻¹ := by
    rw [← Real.exp_neg, ← Real.exp_add]; congr 1; ring
  rw [sg, e, Real.tanh_eq_sinh_div_cosh, Real.sinh_eq, Real.cosh_eq, Real.exp_neg]
  field_simp
  ring

/-- The weights of the section. -/
structure W where
  d : Fin 512 → ℝ
  wg : Fin 512 → Fin 512 → ℝ
  bg : Fin 512 → ℝ
  ga : Fin 512 → ℝ
  gs : Fin 512 → ℝ
  wo : Fin 1024 → Fin 1024 → ℝ
  lg : Fin 1024 → ℝ
  lb : Fin 1024 → ℝ

/-- One row of the sequence: the attention's output and gate, the recurrence's input, its two outputs and gate,
    the residual and the target. -/
structure Row where
  o : Fin 512 → ℝ
  za : Fin 512 → ℝ
  u : Fin 512 → ℝ
  yf : Fin 512 → ℝ
  yb : Fin 512 → ℝ
  zs : Fin 512 → ℝ
  x : Fin 1024 → ℝ
  t : Fin 1024 → ℝ

/-- The reciprocal root mean square of a row of 512. -/
def rms (v : Fin 512 → ℝ) : ℝ := (√((∑ l, v l * v l) / 512 + eps))⁻¹

/-- The gradient through the norm `n = v * rms v`, `dn` being the gradient at `n * g`. -/
def drms (r : ℝ) (n g dn : Fin 512 → ℝ) (l : Fin 512) : ℝ :=
  r * (dn l * g l - n l * ((∑ i, dn i * g i * n i) / 512))

variable (w : W) (p : Row)

/-- The attention's gate. -/
def sa (l : Fin 512) : ℝ := sg (p.za l)
def silua (l : Fin 512) : ℝ := p.za l * sa p l
/-- The gated output of the attention and its norm. -/
def ya (l : Fin 512) : ℝ := p.o l * silua p l
def ra : ℝ := rms (ya p)
def na (l : Fin 512) : ℝ := ya p l * ra p
/-- The recurrence's output with its direct term, and the GELU of it. -/
def ylin (l : Fin 512) : ℝ := w.d l * p.u l + p.yf l + p.yb l
def th (l : Fin 512) : ℝ := Real.tanh (gc * (ylin w p l + gk * ylin w p l * ylin w p l * ylin w p l))
def gl (l : Fin 512) : ℝ := 1 / 2 * ylin w p l * (1 + th w p l)
/-- The gated linear unit. -/
def gate (l : Fin 512) : ℝ := ∑ k, gl w p k * w.wg k l
def sgt (l : Fin 512) : ℝ := sg (gate w p l + w.bg l)
def y2 (l : Fin 512) : ℝ := gl w p l * sgt w p l
def ss (l : Fin 512) : ℝ := sg (p.zs l)
def silus (l : Fin 512) : ℝ := p.zs l * ss p l
/-- The gated output of the recurrence and its norm. -/
def ys (l : Fin 512) : ℝ := y2 w p l * silus p l
def rs : ℝ := rms (ys w p)
def ns (l : Fin 512) : ℝ := ys w p l * rs w p
/-- Both branches with their gains, side by side. -/
def mixed (k : Fin 1024) : ℝ :=
  if h : k.val < 512 then na p ⟨k.val, h⟩ * w.ga ⟨k.val, h⟩
  else ns w p ⟨k.val - 512, by omega⟩ * w.gs ⟨k.val - 512, by omega⟩
/-- The projection and the residual. -/
def pre (j : Fin 1024) : ℝ := alpha * p.x j + ∑ k, mixed w p k * w.wo k j
/-- The layer norm. -/
def cen (j : Fin 1024) : ℝ := pre w p j - (∑ i, pre w p i) / 1024
def rstd : ℝ := (√((∑ j, cen w p j * cen w p j) / 1024 + eps))⁻¹
def hh (j : Fin 1024) : ℝ := cen w p j * rstd w p
def yln (j : Fin 1024) : ℝ := hh w p j * w.lg j + w.lb j
/-- The difference from the target, and the row's mean square of it. -/
def err (j : Fin 1024) : ℝ := yln w p j - p.t j
def lrow : ℝ := (∑ j, err w p j * err w p j) / 1024
/-- The gradients, from the loss back. -/
def dh (j : Fin 1024) : ℝ := err w p j * (1 / 1024)
def dhh (j : Fin 1024) : ℝ := dh w p j * w.lg j
def sdhh : ℝ := ∑ i, dhh w p i
def dpre (j : Fin 1024) : ℝ :=
  rstd w p * (dhh w p j - sdhh w p / 1024 - hh w p j * ((∑ i, dhh w p i * hh w p i) / 1024))
def dmix (k : Fin 1024) : ℝ := ∑ j, dpre w p j * w.wo k j
def dna (l : Fin 512) : ℝ := dmix w p ⟨l.val, by omega⟩
def dns (l : Fin 512) : ℝ := dmix w p ⟨512 + l.val, by omega⟩
def dya (l : Fin 512) : ℝ := drms (ra p) (na p) w.ga (dna w p) l
def dov (l : Fin 512) : ℝ := dya w p l * silua p l
def dza (l : Fin 512) : ℝ := dya w p l * p.o l * (sa p l * (1 + p.za l * (1 - sa p l)))
def dys (l : Fin 512) : ℝ := drms (rs w p) (ns w p) w.gs (dns w p) l
def dzs (l : Fin 512) : ℝ := dys w p l * y2 w p l * (ss p l * (1 + p.zs l * (1 - ss p l)))
def dy2 (l : Fin 512) : ℝ := dys w p l * silus p l
def da (l : Fin 512) : ℝ := dy2 w p l * gl w p l * sgt w p l * (1 - sgt w p l)
def dgl (l : Fin 512) : ℝ := dy2 w p l * sgt w p l + ∑ k, da w p k * w.wg l k
def dyl (l : Fin 512) : ℝ :=
  dgl w p l * (1 / 2 * (1 + th w p l)
    + 1 / 2 * ylin w p l * (1 - th w p l * th w p l) * gc * (1 + gk3 * ylin w p l * ylin w p l))

end Cert.Mid

end
-- ==== Proof.Up.lean ====
/- Arrays of reals as arrays of extended reals, and the arithmetic of the latter on finite values. -/
module

public import proofs.«01_k».proof.Proof.Model
public import Idealize.ShloMosaic.Lib.Pointwise
public import Idealize.ShloMosaic.PureOps

@[expose] public section

noncomputable section

namespace Cert.Mid

open Idealize.ShloMosaic

/-- A matrix of reals as an array. -/
def up2 {a b : ℕ} (f : Fin a → Fin b → ℝ) (φ : FTy := .f32) : FVec Ideal ⟨2, ![a, b]⟩ φ := fun j => ((f (j 0) (j 1) : ℝ) : EReal)

/-- A finite sum of reals, taken in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem rsqrt_pos {r : ℝ} (h : 0 < r) : Ideal.rsqrt (r : EReal) = (((√r)⁻¹ : ℝ) : EReal) := by
  rw [Ideal.rsqrt_coe, if_neg (not_lt.mpr h.le), if_neg h.ne']

theorem div_real (x y : ℝ) (h : y ≠ 0) : Ideal.div (x : EReal) (y : EReal) = ((x / y : ℝ) : EReal) := by
  rw [Ideal.div_coe h, ← EReal.coe_mul]; congr 1; ring

/-- A pile of matrices of reals as an array. -/
def up3 {a b c : ℕ} (f : Fin a → Fin b → Fin c → ℝ) (φ : FTy := .f32) : FVec Ideal ⟨3, ![a, b, c]⟩ φ :=
  fun j => ((f (j 0) (j 1) (j 2) : ℝ) : EReal)

/-- The array holds the real at its index. -/
theorem up :
    (∀ {φ : FTy} {a b : ℕ} (f : Fin a → Fin b → ℝ) (r : Fin a) (l : Fin b),
      up2 f φ (ix2 r l) = ((f r l : ℝ) : EReal)) ∧
    (∀ {φ : FTy} {a b c : ℕ} (f : Fin a → Fin b → Fin c → ℝ) (k : Fin a) (r : Fin b) (l : Fin c),
      up3 f φ (ix3 k r l) = ((f k r l : ℝ) : EReal)) := ⟨fun _ _ _ => rfl, fun _ _ _ _ => rfl⟩

/-- A vector of reals as an array. -/
def up1 {a : ℕ} (f : Fin a → ℝ) (φ : FTy := .f32) : FVec Ideal ⟨1, ![a]⟩ φ := fun j => ((f (j 0) : ℝ) : EReal)

theorem up1_at {φ : FTy} {a : ℕ} (f : Fin a → ℝ) (l : Fin a) : up1 f φ (ix1 l) = ((f l : ℝ) : EReal) := rfl

/-- A value of each row. -/
abbrev tile {n b : ℕ} (ρ : Fin n → Row) (f : Row → Fin b → ℝ) (φ : FTy := .f32) : FVec Ideal ⟨2, ![n, b]⟩ φ := up2 (fun r => f (ρ r)) φ
/-- A number of each row, as a column. -/
abbrev col {n : ℕ} (ρ : Fin n → Row) (f : Row → ℝ) (φ : FTy := .f32) : FVec Ideal ⟨2, ![n, 1]⟩ φ := up2 (fun r _ => f (ρ r)) φ
/-- A vector as a matrix of one row. -/
abbrev one {b : ℕ} (f : Fin b → ℝ) (φ : FTy := .f32) : FVec Ideal ⟨2, ![1, b]⟩ φ := up2 (fun _ l => f l) φ
/-- The columns `128 k …` of a value of each row, as a pile of one matrix. -/
abbrev slab {n : ℕ} (ρ : Fin n → Row) (f : Row → Fin 512 → ℝ) (k : Fin 4) (φ : FTy := .f32) : FVec Ideal ⟨3, ![1, n, 128]⟩ φ :=
  up3 (fun _ r l => f (ρ r) ⟨128 * k.val + l.val, by omega⟩) φ

theorem lit_half : Ideal.ofBits .f32 0x3F000000#32 = ((1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_inv : Ideal.ofBits .f32 0x3A800000#32 = ((1 / 1024 : ℝ) : EReal) := by
  simp [Ideal.ofBits, Ideal.ieee, -EReal.coe_mul]; norm_num
theorem lit_eps : Ideal.ofBits .f32 0x3727C5AC#32 = ((eps : ℝ) : EReal) := by
  simp [Ideal.ofBits, Ideal.ieee, -EReal.coe_mul, eps]; norm_num
theorem lit_alpha : Ideal.ofBits .f32 0x3F9837F0#32 = ((alpha : ℝ) : EReal) := by
  simp [Ideal.ofBits, Ideal.ieee, -EReal.coe_mul, alpha]; norm_num
theorem lit_gc : Ideal.ofBits .f32 0x3F4C422A#32 = ((gc : ℝ) : EReal) := by
  simp [Ideal.ofBits, Ideal.ieee, -EReal.coe_mul, gc]; norm_num

/-- The literals of the programs, as reals. -/
theorem lits :
    Ideal.ofBits .f32 0x3F000000#32 = ((1 / 2 : ℝ) : EReal) ∧ Ideal.ofBits .f32 0x3F800000#32 = ((1 : ℝ) : EReal) ∧
    Ideal.ofBits .f32 0x40000000#32 = ((2 : ℝ) : EReal) ∧ Ideal.ofBits .f32 0x40400000#32 = ((3 : ℝ) : EReal) ∧
    Ideal.ofBits .f32 0x44000000#32 = ((512 : ℝ) : EReal) ∧ Ideal.ofBits .f32 0x44800000#32 = ((1024 : ℝ) : EReal) ∧
    Ideal.ofBits .f32 0x3A800000#32 = ((1 / 1024 : ℝ) : EReal) ∧ Ideal.ofBits .f32 0x3727C5AC#32 = ((eps : ℝ) : EReal) ∧
    Ideal.ofBits .f32 0x3F9837F0#32 = ((alpha : ℝ) : EReal) ∧ Ideal.ofBits .f32 0x3F4C422A#32 = ((gc : ℝ) : EReal) :=
  ⟨lit_half, lit_one, lit_two, lit_three, lit_512, lit_1024, lit_inv, lit_eps, lit_alpha, lit_gc⟩

/-- The arithmetic of finite values is that of the reals. -/
theorem arith :
    (∀ a b : ℝ, (a : EReal) * (b : EReal) = ((a * b : ℝ) : EReal)) ∧
    (∀ a b : ℝ, (a : EReal) + (b : EReal) = ((a + b : ℝ) : EReal)) ∧
    (∀ a b : ℝ, (a : EReal) - (b : EReal) = ((a - b : ℝ) : EReal)) ∧
    (∀ a : ℝ, -(a : EReal) = ((-a : ℝ) : EReal)) ∧
    (∀ a : ℝ, (1 : EReal) + (a : EReal) = ((1 + a : ℝ) : EReal)) ∧
    (∀ a : ℝ, (1 : EReal) - (a : EReal) = ((1 - a : ℝ) : EReal)) ∧
    (∀ a : ℝ, Ideal.tanh (a : EReal) = ((Real.tanh a : ℝ) : EReal)) ∧
    (∀ a : ℝ, Ideal.exp (a : EReal) = ((Real.exp a : ℝ) : EReal)) ∧
    (∀ a : ℝ, Ideal.div (a : EReal) ((512 : ℝ) : EReal) = ((a / 512 : ℝ) : EReal)) ∧
    (∀ a : ℝ, Ideal.div (a : EReal) ((1024 : ℝ) : EReal) = ((a / 1024 : ℝ) : EReal)) ∧
    (∀ {ι : Type} (s : Finset ι) (f : ι → ℝ), (∑ i ∈ s, (f i : EReal)) = ((∑ i ∈ s, f i : ℝ) : EReal)) :=
  ⟨fun a b => (EReal.coe_mul a b).symm, fun a b => (EReal.coe_add a b).symm, fun a b => (EReal.coe_sub a b).symm,
    fun a => (EReal.coe_neg a).symm,
    fun a => (EReal.coe_add 1 a).symm, fun a => (EReal.coe_sub 1 a).symm, fun _ => rfl, fun _ => rfl, fun a => div_real a 512 (by norm_num),
    fun a => div_real a 1024 (by norm_num), fun s f => coe_sum s f⟩

theorem lit_mhalf : Ideal.ofBits .f32 0xBF000000#32 = ((-(1 / 2) : ℝ) : EReal) := by
  simp [Ideal.ofBits, Ideal.ieee, -EReal.coe_mul]; norm_num
theorem lit_44715 : Ideal.ofBits .f32 0x472EAB00#32 = ((44715 : ℝ) : EReal) := by
  simp [Ideal.ofBits, Ideal.ieee, -EReal.coe_mul]; norm_num
theorem lit_million : Ideal.ofBits .f32 0x49742400#32 = ((1000000 : ℝ) : EReal) := by
  simp [Ideal.ofBits, Ideal.ieee, -EReal.coe_mul]; norm_num

/-- The number under the root of a norm is positive. -/
theorem norm_pos {n : ℕ} (v : Fin n → ℝ) (c : ℝ) (hc : 0 < c) : 0 < (∑ l, v l * v l) / c + eps := by
  have h : 0 ≤ ∑ l, v l * v l := Finset.sum_nonneg fun l _ => mul_self_nonneg _
  have e := eps_pos
  positivity

/-- Further literals and quotients, of the reference. -/
theorem ref_arith :
    Ideal.ofBits .f32 0xBF000000#32 = ((-(1 / 2) : ℝ) : EReal) ∧ Ideal.ofBits .f32 0x472EAB00#32 = ((44715 : ℝ) : EReal) ∧
    Ideal.ofBits .f32 0x49742400#32 = ((1000000 : ℝ) : EReal) ∧
    (∀ a : ℝ, Ideal.div (a : EReal) ((1000000 : ℝ) : EReal) = ((a / 1000000 : ℝ) : EReal)) ∧
    (∀ z : ℝ, Ideal.div 1 ((1 + Real.exp (-z) : ℝ) : EReal) = ((sg z : ℝ) : EReal)) ∧
    (∀ {n : ℕ} (a : ℝ) (v : Fin n → ℝ), Ideal.div (a : EReal) (((∑ l, v l * v l) / 512 + eps : ℝ) : EReal)
      = ((a / ((∑ l, v l * v l) / 512 + eps) : ℝ) : EReal)) ∧
    (∀ {n : ℕ} (a : ℝ) (v : Fin n → ℝ), Ideal.div (a : EReal) (((∑ l, v l * v l) / 1024 + eps : ℝ) : EReal)
      = ((a / ((∑ l, v l * v l) / 1024 + eps) : ℝ) : EReal)) :=
  ⟨lit_mhalf, lit_44715, lit_million, fun a => div_real a _ (by norm_num),
    fun z => by
      have h := Real.exp_pos (-z)
      rw [show (1 : EReal) = ((1 : ℝ) : EReal) from rfl, div_real 1 _ (by positivity), sg, one_div],
    fun a v => div_real a _ (norm_pos v 512 (by norm_num)).ne', fun a v => div_real a _ (norm_pos v 1024 (by norm_num)).ne'⟩

/-- The reciprocal root of a mean square, which is finite, the number under the root being positive. -/
theorem rsqrt_norm {n : ℕ} (v : Fin n → ℝ) :
    Ideal.rsqrt (((∑ l, v l * v l) / 512 + eps : ℝ) : EReal) = (((√((∑ l, v l * v l) / 512 + eps))⁻¹ : ℝ) : EReal) ∧
    Ideal.rsqrt (((∑ l, v l * v l) / 1024 + eps : ℝ) : EReal) = (((√((∑ l, v l * v l) / 1024 + eps))⁻¹ : ℝ) : EReal) := by
  have h : 0 ≤ ∑ l, v l * v l := Finset.sum_nonneg fun l _ => mul_self_nonneg _
  have e := eps_pos
  exact ⟨rsqrt_pos (by positivity), rsqrt_pos (by positivity)⟩

/-! ## What the section returns, for rows `q` -/

/-- The loss: half the sum of the rows' mean squares. -/
def lossA {n : ℕ} (w : W) (q : Fin n → Row) : FVec Ideal ⟨0, ![]⟩ .f32 := fun _ => ((1 / 2 * ∑ r, lrow w (q r) : ℝ) : EReal)
/-- A gradient of a matrix: the sum over the rows of the products of a left and a right value. -/
def outerA {n a b : ℕ} (q : Fin n → Row) (f : Row → Fin a → ℝ) (g : Row → Fin b → ℝ) : FVec Ideal ⟨2, ![a, b]⟩ .f32 :=
  up2 fun k j => ∑ r, f (q r) k * g (q r) j
/-- A gradient of a vector: the sum of a value over the rows. -/
def rowsA {n b : ℕ} (q : Fin n → Row) (f : Row → Fin b → ℝ) : FVec Ideal ⟨1, ![b]⟩ .f32 := up1 fun l => ∑ r, f (q r) l

end Cert.Mid

end
-- ==== Proof.Pay1.lean ====
/- The values of the kernel's body at one grid point, on finite arrays: the forward values of the 512 rows. -/
module

public import proofs.«01_k».proof.Proof.Up
public import proofs.«01_k».proof.Proof.Gen.KernelIdeal.Skeleton

@[expose] public section

set_option maxRecDepth 16384

noncomputable section

namespace Cert.Mid

open Idealize.ShloMosaic Cert.KernelIdeal Cert.KernelIdeal.Gen

variable (w : W) (ρ : Fin 512 → Row)

theorem pay19 : k0_pay19 (F := Ideal) (tile ρ Row.o) = tile ρ Row.o := by
  funext j; idx_vars j; pointwise [k0_pay19]

theorem pay20 : k0_pay20 (F := Ideal) (tile ρ Row.za) = tile ρ Row.za := by
  funext j; idx_vars j; pointwise [k0_pay20]

theorem pay21 : k0_pay21 (F := Ideal) (tile ρ Row.za) = tile ρ sa := by
  unfold k0_pay21; rw [pay20]
  funext j; idx_vars j; pointwise []
  simp only [up, lits, arith, sa, sg_tanh]

theorem pay22 : k0_pay22 (F := Ideal) (tile ρ Row.za) = tile ρ silua := by
  unfold k0_pay22; rw [pay20, pay21]
  funext j; idx_vars j; pointwise []
  simp only [up, arith, silua]

theorem pay23 : k0_pay23 (F := Ideal) (tile ρ Row.o) (tile ρ Row.za) = tile ρ ya := by
  unfold k0_pay23; rw [pay19, pay22]
  funext j; idx_vars j; pointwise []
  simp only [up, arith, ya]

theorem pay24 : k0_pay24 (F := Ideal) (tile ρ Row.o) (tile ρ Row.za) = col ρ ra := by
  unfold k0_pay24; rw [pay23]
  funext j; idx_vars j; pointwise []
  simp only [up, lits, arith, rsqrt_norm, ra, rms]

theorem pay25 : k0_pay25 (F := Ideal) (tile ρ Row.o) (tile ρ Row.za) = tile ρ na := by
  unfold k0_pay25; rw [pay23, pay24]
  funext j; idx_vars j; pointwise []
  simp only [up, arith, na]

theorem pay26 : k0_pay26 (F := Ideal) (one w.ga) = one w.ga := by
  funext j; idx_vars j; pointwise [k0_pay26]

/-- Four pieces of 128 columns side by side are the 512 columns. -/
theorem cat4 (g : Fin 512 → ℝ) (j : Fin 512) (h0 : j.val < 128 → 128 * (0 : Fin 4).val + j.val < 512)
    (h1 : ¬j.val < 128 → j.val - 128 < 128 → 128 * (1 : Fin 4).val + (j.val - 128) < 512)
    (h2 : ¬j.val < 128 → ¬j.val - 128 < 128 → j.val - 128 - 128 < 128 → 128 * (2 : Fin 4).val + (j.val - 128 - 128) < 512)
    (h3 : ¬j.val < 128 → ¬j.val - 128 < 128 → ¬j.val - 128 - 128 < 128 →
      128 * (3 : Fin 4).val + (j.val - 128 - 128 - 128) < 512) :
    (if a : j.val < 128 then ((g ⟨128 * (0 : Fin 4).val + j.val, h0 a⟩ : ℝ) : EReal)
      else if b : j.val - 128 < 128 then ((g ⟨128 * (1 : Fin 4).val + (j.val - 128), h1 a b⟩ : ℝ) : EReal)
      else if c : j.val - 128 - 128 < 128 then ((g ⟨128 * (2 : Fin 4).val + (j.val - 128 - 128), h2 a b c⟩ : ℝ) : EReal)
      else ((g ⟨128 * (3 : Fin 4).val + (j.val - 128 - 128 - 128), h3 a b c⟩ : ℝ) : EReal)) = ((g j : ℝ) : EReal) := by
  have e0 : (0 : Fin 4).val = 0 := rfl
  have e1 : (1 : Fin 4).val = 1 := rfl
  have e2 : (2 : Fin 4).val = 2 := rfl
  have e3 : (3 : Fin 4).val = 3 := rfl
  split_ifs <;> (congr 2; apply Fin.ext; dsimp only; omega)

theorem pay30 : k0_pay30 (F := Ideal) (k0_pay27 (slab ρ Row.u 0)) (k0_pay28 (slab ρ Row.u 1)) (k0_pay29 (slab ρ Row.u 2)) (slab ρ Row.u 3)
    = tile ρ Row.u := by
  funext j; idx_vars j; pointwise [k0_pay30, k0_pay27, k0_pay28, k0_pay29]
  simp only [up, cat4]

theorem pay31 : k0_pay31 (F := Ideal) (k0_pay27 (slab ρ Row.u 0)) (k0_pay28 (slab ρ Row.u 1)) (k0_pay29 (slab ρ Row.u 2)) (slab ρ Row.u 3)
    (one w.d) (slab ρ Row.yf 0) (slab ρ Row.yf 1) (slab ρ Row.yf 2) (slab ρ Row.yf 3)
    (slab ρ Row.yb 0) (slab ρ Row.yb 1) (slab ρ Row.yb 2) (slab ρ Row.yb 3) = tile ρ (ylin w) := by
  unfold k0_pay31; rw [pay30]
  funext j; idx_vars j; pointwise []
  simp only [up, cat4, arith, ylin]

/-- The named cubic factor of the GELU. -/
theorem named_k : Named.named (F := Ideal) (φ := .f32) κ "gelu_k" 0x3D372713#32 = ((gk : ℝ) : EReal) :=
  IdealRules.named_const.ideal_named_scalar _ _ _ _ rfl
theorem named_3k : Named.named (F := Ideal) (φ := .f32) κ "gelu_3k" 0x3E095D4F#32 = ((gk3 : ℝ) : EReal) :=
  IdealRules.named_const.ideal_named_scalar _ _ _ _ rfl

theorem pay33 : k0_pay33 (F := Ideal) (tile ρ (ylin w)) k0_pay32 = tile ρ (th w) := by
  funext j; idx_vars j; pointwise [k0_pay33, k0_pay32]
  simp only [named_k, up, lits, arith, th]

theorem pay34 : k0_pay34 (F := Ideal) (tile ρ (ylin w)) k0_pay32 = tile ρ (gl w) := by
  unfold k0_pay34; rw [pay33]
  funext j; idx_vars j; pointwise []
  simp only [up, lits, arith, gl]

theorem pay35 : k0_pay35 (F := Ideal) (tile ρ (ylin w)) k0_pay32 = tile ρ (gl w) .bf16 := by
  unfold k0_pay35; rw [pay34]
  funext j; idx_vars j; pointwise []
  simp only [up]

theorem pay36 : k0_pay36 (F := Ideal) (tile ρ (ylin w)) k0_pay32 (up2 w.wg .bf16) (one w.bg) = tile ρ (sgt w) := by
  unfold k0_pay36; rw [pay35]
  funext j; idx_vars j; pointwise []
  simp only [up, lits, arith, sgt, gate, sg_tanh]

theorem pay37 : k0_pay37 (F := Ideal) (tile ρ (ylin w)) k0_pay32 (up2 w.wg .bf16) (one w.bg) = tile ρ (y2 w) := by
  unfold k0_pay37; rw [pay34, pay36]
  funext j; idx_vars j; pointwise []
  simp only [up, arith, y2]

theorem pay38 : k0_pay38 (F := Ideal) (tile ρ Row.zs) = tile ρ ss := by
  funext j; idx_vars j; pointwise [k0_pay38]
  simp only [up, lits, arith, ss, sg_tanh]

theorem pay39 : k0_pay39 (F := Ideal) (tile ρ Row.zs) = tile ρ silus := by
  unfold k0_pay39; rw [pay38]
  funext j; idx_vars j; pointwise []
  simp only [up, arith, silus]

theorem pay40 : k0_pay40 (F := Ideal) (tile ρ Row.zs) (tile ρ (ylin w)) k0_pay32 (up2 w.wg .bf16) (one w.bg) = tile ρ (ys w) := by
  unfold k0_pay40; rw [pay37, pay39]
  funext j; idx_vars j; pointwise []
  simp only [up, arith, ys]

theorem pay43 : k0_pay43 (F := Ideal) (k0_pay41 (tile ρ Row.zs) (tile ρ (ylin w)) k0_pay32 (up2 w.wg .bf16) (one w.bg)) k0_pay42
    = col ρ (rs w) := by
  unfold k0_pay43 k0_pay41 k0_pay42; rw [pay40]
  funext j; idx_vars j; pointwise []
  simp only [up, lits, arith, rsqrt_norm, rs, rms]

theorem pay44 : k0_pay44 (F := Ideal) (tile ρ (ys w))
    (k0_pay41 (tile ρ Row.zs) (tile ρ (ylin w)) k0_pay32 (up2 w.wg .bf16) (one w.bg)) k0_pay42 = tile ρ (ns w) := by
  unfold k0_pay44; rw [pay43]
  funext j; idx_vars j; pointwise []
  simp only [up, arith, ns]

theorem pay45 : k0_pay45 (F := Ideal) (one w.gs) = one w.gs := by
  funext j; idx_vars j; pointwise [k0_pay45]

theorem pay46 : k0_pay46 (F := Ideal) (tile ρ na) (one w.ga) (tile ρ (ys w))
    (k0_pay41 (tile ρ Row.zs) (tile ρ (ylin w)) k0_pay32 (up2 w.wg .bf16) (one w.bg)) k0_pay42 (one w.gs) = tile ρ (mixed w) .bf16 := by
  unfold k0_pay46; rw [pay44, pay45]
  funext j; idx_vars j; pointwise []
  simp only [up, arith, mixed]
  split_ifs <;> rfl

end Cert.Mid

end
-- ==== Proof.Pay2.lean ====
/- The values of the kernel's body at one grid point, on finite arrays: the layer norm, the loss and the gradients
   of the 512 rows. -/
module

public import proofs.«01_k».proof.Proof.Pay1

@[expose] public section

set_option maxRecDepth 16384

noncomputable section

namespace Cert.Mid

open Idealize.ShloMosaic Cert.KernelIdeal Cert.KernelIdeal.Gen

variable (w : W) (ρ : Fin 512 → Row)

/-- The mean square of the recurrence's gated output, as the body passes it on. -/
abbrev msq : FVec Ideal S512x1 .f32 :=
  k0_pay41 (F := Ideal) (tile ρ Row.zs) (tile ρ (ylin w)) k0_pay32 (up2 w.wg .bf16) (one w.bg)

theorem pay47 : k0_pay47 (F := Ideal) (tile ρ na) (one w.ga) (tile ρ (ys w)) (msq w ρ) k0_pay42 (one w.gs) (up2 w.wo .bf16)
    (tile ρ Row.x) = tile ρ (cen w) := by
  unfold k0_pay47; rw [pay46]
  funext j; idx_vars j; pointwise []
  simp only [up, lits, arith, cen, pre]

theorem pay48 : k0_pay48 (F := Ideal) (tile ρ na) (one w.ga) (tile ρ (ys w)) (msq w ρ) k0_pay42 (one w.gs) (up2 w.wo .bf16)
    (tile ρ Row.x) = col ρ (rstd w) := by
  unfold k0_pay48; rw [pay47]
  funext j; idx_vars j; pointwise []
  simp only [up, lits, arith, rsqrt_norm, rstd]

theorem pay49 : k0_pay49 (F := Ideal) (tile ρ na) (one w.ga) (tile ρ (ys w)) (msq w ρ) k0_pay42 (one w.gs) (up2 w.wo .bf16)
    (tile ρ Row.x) = tile ρ (hh w) := by
  unfold k0_pay49; rw [pay47, pay48]
  funext j; idx_vars j; pointwise []
  simp only [up, arith, hh]

theorem pay50 : k0_pay50 (F := Ideal) (one w.lg) = one w.lg := by
  funext j; idx_vars j; pointwise [k0_pay50]

theorem pay51 : k0_pay51 (F := Ideal) (tile ρ na) (one w.ga) (tile ρ (ys w)) (msq w ρ) k0_pay42 (one w.gs) (up2 w.wo .bf16)
    (tile ρ Row.x) (one w.lg) (one w.lb) = tile ρ (yln w) := by
  unfold k0_pay51; rw [pay49, pay50]
  funext j; idx_vars j; pointwise []
  simp only [up, arith, yln]

theorem pay52 : k0_pay52 (F := Ideal) (tile ρ (yln w)) (tile ρ Row.t) = tile ρ (err w) := by
  funext j; idx_vars j; pointwise [k0_pay52]
  simp only [up, arith, err]

theorem pay53 (f : ℝ) : k0_pay53 (F := Ideal) (tile ρ (yln w)) (tile ρ Row.t) (up2 fun _ _ => f)
    = up2 fun _ _ => f + 1 / 2 * ∑ r, lrow w (ρ r) := by
  unfold k0_pay53; rw [pay52]
  funext j; idx_vars j; pointwise []
  simp only [up, lits, arith, lrow, Fin.sum_univ_one]

theorem pay54 : k0_pay54 (F := Ideal) (tile ρ (yln w)) (tile ρ Row.t) = tile ρ (dh w) := by
  unfold k0_pay54; rw [pay52]
  funext j; idx_vars j; pointwise []
  simp only [up, lits, arith, dh]

theorem pay57 : k0_pay57 (F := Ideal) (one w.lg) (tile ρ (yln w)) (tile ρ Row.t) = tile ρ (dhh w) := by
  unfold k0_pay57; rw [pay54]
  funext j; idx_vars j; pointwise []
  simp only [up, arith, dhh]

theorem pay58 : k0_pay58 (F := Ideal) (one w.lg) (tile ρ (yln w)) (tile ρ Row.t) = col ρ (sdhh w) := by
  unfold k0_pay58; rw [pay57]
  funext j; idx_vars j; pointwise []
  simp only [up, arith, sdhh]

theorem pay59 : k0_pay59 (F := Ideal) (col ρ (rstd w)) (tile ρ (hh w)) (tile ρ (dhh w)) (col ρ (sdhh w)) = tile ρ (dpre w) := by
  unfold k0_pay59
  funext j; idx_vars j; pointwise []
  simp only [up, lits, arith, dpre]

theorem pay60 : k0_pay60 (F := Ideal) (col ρ (rstd w)) (tile ρ (hh w)) (tile ρ (dhh w)) (col ρ (sdhh w)) = tile ρ (dpre w) .bf16 := by
  unfold k0_pay60; rw [pay59]
  funext j; idx_vars j; pointwise []
  simp only [up]

theorem pay76 : k0_pay76 (F := Ideal) (tile ρ (dpre w) .bf16) (up2 w.wo .bf16) = tile ρ (dmix w) := by
  unfold k0_pay76
  funext j; idx_vars j; pointwise []
  simp only [up, arith, dmix]

theorem pay77 : k0_pay77 (F := Ideal) (tile ρ (dpre w) .bf16) (up2 w.wo .bf16) = tile ρ (dna w) := by
  unfold k0_pay77; rw [pay76]
  funext j; idx_vars j; pointwise []
  simp only [up, dna]

theorem pay79 : k0_pay79 (F := Ideal) (col ρ ra) (tile ρ na) (one w.ga) (tile ρ (dpre w) .bf16) (up2 w.wo .bf16) = tile ρ (dya w) := by
  unfold k0_pay79; rw [pay77]
  funext j; idx_vars j; pointwise []
  simp only [up, lits, arith, dya, drms]

theorem pay80 : k0_pay80 (F := Ideal) (tile ρ silua) (col ρ ra) (tile ρ na) (one w.ga) (tile ρ (dpre w) .bf16) (up2 w.wo .bf16)
    = tile ρ (dov w) := by
  unfold k0_pay80; rw [pay79]
  funext j; idx_vars j; pointwise []
  simp only [up, arith, dov]

theorem pay81 : k0_pay81 (F := Ideal) (tile ρ Row.o) (tile ρ Row.za) (tile ρ sa) (col ρ ra) (tile ρ na) (one w.ga)
    (tile ρ (dpre w) .bf16) (up2 w.wo .bf16) = tile ρ (dza w) := by
  unfold k0_pay81; rw [pay79]
  funext j; idx_vars j; pointwise []
  simp only [up, lits, arith, dza]

theorem pay82 : k0_pay82 (F := Ideal) (tile ρ (dpre w) .bf16) (up2 w.wo .bf16) = tile ρ (dns w) := by
  unfold k0_pay82; rw [pay76]
  funext j; idx_vars j; pointwise []
  simp only [up, dns]

theorem pay84 : k0_pay84 (F := Ideal) (col ρ (rs w)) (tile ρ (ns w)) (one w.gs) (tile ρ (dns w)) = tile ρ (dys w) := by
  unfold k0_pay84
  funext j; idx_vars j; pointwise []
  simp only [up, lits, arith, dys, drms]

theorem pay85 : k0_pay85 (F := Ideal) (tile ρ Row.zs) (tile ρ (y2 w)) (tile ρ ss) (col ρ (rs w)) (tile ρ (ns w)) (one w.gs)
    (tile ρ (dns w)) = tile ρ (dzs w) := by
  unfold k0_pay85; rw [pay84]
  funext j; idx_vars j; pointwise []
  simp only [up, lits, arith, dzs]

theorem pay86 : k0_pay86 (F := Ideal) (tile ρ silus) (col ρ (rs w)) (tile ρ (ns w)) (one w.gs) (tile ρ (dns w)) = tile ρ (dy2 w) := by
  unfold k0_pay86; rw [pay84]
  funext j; idx_vars j; pointwise []
  simp only [up, arith, dy2]

theorem pay87 : k0_pay87 (F := Ideal) (tile ρ (gl w)) (tile ρ (sgt w)) (tile ρ silus) (col ρ (rs w)) (tile ρ (ns w)) (one w.gs)
    (tile ρ (dns w)) = tile ρ (da w) := by
  unfold k0_pay87; rw [pay86]
  funext j; idx_vars j; pointwise []
  simp only [up, lits, arith, da]

theorem pay89 : k0_pay89 (F := Ideal) (tile ρ (gl w)) (tile ρ (sgt w)) (tile ρ silus) (col ρ (rs w)) (tile ρ (ns w)) (one w.gs)
    (tile ρ (dns w)) = tile ρ (da w) .bf16 := by
  unfold k0_pay89; rw [pay87]
  funext j; idx_vars j; pointwise []
  simp only [up]

theorem pay91 : k0_pay91 (F := Ideal) (tile ρ (ylin w)) (tile ρ (th w)) (tile ρ (sgt w)) (tile ρ (dy2 w)) (tile ρ (da w) .bf16)
    (up2 w.wg .bf16) = tile ρ (dyl w) := by
  unfold k0_pay91
  funext j; idx_vars j; pointwise []
  simp only [named_3k, up, lits, arith, dyl, dgl]

theorem pay92 : k0_pay92 (F := Ideal) (tile ρ (ylin w)) (tile ρ (th w)) (tile ρ (sgt w)) (tile ρ (dy2 w)) (tile ρ (da w) .bf16)
    (up2 w.wg .bf16) = slab ρ (dyl w) 0 := by
  unfold k0_pay92; rw [pay91]
  funext j; idx_vars j; pointwise []
  simp only [up]; congr 2; apply Fin.ext; simp

theorem pay1 : k0_pay1 (F := Ideal) (k0_pay93 (tile ρ (ylin w)) (tile ρ (th w)) (tile ρ (sgt w)) (tile ρ (dy2 w)) (tile ρ (da w) .bf16)
    (up2 w.wg .bf16)) = slab ρ (dyl w) 1 := by
  unfold k0_pay1 k0_pay93; rw [pay91]
  funext j; idx_vars j; pointwise []
  simp only [up]; congr 2

theorem pay2 : k0_pay2 (F := Ideal) (tile ρ (dyl w)) = slab ρ (dyl w) 2 := by
  unfold k0_pay2
  funext j; idx_vars j; pointwise []
  simp only [up]; congr 2

theorem pay3 : k0_pay3 (F := Ideal) (tile ρ (dyl w)) = slab ρ (dyl w) 3 := by
  unfold k0_pay3
  funext j; idx_vars j; pointwise []
  simp only [up]; congr 2

end Cert.Mid

end
-- ==== Proof.Pay3.lean ====
/- The values of the kernel's body at one grid point, on finite arrays: what it adds to the sums over rows (the
   gradients of the weights, gains and biases), the zeros it starts them from, and the copy of the output weight. -/
module

public import proofs.«01_k».proof.Proof.Pay2

@[expose] public section

set_option maxRecDepth 16384

noncomputable section

namespace Cert.Mid

open Idealize.ShloMosaic Cert.KernelIdeal Cert.KernelIdeal.Gen

variable (w : W) (ρ : Fin 512 → Row)

/-- What 512 rows add to the gradient of the output weight. -/
def gwoT (k j : Fin 1024) : ℝ := ∑ r, mixed w (ρ r) k * dpre w (ρ r) j
/-- What 512 rows add to the gradient of the gate's weight. -/
def gwgT (k j : Fin 512) : ℝ := ∑ r, gl w (ρ r) k * da w (ρ r) j
/-- The rows `o …` of what is added to the gradient of the output weight, added to `f`. -/
abbrev addT {a : ℕ} (o : ℕ) (h : o + a ≤ 1024) (f : Fin a → Fin 1024 → ℝ) : FVec Ideal ⟨2, ![a, 1024]⟩ .f32 :=
  up2 fun i j => f i j + gwoT w ρ ⟨o + i.val, by omega⟩ j
/-- The sum over the rows of a value of each, added to a vector. -/
abbrev addR {b : ℕ} (f : Fin b → ℝ) (g : Row → Fin b → ℝ) : FVec Ideal ⟨2, ![1, b]⟩ .f32 := one fun j => f j + ∑ r, g (ρ r) j

theorem pay55 (f : Fin 1024 → ℝ) : k0_pay55 (F := Ideal) (tile ρ (hh w)) (tile ρ (yln w)) (tile ρ Row.t) (one f)
    = addR ρ f fun p j => dh w p j * hh w p j := by
  unfold k0_pay55; rw [pay54]
  funext j; idx_vars j; pointwise []
  simp only [up, arith]

theorem pay56 (f : Fin 1024 → ℝ) : k0_pay56 (F := Ideal) (tile ρ (yln w)) (tile ρ Row.t) (one f) = addR ρ f (dh w) := by
  unfold k0_pay56; rw [pay54]
  funext j; idx_vars j; pointwise []
  simp only [up, arith]

/-- The product of the 128 columns `o …` of the mixed values with the gradients before the norm gives the rows `o …` of what is added
    to the gradient of the output weight. -/
theorem pay61 : k0_pay61 (F := Ideal) (tile ρ (mixed w) .bf16) (col ρ (rstd w)) (tile ρ (hh w)) (tile ρ (dhh w)) (col ρ (sdhh w)) = up2 fun i j => gwoT w ρ ⟨0 + i.val, by omega⟩ j := by
  unfold k0_pay61; rw [pay60]
  funext j; idx_vars j; pointwise []
  simp only [up, arith, gwoT]

theorem pay64 : k0_pay64 (F := Ideal) (tile ρ (mixed w) .bf16) (col ρ (rstd w)) (tile ρ (hh w)) (tile ρ (dhh w)) (col ρ (sdhh w)) = up2 fun i j => gwoT w ρ ⟨128 + i.val, by omega⟩ j := by
  unfold k0_pay64; rw [pay60]
  funext j; idx_vars j; pointwise []
  simp only [up, arith, gwoT]

theorem pay67 : k0_pay67 (F := Ideal) (tile ρ (mixed w) .bf16) (tile ρ (dpre w) .bf16) = up2 fun i j => gwoT w ρ ⟨256 + i.val, by omega⟩ j := by
  unfold k0_pay67
  funext j; idx_vars j; pointwise []
  simp only [up, arith, gwoT]

theorem pay70 : k0_pay70 (F := Ideal) (tile ρ (mixed w) .bf16) (tile ρ (dpre w) .bf16) = up2 fun i j => gwoT w ρ ⟨384 + i.val, by omega⟩ j := by
  unfold k0_pay70
  funext j; idx_vars j; pointwise []
  simp only [up, arith, gwoT]

variable (f : Fin 64 → Fin 1024 → ℝ)

theorem pay62 : k0_pay62 (F := Ideal) (tile ρ (mixed w) .bf16) (col ρ (rstd w)) (tile ρ (hh w)) (tile ρ (dhh w)) (col ρ (sdhh w)) (up2 f) = addT w ρ 0 (by omega) f := by
  unfold k0_pay62; rw [pay61]
  funext j; idx_vars j; pointwise []
  simp only [up, arith, ← Nat.add_assoc, Nat.zero_add]

theorem pay63 : k0_pay63 (F := Ideal) (tile ρ (mixed w) .bf16) (col ρ (rstd w)) (tile ρ (hh w)) (tile ρ (dhh w)) (col ρ (sdhh w)) (up2 f) = addT w ρ 64 (by omega) f := by
  unfold k0_pay63; rw [pay61]
  funext j; idx_vars j; pointwise []
  simp only [up, arith, ← Nat.add_assoc, Nat.zero_add]

theorem pay65 : k0_pay65 (F := Ideal) (tile ρ (mixed w) .bf16) (col ρ (rstd w)) (tile ρ (hh w)) (tile ρ (dhh w)) (col ρ (sdhh w)) (up2 f) = addT w ρ 128 (by omega) f := by
  unfold k0_pay65; rw [pay64]
  funext j; idx_vars j; pointwise []
  simp only [up, arith, ← Nat.add_assoc]

theorem pay66 : k0_pay66 (F := Ideal) (k0_pay64 (tile ρ (mixed w) .bf16) (col ρ (rstd w)) (tile ρ (hh w)) (tile ρ (dhh w)) (col ρ (sdhh w))) (up2 f) = addT w ρ 192 (by omega) f := by
  unfold k0_pay66; rw [pay64]
  funext j; idx_vars j; pointwise []
  simp only [up, arith, ← Nat.add_assoc]

theorem pay68 : k0_pay68 (F := Ideal) (tile ρ (mixed w) .bf16) (tile ρ (dpre w) .bf16) (up2 f) = addT w ρ 256 (by omega) f := by
  unfold k0_pay68; rw [pay67]
  funext j; idx_vars j; pointwise []
  simp only [up, arith, ← Nat.add_assoc]

theorem pay69 : k0_pay69 (F := Ideal) (tile ρ (mixed w) .bf16) (tile ρ (dpre w) .bf16) (up2 f) = addT w ρ 320 (by omega) f := by
  unfold k0_pay69; rw [pay67]
  funext j; idx_vars j; pointwise []
  simp only [up, arith, ← Nat.add_assoc]

theorem pay71 : k0_pay71 (F := Ideal) (tile ρ (mixed w) .bf16) (tile ρ (dpre w) .bf16) (up2 f) = addT w ρ 384 (by omega) f := by
  unfold k0_pay71; rw [pay70]
  funext j; idx_vars j; pointwise []
  simp only [up, arith, ← Nat.add_assoc]

theorem pay72 : k0_pay72 (F := Ideal) (tile ρ (mixed w) .bf16) (tile ρ (dpre w) .bf16) (up2 f) = addT w ρ 448 (by omega) f := by
  unfold k0_pay72; rw [pay70]
  funext j; idx_vars j; pointwise []
  simp only [up, arith, ← Nat.add_assoc]

theorem pay75 (f : Fin 512 → Fin 1024 → ℝ) : k0_pay75 (F := Ideal) (tile ρ (dpre w) .bf16) (k0_pay73 (up2 f)) (k0_pay74 (tile ρ (mixed w) .bf16))
    (constant S512x1024 .f32 0x00000000#32) = addT w ρ 512 (by omega) f := by
  unfold k0_pay75 k0_pay74 k0_pay73
  funext j; idx_vars j; pointwise []
  simp only [up, arith, gwoT]

theorem pay78 (f : Fin 512 → ℝ) : k0_pay78 (F := Ideal) (tile ρ na) (tile ρ (dpre w) .bf16) (up2 w.wo .bf16) (one f)
    = addR ρ f fun p j => dna w p j * na p j := by
  unfold k0_pay78; rw [pay77]
  funext j; idx_vars j; pointwise []
  simp only [up, arith]

theorem pay83 (f : Fin 512 → ℝ) : k0_pay83 (F := Ideal) (tile ρ (ns w)) (tile ρ (dns w)) (one f)
    = addR ρ f fun p j => dns w p j * ns w p j := by
  unfold k0_pay83
  funext j; idx_vars j; pointwise []
  simp only [up, arith]

theorem pay88 (f : Fin 512 → ℝ) : k0_pay88 (F := Ideal) (tile ρ (gl w)) (tile ρ (sgt w)) (tile ρ silus) (col ρ (rs w)) (tile ρ (ns w)) (one w.gs)
    (tile ρ (dns w)) (one f) = addR ρ f (da w) := by
  unfold k0_pay88; rw [pay87]
  funext j; idx_vars j; pointwise []
  simp only [up, arith]

theorem pay90 (f : Fin 512 → Fin 512 → ℝ) : k0_pay90 (F := Ideal) (tile ρ (gl w) .bf16) (tile ρ (da w) .bf16) (up2 f)
    = up2 fun k j => f k j + gwgT w ρ k j := by
  unfold k0_pay90
  funext j; idx_vars j; pointwise []
  simp only [up, arith, gwgT]

theorem pay4 (f : Fin 512 → ℝ) : k0_pay4 (F := Ideal) (tile ρ Row.u) (tile ρ (dyl w)) (one f)
    = addR ρ f fun p j => dyl w p j * p.u j := by
  unfold k0_pay4
  funext j; idx_vars j; pointwise []
  simp only [up, arith]

theorem pay5 : k0_pay5 (F := Ideal) = up2 fun _ _ => 0 := by
  funext j; idx_vars j; pointwise [k0_pay5]
  simp only [up, EReal.coe_zero]

theorem pay6 : k0_pay6 (F := Ideal) = up2 fun _ _ => 0 := by
  funext j; idx_vars j; pointwise [k0_pay6]
  simp only [up, EReal.coe_zero]

theorem pay7 : k0_pay7 (F := Ideal) = up2 fun _ _ => 0 := by
  funext j; idx_vars j; pointwise [k0_pay7]
  simp only [up, EReal.coe_zero]

theorem pay8 : k0_pay8 (F := Ideal) = up2 fun _ _ => 0 := by
  funext j; idx_vars j; pointwise [k0_pay8]
  simp only [up, EReal.coe_zero]

/-- The pieces of the output weight are copied as they are. -/
theorem copies (f : Fin 64 → Fin 1024 → ℝ) : k0_pay9 (F := Ideal) (up2 f .bf16) = up2 f .bf16 ∧ k0_pay10 (F := Ideal) (up2 f .bf16) = up2 f .bf16
    ∧ k0_pay11 (F := Ideal) (up2 f .bf16) = up2 f .bf16 ∧ k0_pay13 (F := Ideal) (k0_pay12 (up2 f .bf16)) = up2 f .bf16
    ∧ k0_pay14 (F := Ideal) (up2 f .bf16) = up2 f .bf16 ∧ k0_pay15 (F := Ideal) (up2 f .bf16) = up2 f .bf16
    ∧ k0_pay16 (F := Ideal) (up2 f .bf16) = up2 f .bf16 ∧ k0_pay17 (F := Ideal) (up2 f .bf16) = up2 f .bf16 := by
  refine ⟨?_, ?_, ?_, ?_, ?_, ?_, ?_, ?_⟩ <;> funext j <;> idx_vars j <;>
    pointwise [k0_pay9, k0_pay10, k0_pay11, k0_pay12, k0_pay13, k0_pay14, k0_pay15, k0_pay16, k0_pay17]

theorem pay18 (f : Fin 512 → Fin 1024 → ℝ) : k0_pay18 (F := Ideal) (up2 f .bf16) = up2 f .bf16 := by
  funext j; idx_vars j; pointwise [k0_pay18]

end Cert.Mid

end
-- ==== Proof.Perm.lean ====
/- The kernel holds the attention's 512 channels in another order: heads two by two. This module has that order, and
   the row's values on reordered data: they are the reordered values. -/
module

public import proofs.«01_k».proof.Proof.Model

@[expose] public section

noncomputable section

namespace Cert.Mid

/-- The channel at place `l` of the kernel's order: `l` is place `128 a + 64 b + c`, the channel is `256 b + 64 a + c`. -/
def pr (l : Fin 512) : Fin 512 := ⟨256 * (l.val / 64 % 2) + 64 * (l.val / 128) + l.val % 64, by omega⟩
/-- The place of a channel. -/
def ip (l : Fin 512) : Fin 512 := ⟨128 * (l.val / 64 % 4) + 64 * (l.val / 256) + l.val % 64, by omega⟩

theorem ip_pr : ∀ l : Fin 512, ip (pr l) = l := by decide +kernel
theorem pr_ip : ∀ l : Fin 512, pr (ip l) = l := by decide +kernel

/-- The order on the 1024 channels of both branches: the second half stays. -/
def prF (k : Fin 1024) : Fin 1024 := if h : k.val < 512 then ⟨(pr ⟨k.val, h⟩).val, by omega⟩ else k
def ipF (k : Fin 1024) : Fin 1024 := if h : k.val < 512 then ⟨(ip ⟨k.val, h⟩).val, by omega⟩ else k

theorem prF_lo (l : Fin 512) : prF ⟨l.val, by omega⟩ = ⟨(pr l).val, by omega⟩ := by
  rw [prF, dif_pos l.isLt]
theorem prF_hi (k : Fin 1024) (h : ¬k.val < 512) : prF k = k := by rw [prF, dif_neg h]

theorem ipF_prF : ∀ k : Fin 1024, ipF (prF k) = k := by decide +kernel
theorem prF_ipF : ∀ k : Fin 1024, prF (ipF k) = k := by decide +kernel

def eP : Fin 512 ≃ Fin 512 := ⟨pr, ip, ip_pr, pr_ip⟩
def eF : Fin 1024 ≃ Fin 1024 := ⟨prF, ipF, ipF_prF, prF_ipF⟩

/-- A sum over the channels may be taken in the kernel's order. -/
theorem sum_pr (f : Fin 512 → ℝ) : ∑ l, f (pr l) = ∑ l, f l := Equiv.sum_comp eP f
theorem sum_prF (f : Fin 1024 → ℝ) : ∑ l, f (prF l) = ∑ l, f l := Equiv.sum_comp eF f

/-- The weights and a row in the kernel's order. -/
def W.pair (w : W) : W := { w with ga := fun l => w.ga (pr l), wo := fun k => w.wo (prF k) }
def Row.pair (p : Row) : Row := { p with o := fun l => p.o (pr l), za := fun l => p.za (pr l) }

variable (w : W) (p : Row)

theorem ra_pair : ra p.pair = ra p := by
  unfold ra rms
  rw [show (∑ l, ya p.pair l * ya p.pair l) = ∑ l, ya p l * ya p l from sum_pr fun l => ya p l * ya p l]
theorem na_pair (l : Fin 512) : na p.pair l = na p (pr l) := by
  unfold na; rw [ra_pair]; rfl
theorem mixed_pair (k : Fin 1024) : mixed w.pair p.pair k = mixed w p (prF k) := by
  by_cases h : k.val < 512
  · have e : prF k = ⟨(pr ⟨k.val, h⟩).val, by omega⟩ := prF_lo ⟨k.val, h⟩
    have h' := (pr ⟨k.val, h⟩).isLt
    rw [e, mixed, dif_pos h, mixed, dif_pos h', na_pair]; rfl
  · rw [prF_hi k h, mixed, dif_neg h, mixed, dif_neg h]; rfl
theorem pre_pair (j : Fin 1024) : pre w.pair p.pair j = pre w p j := by
  unfold pre
  rw [show (∑ k, mixed w.pair p.pair k * w.pair.wo k j) = ∑ k, mixed w p k * w.wo k j from by
    rw [← sum_prF fun k => mixed w p k * w.wo k j]
    exact Finset.sum_congr rfl fun k _ => by rw [mixed_pair]; rfl]
  rfl
theorem pre_pair' : pre w.pair p.pair = pre w p := funext (pre_pair w p)
theorem cen_pair : cen w.pair p.pair = cen w p := by unfold cen; rw [pre_pair']
theorem rstd_pair : rstd w.pair p.pair = rstd w p := by unfold rstd; rw [cen_pair]
theorem hh_pair : hh w.pair p.pair = hh w p := by unfold hh; rw [cen_pair, rstd_pair]
theorem yln_pair : yln w.pair p.pair = yln w p := by unfold yln; rw [hh_pair]; rfl
theorem err_pair : err w.pair p.pair = err w p := by unfold err; rw [yln_pair]; rfl
theorem lrow_pair : lrow w.pair p.pair = lrow w p := by unfold lrow; rw [err_pair]
theorem dh_pair : dh w.pair p.pair = dh w p := by unfold dh; rw [err_pair]
theorem dhh_pair : dhh w.pair p.pair = dhh w p := by unfold dhh; rw [dh_pair]; rfl
theorem dpre_pair : dpre w.pair p.pair = dpre w p := by
  unfold dpre sdhh; rw [rstd_pair, hh_pair, dhh_pair]
theorem dmix_pair (k : Fin 1024) : dmix w.pair p.pair k = dmix w p (prF k) := by
  unfold dmix; rw [dpre_pair]; rfl
theorem dna_pair (l : Fin 512) : dna w.pair p.pair l = dna w p (pr l) := by
  unfold dna; rw [dmix_pair, prF_lo]
theorem dns_pair : dns w.pair p.pair = dns w p := by
  funext l; unfold dns; rw [dmix_pair, prF_hi _ (by dsimp only; omega)]
theorem dya_pair (l : Fin 512) : dya w.pair p.pair l = dya w p (pr l) := by
  unfold dya drms
  rw [ra_pair, dna_pair, na_pair, show (∑ i, dna w.pair p.pair i * w.pair.ga i * na p.pair i) = ∑ i, dna w p i * w.ga i * na p i from by
    rw [← sum_pr fun i => dna w p i * w.ga i * na p i]
    exact Finset.sum_congr rfl fun i _ => by rw [dna_pair, na_pair]; rfl]
  rfl
theorem dov_pair (l : Fin 512) : dov w.pair p.pair l = dov w p (pr l) := by
  unfold dov; rw [dya_pair]; rfl
theorem dza_pair (l : Fin 512) : dza w.pair p.pair l = dza w p (pr l) := by
  unfold dza; rw [dya_pair]; rfl
theorem dys_pair : dys w.pair p.pair = dys w p := by
  unfold dys; rw [dns_pair]; rfl
theorem dzs_pair : dzs w.pair p.pair = dzs w p := by unfold dzs; rw [dys_pair]; rfl
theorem dy2_pair : dy2 w.pair p.pair = dy2 w p := by unfold dy2; rw [dys_pair]; rfl
theorem da_pair : da w.pair p.pair = da w p := by unfold da; rw [dy2_pair]; rfl
theorem dgl_pair : dgl w.pair p.pair = dgl w p := by unfold dgl; rw [dy2_pair, da_pair]; rfl
theorem dyl_pair : dyl w.pair p.pair = dyl w p := by unfold dyl; rw [dgl_pair]; rfl

end Cert.Mid

end
-- ==== Proof.Pieces.lean ====
/- What is loaded from, and stored into, parts of buffers that hold arrays of reals. -/
module

public import proofs.«01_k».proof.Proof.MidFrame
public import proofs.«01_k».proof.Proof.Pay3
public import proofs.«01_k».proof.Proof.Perm
public import Idealize.ShloMosaic.Lib.Pipeline.ValueKit
public import Idealize.ShloMosaic.Lib.Pipeline.ReadBack

@[expose] public section

set_option maxRecDepth 16384

noncomputable section

namespace Cert.Mid

open Idealize.ShloMosaic Idealize.ShloMosaic.TcCoe Idealize.ShloMosaic.Tactic Cert.KernelIdeal Cert.KernelIdeal.Gen

/-- A value of each row of 512 numbers, held as four columns of 128. -/
abbrev slabs {n : ℕ} (ρ : Fin n → Row) (f : Row → Fin 512 → ℝ) : FVec Ideal ⟨3, ![4, n, 128]⟩ .f32 :=
  up3 (fun k r l => f (ρ r) ⟨128 * k.val + l.val, by omega⟩)

/-- The input blocks of point `t` are the rows `ρ` and the weights `w`, the output weight in its own order. -/
structure Blk (m : (ℓ : Loc nD τ sig) → Buf (Elt Ideal) ℓ) (c : Dev nD) (t : Fin cfg0.N) (w : W) (wo : Fin 1024 → Fin 1024 → ℝ)
    (ρ : Fin 512 → Row) : Prop where
  b0 : iblk m c 0 t = tile ρ Row.o
  b1 : iblk m c 1 t = tile ρ Row.za
  b2 : iblk m c 2 t = slabs ρ Row.u
  b3 : iblk m c 3 t = slabs ρ Row.yf
  b4 : iblk m c 4 t = slabs ρ Row.yb
  b5 : iblk m c 5 t = tile ρ Row.zs
  b6 : iblk m c 6 t = tile ρ Row.x
  b7 : iblk m c 7 t = tile ρ Row.t
  b8 : iblk m c 8 t = one w.d
  b9 : iblk m c 9 t = up2 w.wg .bf16
  b10 : iblk m c 10 t = one w.bg
  b11 : iblk m c 11 t = one w.ga
  b12 : iblk m c 12 t = one w.gs
  b13 : iblk m c 13 t = up2 wo .bf16
  b14 : iblk m c 14 t = one w.lg
  b15 : iblk m c 15 t = one w.lb
  hwo : w.wo = fun k => wo (prF k)

variable (w : W) (ρ : Fin 512 → Row)

/-! ## Loads of parts of a buffer -/

theorem ld_slab (f : Row → Fin 512 → ℝ) (k : Fin 4) (inb) :
    View.ld (Val := Elt Ideal) (e' := .f32) (slabs ρ f) (Rect.unit (s := S4x512x128) ![k.val, 0, 0] ![1, 512, 128] inb) = slab ρ f k := by
  funext j; idx_vars j
  rw [View.ld_unit_apply_of _ _ _ _ _ (ix3 k j1 j2) (by
    intro a; fin_cases a
    · show k.val = k.val + j0.val; omega
    · show j1.val = 0 + j1.val; omega
    · show j2.val = 0 + j2.val; omega)]
  rfl

/-- A load of one of the four columns. -/
theorem ld_slabs (f : Row → Fin 512 → ℝ) :
    (∀ inb, View.ld (Val := Elt Ideal) (e' := .f32) (slabs ρ f) (Rect.unit (s := S4x512x128) ![0, 0, 0] ![1, 512, 128] inb) = slab ρ f 0) ∧
    (∀ inb, View.ld (Val := Elt Ideal) (e' := .f32) (slabs ρ f) (Rect.unit (s := S4x512x128) ![1, 0, 0] ![1, 512, 128] inb) = slab ρ f 1) ∧
    (∀ inb, View.ld (Val := Elt Ideal) (e' := .f32) (slabs ρ f) (Rect.unit (s := S4x512x128) ![2, 0, 0] ![1, 512, 128] inb) = slab ρ f 2) ∧
    (∀ inb, View.ld (Val := Elt Ideal) (e' := .f32) (slabs ρ f) (Rect.unit (s := S4x512x128) ![3, 0, 0] ![1, 512, 128] inb) = slab ρ f 3) :=
  ⟨ld_slab ρ f 0, ld_slab ρ f 1, ld_slab ρ f 2, ld_slab ρ f 3⟩

theorem ld_block {a b n k : ℕ} {e : EltTy} (X : Vec Ideal ⟨2, ![a, b]⟩ e) (o o' : ℕ) (inb) (hn : o + n ≤ a) (hk : o' + k ≤ b)
    (i : Fin n) (j : Fin k) :
    View.ld (Val := Elt Ideal) (e' := e) X (Rect.unit (s := ⟨2, ![a, b]⟩) ![o, o'] ![n, k] inb) (ix2 i j)
      = X (ix2 ⟨o + i.val, by omega⟩ ⟨o' + j.val, by omega⟩) :=
  View.ld_unit_apply_of _ _ _ _ _ _ fun a => by fin_cases a <;> rfl

/-- A load of rows of a matrix. -/
theorem ld_rows (f : Fin 1024 → Fin 1024 → ℝ) (o : ℕ) :
    (∀ inb (h : o + 64 ≤ 1024), View.ld (Val := Elt Ideal) (e' := .f32) (up2 f) (Rect.unit (s := S1024x1024) ![o, 0] ![64, 1024] inb)
      = up2 fun (i : Fin 64) (j : Fin 1024) => f ⟨o + i.val, by omega⟩ j) ∧
    (∀ inb (h : o + 64 ≤ 1024), View.ld (Val := Elt Ideal) (e' := .bf16) (up2 f .bf16) (Rect.unit (s := S1024x1024) ![o, 0] ![64, 1024] inb)
      = up2 (fun (i : Fin 64) (j : Fin 1024) => f ⟨o + i.val, by omega⟩ j) .bf16) ∧
    (∀ inb (h : o + 512 ≤ 1024), View.ld (Val := Elt Ideal) (e' := .f32) (up2 f) (Rect.unit (s := S1024x1024) ![o, 0] ![512, 1024] inb)
      = up2 fun (i : Fin 512) (j : Fin 1024) => f ⟨o + i.val, by omega⟩ j) ∧
    (∀ inb (h : o + 512 ≤ 1024), View.ld (Val := Elt Ideal) (e' := .bf16) (up2 f .bf16) (Rect.unit (s := S1024x1024) ![o, 0] ![512, 1024] inb)
      = up2 (fun (i : Fin 512) (j : Fin 1024) => f ⟨o + i.val, by omega⟩ j) .bf16) := by
  refine ⟨?_, ?_, ?_, ?_⟩ <;> intro inb h <;> funext x <;> idx_vars x <;>
    (rw [ld_block _ _ _ _ h (by omega)]; simp only [up, Nat.zero_add])

/-- A load of a row of the vectors' gradients, of which the first four rows are known. -/
theorem ld_vec (X : Vec Ideal S8x1024 .f32) (f : Fin 8 → Fin 1024 → ℝ) (hX : ∀ i j, i.val < 4 → X (ix2 i j) = ((f i j : ℝ) : EReal)) :
    (∀ inb, View.ld (Val := Elt Ideal) (e' := .f32) X (Rect.unit (s := S8x1024) ![0, 0] ![1, 1024] inb) = one (f 0)) ∧
    (∀ inb, View.ld (Val := Elt Ideal) (e' := .f32) X (Rect.unit (s := S8x1024) ![1, 0] ![1, 1024] inb) = one (f 1)) ∧
    (∀ inb, View.ld (Val := Elt Ideal) (e' := .f32) X (Rect.unit (s := S8x1024) ![2, 0] ![1, 512] inb)
      = one fun j : Fin 512 => f 2 ⟨0 + j.val, by omega⟩) ∧
    (∀ inb, View.ld (Val := Elt Ideal) (e' := .f32) X (Rect.unit (s := S8x1024) ![2, 512] ![1, 512] inb)
      = one fun j : Fin 512 => f 2 ⟨512 + j.val, by omega⟩) ∧
    (∀ inb, View.ld (Val := Elt Ideal) (e' := .f32) X (Rect.unit (s := S8x1024) ![3, 0] ![1, 512] inb)
      = one fun j : Fin 512 => f 3 ⟨0 + j.val, by omega⟩) ∧
    (∀ inb, View.ld (Val := Elt Ideal) (e' := .f32) X (Rect.unit (s := S8x1024) ![3, 512] ![1, 512] inb)
      = one fun j : Fin 512 => f 3 ⟨512 + j.val, by omega⟩) := by
  refine ⟨?_, ?_, ?_, ?_, ?_, ?_⟩ <;> intro inb <;> funext x <;> idx_vars x <;>
    (rw [ld_block _ _ _ _ (by omega) (by omega), hX _ _ (by dsimp only; omega)]
     obtain rfl : x0 = 0 := Subsingleton.elim _ _
     simp only [up, Nat.zero_add]; rfl)

/-! ## Stores of parts of a buffer -/

/-- A stored block is a block of the whole. -/
theorem piece_up {a b n k : ℕ} {φ : FTy} {G : Fin a → Fin b → ℝ} {g : Fin n → Fin k → ℝ} {o o' : ℕ}
    (inb) (hg : ∀ (i : Fin n) (j : Fin k) (hi : o + i.val < a) (hj : o' + j.val < b), g i j = G ⟨o + i.val, hi⟩ ⟨o' + j.val, hj⟩)
    (x : (Rect.unit (s := ⟨2, ![a, b]⟩) ![o, o'] ![n, k] inb).shape.Idx) :
    (up2 g φ : FVec Ideal ⟨2, ![n, k]⟩ φ) x = up2 G φ ((Rect.unit (s := ⟨2, ![a, b]⟩) ![o, o'] ![n, k] inb).emb x) := by
  have h0 : o + n ≤ a := inb 0
  have h1 : o' + k ≤ b := inb 1
  have e := hg (x 0) (x 1) (lt_of_lt_of_le (Nat.add_lt_add_left (x 0).isLt o) h0) (lt_of_lt_of_le (Nat.add_lt_add_left (x 1).isLt o') h1)
  refine congrArg (fun z : ℝ => (z : EReal)) (e.trans ?_)
  congr 1 <;> apply Fin.ext
  · exact (Rect.idx_unit_val _ _ inb x 0).symm
  · exact (Rect.idx_unit_val _ _ inb x 1).symm

/-- Stores that are blocks of `G` and cover it, over any earlier stores. -/
theorem canon_take {s : Shape} {e : EltTy} (n : ℕ) {L : List (View.Piece (Elt Ideal) s e)} {G : s.Idx → Elt Ideal e}
    (h : View.PiecesOf G (L.take n)) (y : s.Idx) (hc : ∃ p ∈ L.take n, y ∈ p.1.set) : View.canon L y = G y := by
  conv_lhs => rw [← List.take_append_drop n L]
  exact View.canon_append_of_piecesOf G _ _ h y hc

theorem mem_block {a b n k o o' : ℕ} {inb} (i : Fin a) (j : Fin b) (h : o ≤ i.val ∧ i.val < o + n) (h' : o' ≤ j.val ∧ j.val < o' + k) :
    ix2 i j ∈ (Rect.unit (s := ⟨2, ![a, b]⟩) ![o, o'] ![n, k] inb).set := by
  rw [Rect.mem_set_unit]; intro x; fin_cases x
  · exact h
  · exact h'

theorem ipF_val (k : Fin 1024) : (ipF k).val = if k.val < 512 then 128 * (k.val / 64 % 4) + 64 * (k.val / 256) + k.val % 64 else k.val := by
  unfold ipF ip; split_ifs <;> rfl

theorem prF_val (k : Fin 1024) : (prF k).val = if k.val < 512 then 256 * (k.val / 64 % 2) + 64 * (k.val / 128) + k.val % 64 else k.val := by
  unfold prF pr; split_ifs <;> rfl

/-- The four columns, stored one by one, are the whole. -/
theorem canon_slabs (f : Row → Fin 512 → ℝ) (L : List (View.Piece (Elt Ideal) S4x512x128 .f32)) {i3 i2 i1 i0} (y : S4x512x128.Idx) :
    View.canon ((⟨Rect.unit (s := S4x512x128) ![3, 0, 0] ![1, 512, 128] i3, slab ρ f 3⟩ : View.Piece (Elt Ideal) S4x512x128 .f32)
      :: ⟨Rect.unit (s := S4x512x128) ![2, 0, 0] ![1, 512, 128] i2, slab ρ f 2⟩ :: ⟨Rect.unit (s := S4x512x128) ![1, 0, 0] ![1, 512, 128] i1, slab ρ f 1⟩
      :: ⟨Rect.unit (s := S4x512x128) ![0, 0, 0] ![1, 512, 128] i0, slab ρ f 0⟩ :: L) y = slabs ρ f y := by
  refine canon_take (e := .f32) (G := slabs ρ f) 4 ?_ y (View.cover_of_tiledBy _ ![1, 512, 128] (by sl_kernel_rfl) y)
  dsimp only [List.take]
  exact ⟨fun x => (congrFun (ld_slab ρ f 3 i3) x).symm, fun x => (congrFun (ld_slab ρ f 2 i2) x).symm,
    fun x => (congrFun (ld_slab ρ f 1 i1) x).symm, fun x => (congrFun (ld_slab ρ f 0 i0) x).symm, trivial⟩

/-- The rows of a matrix, stored in groups of 64 in the order of the pairs of heads and 512 at once, are the whole. -/
theorem canon_groups (G : Fin 1024 → Fin 1024 → ℝ) (L : List (View.Piece (Elt Ideal) S1024x1024 .f32)) {g : Fin 512 → Fin 1024 → ℝ}
    {g7 g3 g6 g2 g5 g1 g4 g0 : Fin 64 → Fin 1024 → ℝ} {i8 i7 i3 i6 i2 i5 i1 i4 i0}
    (h : ∀ i j, g i j = G ⟨512 + i.val, by omega⟩ j) (h7 : ∀ i j, g7 i j = G ⟨448 + i.val, by omega⟩ j) (h3 : ∀ i j, g3 i j = G ⟨192 + i.val, by omega⟩ j)
    (h6 : ∀ i j, g6 i j = G ⟨384 + i.val, by omega⟩ j) (h2 : ∀ i j, g2 i j = G ⟨128 + i.val, by omega⟩ j) (h5 : ∀ i j, g5 i j = G ⟨320 + i.val, by omega⟩ j)
    (h1 : ∀ i j, g1 i j = G ⟨64 + i.val, by omega⟩ j) (h4 : ∀ i j, g4 i j = G ⟨256 + i.val, by omega⟩ j) (h0 : ∀ i j, g0 i j = G ⟨0 + i.val, by omega⟩ j)
    (y : S1024x1024.Idx) :
    View.canon ((⟨Rect.unit (s := S1024x1024) ![512, 0] ![512, 1024] i8, up2 g .f32⟩ : View.Piece (Elt Ideal) S1024x1024 .f32)
      :: ⟨Rect.unit (s := S1024x1024) ![448, 0] ![64, 1024] i7, up2 g7 .f32⟩ :: ⟨Rect.unit (s := S1024x1024) ![192, 0] ![64, 1024] i3, up2 g3 .f32⟩
      :: ⟨Rect.unit (s := S1024x1024) ![384, 0] ![64, 1024] i6, up2 g6 .f32⟩ :: ⟨Rect.unit (s := S1024x1024) ![128, 0] ![64, 1024] i2, up2 g2 .f32⟩
      :: ⟨Rect.unit (s := S1024x1024) ![320, 0] ![64, 1024] i5, up2 g5 .f32⟩ :: ⟨Rect.unit (s := S1024x1024) ![64, 0] ![64, 1024] i1, up2 g1 .f32⟩
      :: ⟨Rect.unit (s := S1024x1024) ![256, 0] ![64, 1024] i4, up2 g4 .f32⟩ :: ⟨Rect.unit (s := S1024x1024) ![0, 0] ![64, 1024] i0, up2 g0 .f32⟩ :: L) y
      = up2 G .f32 y := by
  refine canon_take (e := .f32) (G := up2 G) 9 ?_ y (View.cover_of_tiledBy _ ![64, 1024] (by sl_kernel_rfl) y)
  dsimp only [List.take]
  refine ⟨fun x => piece_up i8 ?_ x, fun x => piece_up i7 ?_ x, fun x => piece_up i3 ?_ x, fun x => piece_up i6 ?_ x, fun x => piece_up i2 ?_ x, fun x => piece_up i5 ?_ x, fun x => piece_up i1 ?_ x, fun x => piece_up i4 ?_ x, fun x => piece_up i0 ?_ x, trivial⟩ <;>
    intro i j hi hj <;> rw [show (⟨0 + j.val, hj⟩ : Fin 1024) = j from Fin.ext (Nat.zero_add _)]
  · exact h i _
  · exact h7 i _
  · exact h3 i _
  · exact h6 i _
  · exact h2 i _
  · exact h5 i _
  · exact h1 i _
  · exact h4 i _
  · exact h0 i _

/-- The groups of 64 rows, and the last 512 rows, of a matrix, copied to the order of the pairs of heads, are the matrix in that order. -/
theorem canon_copies {f g : Fin 1024 → Fin 1024 → ℝ} (hg : g = fun k => f (prF k)) {i8 i7 i6 i5 i4 i3 i2 i1 i0} (y : S1024x1024.Idx) :
    View.canon ((⟨Rect.unit (s := S1024x1024) ![512, 0] ![512, 1024] i8, up2 (fun (i : Fin 512) j => f ⟨512 + i.val, by omega⟩ j) .bf16⟩ : View.Piece (Elt Ideal) S1024x1024 .bf16)
      :: ⟨Rect.unit (s := S1024x1024) ![448, 0] ![64, 1024] i7, up2 (fun (i : Fin 64) j => f ⟨448 + i.val, by omega⟩ j) .bf16⟩
      :: ⟨Rect.unit (s := S1024x1024) ![384, 0] ![64, 1024] i6, up2 (fun (i : Fin 64) j => f ⟨192 + i.val, by omega⟩ j) .bf16⟩
      :: ⟨Rect.unit (s := S1024x1024) ![320, 0] ![64, 1024] i5, up2 (fun (i : Fin 64) j => f ⟨384 + i.val, by omega⟩ j) .bf16⟩
      :: ⟨Rect.unit (s := S1024x1024) ![256, 0] ![64, 1024] i4, up2 (fun (i : Fin 64) j => f ⟨128 + i.val, by omega⟩ j) .bf16⟩
      :: ⟨Rect.unit (s := S1024x1024) ![192, 0] ![64, 1024] i3, up2 (fun (i : Fin 64) j => f ⟨320 + i.val, by omega⟩ j) .bf16⟩
      :: ⟨Rect.unit (s := S1024x1024) ![128, 0] ![64, 1024] i2, up2 (fun (i : Fin 64) j => f ⟨64 + i.val, by omega⟩ j) .bf16⟩
      :: ⟨Rect.unit (s := S1024x1024) ![64, 0] ![64, 1024] i1, up2 (fun (i : Fin 64) j => f ⟨256 + i.val, by omega⟩ j) .bf16⟩
      :: ⟨Rect.unit (s := S1024x1024) ![0, 0] ![64, 1024] i0, up2 (fun (i : Fin 64) j => f ⟨0 + i.val, by omega⟩ j) .bf16⟩ :: []) y
      = up2 g .bf16 y := by
  subst hg
  refine canon_take (e := .bf16) (G := up2 (fun k => f (prF k)) .bf16) 9 ?_ y (View.cover_of_tiledBy _ ![64, 1024] (by sl_kernel_rfl) y)
  have block {n o : ℕ} {g : Fin n → Fin 1024 → ℝ} (inb) hg := piece_up (φ := .bf16) (G := fun k => f (prF k)) (g := g) (o := o) (o' := 0) inb hg
  dsimp only [List.take, View.PiecesOf]
  refine ⟨fun x => block i8 ?_ x, fun x => block i7 ?_ x, fun x => block i6 ?_ x, fun x => block i5 ?_ x, fun x => block i4 ?_ x, fun x => block i3 ?_ x, fun x => block i2 ?_ x, fun x => block i1 ?_ x, fun x => block i0 ?_ x, trivial⟩ <;>
  · intro i j hi hj
    have e : j = ⟨0 + j.val, hj⟩ := Fin.ext (by simp)
    rw [← e]
    congr 1
    apply Fin.ext; rw [prF_val]; dsimp only; split_ifs <;> omega

/-- A load of the whole of the copied matrix. -/
theorem readCov_copies {f g : Fin 1024 → Fin 1024 → ℝ} (hg : g = fun k => f (prF k)) {i8 i7 i6 i5 i4 i3 i2 i1 i0} {κ sp} (v : View sig κ sp S1024x1024 .bf16) (inb) :
    v.readCov [(⟨Rect.unit (s := S1024x1024) ![512, 0] ![512, 1024] i8, up2 (fun (i : Fin 512) j => f ⟨512 + i.val, by omega⟩ j) .bf16⟩ : View.Piece (Elt Ideal) S1024x1024 .bf16),
      ⟨Rect.unit (s := S1024x1024) ![448, 0] ![64, 1024] i7, up2 (fun (i : Fin 64) j => f ⟨448 + i.val, by omega⟩ j) .bf16⟩,
      ⟨Rect.unit (s := S1024x1024) ![384, 0] ![64, 1024] i6, up2 (fun (i : Fin 64) j => f ⟨192 + i.val, by omega⟩ j) .bf16⟩,
      ⟨Rect.unit (s := S1024x1024) ![320, 0] ![64, 1024] i5, up2 (fun (i : Fin 64) j => f ⟨384 + i.val, by omega⟩ j) .bf16⟩,
      ⟨Rect.unit (s := S1024x1024) ![256, 0] ![64, 1024] i4, up2 (fun (i : Fin 64) j => f ⟨128 + i.val, by omega⟩ j) .bf16⟩,
      ⟨Rect.unit (s := S1024x1024) ![192, 0] ![64, 1024] i3, up2 (fun (i : Fin 64) j => f ⟨320 + i.val, by omega⟩ j) .bf16⟩,
      ⟨Rect.unit (s := S1024x1024) ![128, 0] ![64, 1024] i2, up2 (fun (i : Fin 64) j => f ⟨64 + i.val, by omega⟩ j) .bf16⟩,
      ⟨Rect.unit (s := S1024x1024) ![64, 0] ![64, 1024] i1, up2 (fun (i : Fin 64) j => f ⟨256 + i.val, by omega⟩ j) .bf16⟩,
      ⟨Rect.unit (s := S1024x1024) ![0, 0] ![64, 1024] i0, up2 (fun (i : Fin 64) j => f ⟨0 + i.val, by omega⟩ j) .bf16⟩]
      (Rect.unit (s := S1024x1024) ![0, 0] ![1024, 1024] inb).toLoadRect = up2 g .bf16 := by
  rw [View.readCov_eq_canon']
  funext y
  refine Eq.trans ?_ (canon_copies hg (i8 := i8) (i7 := i7) (i6 := i6) (i5 := i5) (i4 := i4) (i3 := i3) (i2 := i2) (i1 := i1) (i0 := i0) y)
  congr 1
  funext a; apply Fin.ext
  fin_cases a
  · exact (Rect.idx_unit_val _ _ inb y 0).trans (Nat.zero_add _)
  · exact (Rect.idx_unit_val _ _ inb y 1).trans (Nat.zero_add _)

/-- The first four rows of the vectors' gradients, stored by rows and halves of rows, are the values stored, over any earlier stores. -/
theorem canon_vecs (G : Fin 8 → Fin 1024 → ℝ) (L : List (View.Piece (Elt Ideal) S8x1024 .f32)) {r0 r1 : Fin 1024 → ℝ} {r20 r21 r30 r31 : Fin 512 → ℝ}
    {i5 i4 i3 i2 i1 i0}
    (h30 : ∀ j, r30 j = G 3 ⟨0 + j.val, by omega⟩) (h31 : ∀ j, r31 j = G 3 ⟨512 + j.val, by omega⟩) (h21 : ∀ j, r21 j = G 2 ⟨512 + j.val, by omega⟩)
    (h20 : ∀ j, r20 j = G 2 ⟨0 + j.val, by omega⟩) (h1 : ∀ j, r1 j = G 1 j) (h0 : ∀ j, r0 j = G 0 j) (i : Fin 8) (j : Fin 1024) (hi : i.val < 4) :
    View.canon ((⟨Rect.unit (s := S8x1024) ![3, 0] ![1, 512] i5, one r30⟩ : View.Piece (Elt Ideal) S8x1024 .f32)
      :: ⟨Rect.unit (s := S8x1024) ![3, 512] ![1, 512] i4, one r31⟩ :: ⟨Rect.unit (s := S8x1024) ![2, 512] ![1, 512] i3, one r21⟩
      :: ⟨Rect.unit (s := S8x1024) ![2, 0] ![1, 512] i2, one r20⟩ :: ⟨Rect.unit (s := S8x1024) ![1, 0] ![1, 1024] i1, one r1⟩
      :: ⟨Rect.unit (s := S8x1024) ![0, 0] ![1, 1024] i0, one r0⟩ :: L) (ix2 i j) = up2 G .f32 (ix2 i j)
    ∧ ∃ p ∈ ((⟨Rect.unit (s := S8x1024) ![3, 0] ![1, 512] i5, one r30⟩ : View.Piece (Elt Ideal) S8x1024 .f32)
      :: ⟨Rect.unit (s := S8x1024) ![3, 512] ![1, 512] i4, one r31⟩ :: ⟨Rect.unit (s := S8x1024) ![2, 512] ![1, 512] i3, one r21⟩
      :: ⟨Rect.unit (s := S8x1024) ![2, 0] ![1, 512] i2, one r20⟩ :: ⟨Rect.unit (s := S8x1024) ![1, 0] ![1, 1024] i1, one r1⟩
      :: ⟨Rect.unit (s := S8x1024) ![0, 0] ![1, 1024] i0, one r0⟩ :: L), ix2 i j ∈ p.1.set := by
  have hc : ∃ p ∈ ((⟨Rect.unit (s := S8x1024) ![3, 0] ![1, 512] i5, one r30⟩ : View.Piece (Elt Ideal) S8x1024 .f32)
      :: ⟨Rect.unit (s := S8x1024) ![3, 512] ![1, 512] i4, one r31⟩ :: ⟨Rect.unit (s := S8x1024) ![2, 512] ![1, 512] i3, one r21⟩
      :: ⟨Rect.unit (s := S8x1024) ![2, 0] ![1, 512] i2, one r20⟩ :: ⟨Rect.unit (s := S8x1024) ![1, 0] ![1, 1024] i1, one r1⟩
      :: ⟨Rect.unit (s := S8x1024) ![0, 0] ![1, 1024] i0, one r0⟩ :: []), ix2 i j ∈ p.1.set := by
    simp only [List.exists_mem_cons_iff]
    have hj := j.isLt
    by_cases c0 : i.val = 0
    · exact .inr (.inr (.inr (.inr (.inr (.inl (mem_block i j (by omega) (by omega)))))))
    by_cases c1 : i.val = 1
    · exact .inr (.inr (.inr (.inr (.inl (mem_block i j (by omega) (by omega))))))
    by_cases cj : j.val < 512
    · by_cases c2 : i.val = 2
      · exact .inr (.inr (.inr (.inl (mem_block i j (by omega) (by omega)))))
      · exact .inl (mem_block i j (by omega) (by omega))
    · by_cases c2 : i.val = 2
      · exact .inr (.inr (.inl (mem_block i j (by omega) (by omega))))
      · exact .inr (.inl (mem_block i j (by omega) (by omega)))
  refine ⟨?_, hc.imp fun p hp => ⟨?_, hp.2⟩⟩
  · refine canon_take (e := .f32) (G := up2 G .f32) 6 ?_ _ hc
    dsimp only [List.take]
    refine ⟨fun x => piece_up (G := G) (g := fun _ => r30) i5 ?_ x, fun x => piece_up (G := G) (g := fun _ => r31) i4 ?_ x, fun x => piece_up (G := G) (g := fun _ => r21) i3 ?_ x,
      fun x => piece_up (G := G) (g := fun _ => r20) i2 ?_ x, fun x => piece_up (G := G) (g := fun _ => r1) i1 ?_ x, fun x => piece_up (G := G) (g := fun _ => r0) i0 ?_ x, trivial⟩ <;>
      intro i j hi hj <;> obtain rfl : i = 0 := Subsingleton.elim _ _
    · exact h30 j
    · exact h31 j
    · exact h21 j
    · exact h20 j
    · rw [h1]; congr 1; exact Fin.ext (Nat.zero_add _).symm
    · rw [h0]; congr 1; exact Fin.ext (Nat.zero_add _).symm
  · have := hp.1
    simp only [List.mem_cons, List.not_mem_nil, or_false] at this ⊢
    tauto

/-- The gradients of the vectors that 512 rows add: the gain and the bias of the layer norm, the two gains of the norms,
    the direct term's factor and the gate's bias. -/
def vecT (i : Fin 8) (j : Fin 1024) : ℝ :=
  if i.val = 0 then ∑ r, dh w (ρ r) j * hh w (ρ r) j else if i.val = 1 then ∑ r, dh w (ρ r) j
  else if h : j.val < 512 then
    (if i.val = 2 then ∑ r, dna w (ρ r) ⟨j.val, h⟩ * na (ρ r) ⟨j.val, h⟩ else ∑ r, dyl w (ρ r) ⟨j.val, h⟩ * (ρ r).u ⟨j.val, h⟩)
  else (if i.val = 2 then ∑ r, dns w (ρ r) ⟨j.val - 512, by omega⟩ * ns w (ρ r) ⟨j.val - 512, by omega⟩
    else ∑ r, da w (ρ r) ⟨j.val - 512, by omega⟩)

/-- Its rows. -/
theorem vecT_rows :
    (∀ j : Fin 512, vecT w ρ 3 ⟨0 + j.val, by omega⟩ = ∑ r, dyl w (ρ r) j * (ρ r).u j) ∧
    (∀ j : Fin 512, vecT w ρ 3 ⟨512 + j.val, by omega⟩ = ∑ r, da w (ρ r) j) ∧
    (∀ j : Fin 512, vecT w ρ 2 ⟨512 + j.val, by omega⟩ = ∑ r, dns w (ρ r) j * ns w (ρ r) j) ∧
    (∀ j : Fin 512, vecT w ρ 2 ⟨0 + j.val, by omega⟩ = ∑ r, dna w (ρ r) j * na (ρ r) j) ∧
    (∀ j, vecT w ρ 1 j = ∑ r, dh w (ρ r) j) ∧ ∀ j, vecT w ρ 0 j = ∑ r, dh w (ρ r) j * hh w (ρ r) j := by
  refine ⟨fun j => ?_, fun j => ?_, fun j => ?_, fun j => ?_, fun j => ?_, fun j => ?_⟩ <;> simp [vecT]

variable {m : (ℓ : Loc nD τ sig) → Buf (Elt Ideal) ℓ} {c : Dev nD} {t : Fin cfg0.N} {wo : Fin 1024 → Fin 1024 → ℝ} {w : W} {ρ : Fin 512 → Row}

end Cert.Mid

end
-- ==== Proof.Entry.lean ====
/- What the call's operands hold, when the arguments hold arrays of reals: the host's lines before the call put the channels of
   the attention's half into the order of the pairs of heads, cut the recurrence's half into four columns of 128, and round two
   weights, which over the reals changes nothing. -/
module

public import proofs.«01_k».proof.Proof.Pieces
public import Idealize.ShloMosaic.Lib.Claim

@[expose] public section

set_option maxRecDepth 16384

noncomputable section

namespace Cert.Mid

open Idealize.ShloMosaic Idealize.ShloMosaic.TcCoe Idealize.ShloMosaic.Tactic Cert.KernelIdeal Cert.KernelIdeal.Gen

/-- On device `c` the arguments hold the weights `w` and the 4096 rows `q`. -/
structure Args (m : (ℓ : Loc nD τ sig) → Buf (Elt Ideal) ℓ) (c : Dev nD) (w : W) (q : Fin 4096 → Row) : Prop where
  o : m ((c.tc : Thread nD τ).loc main_arg0) = tile q Row.o
  za : m ((c.tc : Thread nD τ).loc main_arg1) = tile q Row.za
  u : m ((c.tc : Thread nD τ).loc main_arg2) = tile q Row.u
  yf : m ((c.tc : Thread nD τ).loc main_arg3) = tile q Row.yf
  yb : m ((c.tc : Thread nD τ).loc main_arg4) = tile q Row.yb
  zs : m ((c.tc : Thread nD τ).loc main_arg5) = tile q Row.zs
  x : m ((c.tc : Thread nD τ).loc main_arg6) = tile q Row.x
  t : m ((c.tc : Thread nD τ).loc main_arg7) = tile q Row.t
  d : m ((c.tc : Thread nD τ).loc main_arg8) = up1 w.d
  wg : m ((c.tc : Thread nD τ).loc main_arg9) = up2 w.wg
  bg : m ((c.tc : Thread nD τ).loc main_arg10) = up1 w.bg
  ga : m ((c.tc : Thread nD τ).loc main_arg11) = up1 w.ga
  gs : m ((c.tc : Thread nD τ).loc main_arg12) = up1 w.gs
  wo : m ((c.tc : Thread nD τ).loc main_arg13) = up2 w.wo
  lg : m ((c.tc : Thread nD τ).loc main_arg14) = up1 w.lg
  lb : m ((c.tc : Thread nD τ).loc main_arg15) = up1 w.lb

variable {m : (ℓ : Loc nD τ sig) → Buf (Elt Ideal) ℓ} {c : Dev nD} {w : W} {q : Fin 4096 → Row} (h : Args m c w q)
include h

/-! ## The operands -/

theorem V_v2 : V m c main_v2 = tile (fun r => (q r).pair) Row.o := by
  simp only [V, V0, hostOps0, List.flatten_cons, List.flatten_nil, List.append_nil]; after_results
  rw [show m (c, Proc.devRef .tc main_arg0) = _ from h.o]; funext j; idx_vars j; pointwise []
  simp only [up, up1_at]
  exact congrArg (fun z : ℝ => (z : EReal)) (congrArg (q j0).o (Fin.ext (by show j1.val / 64 % 2 * 256 + j1.val / 128 * 64 + j1.val % 64 = 256 * (j1.val / 64 % 2) + 64 * (j1.val / 128) + j1.val % 64; omega)))

theorem V_v5 : V m c main_v5 = tile (fun r => (q r).pair) Row.za := by
  simp only [V, V0, hostOps0, List.flatten_cons, List.flatten_nil, List.append_nil]; after_results
  rw [show m (c, Proc.devRef .tc main_arg1) = _ from h.za]; funext j; idx_vars j; pointwise []
  simp only [up, up1_at]
  exact congrArg (fun z : ℝ => (z : EReal)) (congrArg (q j0).za (Fin.ext (by show j1.val / 64 % 2 * 256 + j1.val / 128 * 64 + j1.val % 64 = 256 * (j1.val / 64 % 2) + 64 * (j1.val / 128) + j1.val % 64; omega)))

theorem V_v7 : V m c main_v7 = slabs (fun r => (q r).pair) Row.u := by
  simp only [V, V0, hostOps0, List.flatten_cons, List.flatten_nil, List.append_nil]; after_results
  rw [show m (c, Proc.devRef .tc main_arg2) = _ from h.u]; funext j; idx_vars j; pointwise []
  simp only [up, up1_at]
  exact congrArg (fun z : ℝ => (z : EReal)) (congrArg (q j1).u (Fin.ext (by show j0.val * 128 + j2.val = 128 * j0.val + j2.val; omega)))

theorem V_v9 : V m c main_v9 = slabs (fun r => (q r).pair) Row.yf := by
  simp only [V, V0, hostOps0, List.flatten_cons, List.flatten_nil, List.append_nil]; after_results
  rw [show m (c, Proc.devRef .tc main_arg3) = _ from h.yf]; funext j; idx_vars j; pointwise []
  simp only [up, up1_at]
  exact congrArg (fun z : ℝ => (z : EReal)) (congrArg (q j1).yf (Fin.ext (by show j0.val * 128 + j2.val = 128 * j0.val + j2.val; omega)))

theorem V_v11 : V m c main_v11 = slabs (fun r => (q r).pair) Row.yb := by
  simp only [V, V0, hostOps0, List.flatten_cons, List.flatten_nil, List.append_nil]; after_results
  rw [show m (c, Proc.devRef .tc main_arg4) = _ from h.yb]; funext j; idx_vars j; pointwise []
  simp only [up, up1_at]
  exact congrArg (fun z : ℝ => (z : EReal)) (congrArg (q j1).yb (Fin.ext (by show j0.val * 128 + j2.val = 128 * j0.val + j2.val; omega)))

theorem V_v12 : V m c main_v12 = one w.pair.d := by
  simp only [V, V0, hostOps0, List.flatten_cons, List.flatten_nil, List.append_nil]; after_results
  rw [show m (c, Proc.devRef .tc main_arg8) = _ from h.d]; funext j; idx_vars j; pointwise []
  simp only [up, up1_at]
  rfl

theorem V_v13 : V m c main_v13 = up2 w.pair.wg .bf16 := by
  simp only [V, V0, hostOps0, List.flatten_cons, List.flatten_nil, List.append_nil]; after_results
  rw [show m (c, Proc.devRef .tc main_arg9) = _ from h.wg]; funext j; idx_vars j; pointwise []
  simp only [up, up1_at]
  rfl

theorem V_v14 : V m c main_v14 = one w.pair.bg := by
  simp only [V, V0, hostOps0, List.flatten_cons, List.flatten_nil, List.append_nil]; after_results
  rw [show m (c, Proc.devRef .tc main_arg10) = _ from h.bg]; funext j; idx_vars j; pointwise []
  simp only [up, up1_at]
  rfl

theorem V_v17 : V m c main_v17 = one w.pair.ga := by
  simp only [V, V0, hostOps0, List.flatten_cons, List.flatten_nil, List.append_nil]; after_results
  rw [show m (c, Proc.devRef .tc main_arg11) = _ from h.ga]; funext j; idx_vars j; pointwise []
  simp only [up, up1_at]
  exact congrArg (fun z : ℝ => (z : EReal)) (congrArg w.ga (Fin.ext (by show j1.val / 64 % 2 * 256 + j1.val / 128 * 64 + j1.val % 64 = 256 * (j1.val / 64 % 2) + 64 * (j1.val / 128) + j1.val % 64; omega)))

theorem V_v18 : V m c main_v18 = one w.pair.gs := by
  simp only [V, V0, hostOps0, List.flatten_cons, List.flatten_nil, List.append_nil]; after_results
  rw [show m (c, Proc.devRef .tc main_arg12) = _ from h.gs]; funext j; idx_vars j; pointwise []
  simp only [up, up1_at]
  rfl

theorem V_v19 : V m c main_v19 = up2 w.wo .bf16 := by
  simp only [V, V0, hostOps0, List.flatten_cons, List.flatten_nil, List.append_nil]; after_results
  rw [show m (c, Proc.devRef .tc main_arg13) = _ from h.wo]; funext j; idx_vars j; pointwise []
  simp only [up, up1_at]

theorem V_v20 : V m c main_v20 = one w.pair.lg := by
  simp only [V, V0, hostOps0, List.flatten_cons, List.flatten_nil, List.append_nil]; after_results
  rw [show m (c, Proc.devRef .tc main_arg14) = _ from h.lg]; funext j; idx_vars j; pointwise []
  simp only [up, up1_at]
  rfl

theorem V_v21 : V m c main_v21 = one w.pair.lb := by
  simp only [V, V0, hostOps0, List.flatten_cons, List.flatten_nil, List.append_nil]; after_results
  rw [show m (c, Proc.devRef .tc main_arg15) = _ from h.lb]; funext j; idx_vars j; pointwise []
  simp only [up, up1_at]
  rfl

/-! ## The blocks -/

/-- The rows of the point `t`. -/
def rowOf (t : Fin cfg0.N) (r : Fin 512) : Fin 4096 := ⟨512 * t.val + r.val, by have h : t.val < 8 := t.isLt; omega⟩

omit h in
/-- Where the blocks lie. -/
theorem at0 : ∀ t : Fin cfg0.N, win0_0.index t = ![t.val, 0] := (by decide +kernel : ∀ t : Fin grid0.N, _)
omit h in
theorem at1 : ∀ t : Fin cfg0.N, win0_1.index t = ![t.val, 0] := (by decide +kernel : ∀ t : Fin grid0.N, _)
omit h in
theorem at2 : ∀ t : Fin cfg0.N, win0_2.index t = ![0, t.val, 0] := (by decide +kernel : ∀ t : Fin grid0.N, _)
omit h in
theorem at3 : ∀ t : Fin cfg0.N, win0_3.index t = ![0, t.val, 0] := (by decide +kernel : ∀ t : Fin grid0.N, _)
omit h in
theorem at4 : ∀ t : Fin cfg0.N, win0_4.index t = ![0, t.val, 0] := (by decide +kernel : ∀ t : Fin grid0.N, _)
omit h in
theorem at5 : ∀ t : Fin cfg0.N, win0_5.index t = ![t.val, 0] := (by decide +kernel : ∀ t : Fin grid0.N, _)
omit h in
theorem at6 : ∀ t : Fin cfg0.N, win0_6.index t = ![t.val, 0] := (by decide +kernel : ∀ t : Fin grid0.N, _)
omit h in
theorem at7 : ∀ t : Fin cfg0.N, win0_7.index t = ![t.val, 0] := (by decide +kernel : ∀ t : Fin grid0.N, _)
omit h in
theorem at8 : ∀ t : Fin cfg0.N, win0_8.index t = ![0, 0] := (by decide +kernel : ∀ t : Fin grid0.N, _)
omit h in
theorem at9 : ∀ t : Fin cfg0.N, win0_9.index t = ![0, 0] := (by decide +kernel : ∀ t : Fin grid0.N, _)
omit h in
theorem at10 : ∀ t : Fin cfg0.N, win0_10.index t = ![0, 0] := (by decide +kernel : ∀ t : Fin grid0.N, _)
omit h in
theorem at11 : ∀ t : Fin cfg0.N, win0_11.index t = ![0, 0] := (by decide +kernel : ∀ t : Fin grid0.N, _)
omit h in
theorem at12 : ∀ t : Fin cfg0.N, win0_12.index t = ![0, 0] := (by decide +kernel : ∀ t : Fin grid0.N, _)
omit h in
theorem at13 : ∀ t : Fin cfg0.N, win0_13.index t = ![0, 0] := (by decide +kernel : ∀ t : Fin grid0.N, _)
omit h in
theorem at14 : ∀ t : Fin cfg0.N, win0_14.index t = ![0, 0] := (by decide +kernel : ∀ t : Fin grid0.N, _)
omit h in
theorem at15 : ∀ t : Fin cfg0.N, win0_15.index t = ![0, 0] := (by decide +kernel : ∀ t : Fin grid0.N, _)

variable (t : Fin cfg0.N)

theorem block0 : iblk m c 0 t = tile (fun r => (q (rowOf t r)).pair) Row.o := by
  funext j; idx_vars j; blk_simp [iblk]
  show V m c main_v2 _ = _
  rw [V_v2 h]
  show _ = tile (fun r => (q r).pair) Row.o .f32 (ix2 (rowOf t j0) j1)
  blk_ext [at0 t, rowOf]

theorem block1 : iblk m c 1 t = tile (fun r => (q (rowOf t r)).pair) Row.za := by
  funext j; idx_vars j; blk_simp [iblk]
  show V m c main_v5 _ = _
  rw [V_v5 h]
  show _ = tile (fun r => (q r).pair) Row.za .f32 (ix2 (rowOf t j0) j1)
  blk_ext [at1 t, rowOf]

theorem block2 : iblk m c 2 t = slabs (fun r => (q (rowOf t r)).pair) Row.u := by
  funext j; idx_vars j; blk_simp [iblk]
  show V m c main_v7 _ = _
  rw [V_v7 h]
  show _ = slabs (fun r => (q r).pair) Row.u (ix3 j0 (rowOf t j1) j2)
  blk_ext [at2 t, rowOf]

theorem block3 : iblk m c 3 t = slabs (fun r => (q (rowOf t r)).pair) Row.yf := by
  funext j; idx_vars j; blk_simp [iblk]
  show V m c main_v9 _ = _
  rw [V_v9 h]
  show _ = slabs (fun r => (q r).pair) Row.yf (ix3 j0 (rowOf t j1) j2)
  blk_ext [at3 t, rowOf]

theorem block4 : iblk m c 4 t = slabs (fun r => (q (rowOf t r)).pair) Row.yb := by
  funext j; idx_vars j; blk_simp [iblk]
  show V m c main_v11 _ = _
  rw [V_v11 h]
  show _ = slabs (fun r => (q r).pair) Row.yb (ix3 j0 (rowOf t j1) j2)
  blk_ext [at4 t, rowOf]

theorem block5 : iblk m c 5 t = tile (fun r => (q (rowOf t r)).pair) Row.zs := by
  funext j; idx_vars j; blk_simp [iblk]
  show V m c main_arg5 _ = _
  rw [(V_main_arg5 m c).trans h.zs]
  show _ = tile q Row.zs .f32 (ix2 (rowOf t j0) j1)
  blk_ext [at5 t, rowOf]

theorem block6 : iblk m c 6 t = tile (fun r => (q (rowOf t r)).pair) Row.x := by
  funext j; idx_vars j; blk_simp [iblk]
  show V m c main_arg6 _ = _
  rw [(V_main_arg6 m c).trans h.x]
  show _ = tile q Row.x .f32 (ix2 (rowOf t j0) j1)
  blk_ext [at6 t, rowOf]

theorem block7 : iblk m c 7 t = tile (fun r => (q (rowOf t r)).pair) Row.t := by
  funext j; idx_vars j; blk_simp [iblk]
  show V m c main_arg7 _ = _
  rw [(V_main_arg7 m c).trans h.t]
  show _ = tile q Row.t .f32 (ix2 (rowOf t j0) j1)
  blk_ext [at7 t, rowOf]

theorem block8 : iblk m c 8 t = one w.pair.d := by
  funext j; idx_vars j; blk_simp [iblk]
  show V m c main_v12 _ = _
  rw [V_v12 h]
  blk_ext [at8 t]

theorem block9 : iblk m c 9 t = up2 w.pair.wg .bf16 := by
  funext j; idx_vars j; blk_simp [iblk]
  show V m c main_v13 _ = _
  rw [V_v13 h]
  blk_ext [at9 t]

theorem block10 : iblk m c 10 t = one w.pair.bg := by
  funext j; idx_vars j; blk_simp [iblk]
  show V m c main_v14 _ = _
  rw [V_v14 h]
  blk_ext [at10 t]

theorem block11 : iblk m c 11 t = one w.pair.ga := by
  funext j; idx_vars j; blk_simp [iblk]
  show V m c main_v17 _ = _
  rw [V_v17 h]
  blk_ext [at11 t]

theorem block12 : iblk m c 12 t = one w.pair.gs := by
  funext j; idx_vars j; blk_simp [iblk]
  show V m c main_v18 _ = _
  rw [V_v18 h]
  blk_ext [at12 t]

theorem block13 : iblk m c 13 t = up2 w.wo .bf16 := by
  funext j; idx_vars j; blk_simp [iblk]
  show V m c main_v19 _ = _
  rw [V_v19 h]
  blk_ext [at13 t]

theorem block14 : iblk m c 14 t = one w.pair.lg := by
  funext j; idx_vars j; blk_simp [iblk]
  show V m c main_v20 _ = _
  rw [V_v20 h]
  blk_ext [at14 t]

theorem block15 : iblk m c 15 t = one w.pair.lb := by
  funext j; idx_vars j; blk_simp [iblk]
  show V m c main_v21 _ = _
  rw [V_v21 h]
  blk_ext [at15 t]

/-- The blocks of a point hold the point's rows. -/
theorem blk : Blk m c t w.pair w.wo fun r => (q (rowOf t r)).pair :=
  ⟨block0 h t, block1 h t, block2 h t, block3 h t, block4 h t, block5 h t, block6 h t, block7 h t, block8 h t, block9 h t, block10 h t, block11 h t, block12 h t, block13 h t, block14 h t, block15 h t, rfl⟩

end Cert.Mid

end
-- ==== Proof.BodyA.lean ====
/- What the body's run leaves in the outputs' buffers at one grid point, when the point's input blocks are arrays of reals:
   the values of the row model, for the 512 rows of the point. -/
module

public import proofs.«01_k».proof.Proof.Pieces

@[expose] public section

set_option maxRecDepth 16384

noncomputable section

namespace Cert.Mid

open Idealize.ShloMosaic Idealize.ShloMosaic.TcCoe Idealize.ShloMosaic.Tactic Cert.KernelIdeal Cert.KernelIdeal.Gen

variable {m : (ℓ : Loc nD τ sig) → Buf (Elt Ideal) ℓ} {c : Dev nD} {t : Fin cfg0.N} {wo : Fin 1024 → Fin 1024 → ℝ} {w : W} {ρ : Fin 512 → Row}

/-- A matrix of zeros. -/
theorem zeros :
    (broadcast S8x128 (FloatOps.ofBits (F := Ideal) .f32 0x00000000#32) : FVec Ideal S8x128 .f32) = (up2 fun _ _ => 0) ∧
    (broadcast S1024x1024 (FloatOps.ofBits (F := Ideal) .f32 0x00000000#32) : FVec Ideal S1024x1024 .f32) = (up2 fun _ _ => 0) ∧
    (broadcast S512x512 (FloatOps.ofBits (F := Ideal) .f32 0x00000000#32) : FVec Ideal S512x512 .f32) = (up2 fun _ _ => 0) ∧
    (broadcast S8x1024 (FloatOps.ofBits (F := Ideal) .f32 0x00000000#32) : FVec Ideal S8x1024 .f32) = (up2 fun _ _ => 0) := by
  refine ⟨?_, ?_, ?_, ?_⟩ <;> funext j <;> idx_vars j <;> pointwise [] <;> simp only [up, EReal.coe_zero]

/-- A cast of 64 rows to their own shape leaves them. -/
theorem shapeCast_up (f : Fin 64 → Fin 1024 → ℝ) (h) : shapeCast (s := S64x1024) S64x1024 (up2 f .bf16) h = up2 f .bf16 := by
  funext j; idx_vars j; pointwise []

theorem pay13 (f : Fin 64 → Fin 1024 → ℝ) : k0_pay13 (F := Ideal) (up2 f .bf16) = up2 f .bf16 := by
  funext j; idx_vars j; pointwise [k0_pay13]

set_option maxHeartbeats 1600000 in
/-- What the first point leaves. -/
theorem outsA_model (hb : Blk m c t w wo ρ) (h0 : t.val % 8 = 0) :
    outA_16 m c t h0 = up2 (fun _ _ => 1 / 2 * ∑ r, lrow w (ρ r))
    ∧ outA_17 m c t h0 = tile ρ (dov w)
    ∧ outA_18 m c t h0 = tile ρ (dza w)
    ∧ (∀ y, outA_19 m c t h0 y = slabs ρ (dyl w) y)
    ∧ outA_20 m c t h0 = tile ρ (dzs w)
    ∧ outA_21 m c t h0 = tile ρ (dpre w)
    ∧ (∀ y, outA_22 m c t h0 y = up2 (fun k j => gwoT w ρ (ipF k) j) .f32 y)
    ∧ outA_23 m c t h0 = up2 (fun k j => gwgT w ρ k j)
    ∧ (∀ y, outA_s m c t h0 y = up2 w.wo .bf16 y)
    ∧ ∀ i j, i.val < 4 → outA_24 m c t h0 (ix2 i j)
        = up2 (fun i j => vecT w ρ i j) .f32 (ix2 i j) := by
  simp only [outA_16, outA_17, outA_18, outA_19, outA_20, outA_21, outA_22, outA_23, outA_24, outA_s, runA]
  refine ⟨?_, ?_, ?_, fun y => ?_, ?_, ?_, fun y => ?_, ?_, fun y => ?_, fun i j hi => ?_⟩ <;> dsimp only [kernelRun0_A] <;> frame_out <;>
  (try simp (disch := decide) only [↓ View.readCov_skip, ↓ View.readCov_cons_toLoadRect, ↓ View.readCov_fill]) <;>
  simp (disch := decide) only [hb.b0, shapeCast_up, pay13, hb.b1, hb.b2, hb.b3, hb.b4, hb.b5, hb.b6, hb.b7, hb.b8, hb.b9, hb.b10, hb.b11, hb.b12, hb.b13, hb.b14, hb.b15,
    ld_slabs ρ, ld_rows, ld_vec (up2 fun _ _ => 0) (fun _ _ => 0) (fun _ _ _ => rfl), pay5, pay6, pay7, pay8, copies, pay18, zeros, readCov_copies hb.hwo, read_unread_whole, pay19 ρ, pay20 ρ, pay21 ρ, pay22 ρ, pay23 ρ, pay24 ρ, pay25 ρ, pay26 w, pay30 ρ, pay31 w ρ, pay33 w ρ,
    pay34 w ρ, pay35 w ρ, pay36 w ρ, pay37 w ρ, pay38 ρ, pay39 ρ, pay40 w ρ, pay43 w ρ, pay44 w ρ, pay45 w, pay46 w ρ,
    pay47 w ρ, pay48 w ρ, pay49 w ρ, pay50 w, pay51 w ρ, pay52 w ρ, pay53 w ρ, pay54 w ρ, pay55 w ρ, pay56 w ρ, pay57 w ρ, pay58 w ρ, pay59 w ρ,
    pay60 w ρ, pay62 w ρ, pay63 w ρ, pay65 w ρ, pay66 w ρ, pay68 w ρ, pay69 w ρ, pay71 w ρ, pay72 w ρ, pay75 w ρ, pay76 w ρ, pay77 w ρ,
    pay78 w ρ, pay79 w ρ, pay80 w ρ, pay81 w ρ, pay82 w ρ, pay83 w ρ, pay84 w ρ, pay85 w ρ, pay86 w ρ, pay87 w ρ, pay88 w ρ, pay89 w ρ,
    pay90 w ρ, pay91 w ρ, pay92 w ρ, pay1 w ρ, pay2 w ρ, pay3 w ρ, pay4 w ρ]
  · simp only [zero_add]
  · exact canon_slabs ρ (dyl w) _ y
  · refine canon_groups _ _ ?_ ?_ ?_ ?_ ?_ ?_ ?_ ?_ ?_ y <;>
    · intro i j
      rw [zero_add]
      congr 1
      apply Fin.ext; rw [ipF_val]; dsimp only; split_ifs <;> omega
  · simp only [zero_add]
  · exact canon_copies hb.hwo y
  · exact (canon_vecs (vecT w ρ) _ (fun j => by rw [(vecT_rows w ρ).1, zero_add]) (fun j => by rw [(vecT_rows w ρ).2.1, zero_add]) (fun j => by rw [(vecT_rows w ρ).2.2.1, zero_add]) (fun j => by rw [(vecT_rows w ρ).2.2.2.1, zero_add]) (fun j => by rw [(vecT_rows w ρ).2.2.2.2.1, zero_add]) (fun j => by rw [(vecT_rows w ρ).2.2.2.2.2, zero_add]) i j hi).1

end Cert.Mid

end
-- ==== Proof.BodyB.lean ====
/- What the body's run leaves in the outputs' buffers at one grid point, when the point's input blocks are arrays of reals:
   the values of the row model, for the 512 rows of the point. -/
module

public import proofs.«01_k».proof.Proof.Pieces

@[expose] public section

set_option maxRecDepth 16384

noncomputable section

namespace Cert.Mid

open Idealize.ShloMosaic Idealize.ShloMosaic.TcCoe Idealize.ShloMosaic.Tactic Cert.KernelIdeal Cert.KernelIdeal.Gen

variable {m : (ℓ : Loc nD τ sig) → Buf (Elt Ideal) ℓ} {c : Dev nD} {t : Fin cfg0.N} {wo : Fin 1024 → Fin 1024 → ℝ} {w : W} {ρ : Fin 512 → Row}

set_option maxHeartbeats 1600000 in
/-- What a later point leaves, over sums `f`, `g`, `g'` and `v` of the points before it. -/
theorem outsB_model (hb : Blk m c t w wo ρ) (h0 : ¬t.val % 8 = 0) (f : ℝ) (g : Fin 1024 → Fin 1024 → ℝ) (g' : Fin 512 → Fin 512 → ℝ)
    (v : Fin 8 → Fin 1024 → ℝ) (X : Vec Ideal S8x1024 .f32) (hX : ∀ i j, i.val < 4 → X (ix2 i j) = ((v i j : ℝ) : EReal)) :
    outB_16 m c t h0 (up2 fun _ _ => f) (up2 g) (up2 g') X (up2 w.wo .bf16) = up2 (fun _ _ => f + 1 / 2 * ∑ r, lrow w (ρ r))
    ∧ outB_17 m c t h0 (up2 fun _ _ => f) (up2 g) (up2 g') X (up2 w.wo .bf16) = tile ρ (dov w)
    ∧ outB_18 m c t h0 (up2 fun _ _ => f) (up2 g) (up2 g') X (up2 w.wo .bf16) = tile ρ (dza w)
    ∧ (∀ y, outB_19 m c t h0 (up2 fun _ _ => f) (up2 g) (up2 g') X (up2 w.wo .bf16) y = slabs ρ (dyl w) y)
    ∧ outB_20 m c t h0 (up2 fun _ _ => f) (up2 g) (up2 g') X (up2 w.wo .bf16) = tile ρ (dzs w)
    ∧ outB_21 m c t h0 (up2 fun _ _ => f) (up2 g) (up2 g') X (up2 w.wo .bf16) = tile ρ (dpre w)
    ∧ (∀ y, outB_22 m c t h0 (up2 fun _ _ => f) (up2 g) (up2 g') X (up2 w.wo .bf16) y = up2 (fun k j => g k j + gwoT w ρ (ipF k) j) .f32 y)
    ∧ outB_23 m c t h0 (up2 fun _ _ => f) (up2 g) (up2 g') X (up2 w.wo .bf16) = up2 (fun k j => g' k j + gwgT w ρ k j)
    ∧ ∀ i j, i.val < 4 → outB_24 m c t h0 (up2 fun _ _ => f) (up2 g) (up2 g') X (up2 w.wo .bf16) (ix2 i j)
        = up2 (fun i j => v i j + vecT w ρ i j) .f32 (ix2 i j) := by
  simp only [outB_16, outB_17, outB_18, outB_19, outB_20, outB_21, outB_22, outB_23, outB_24, runB]
  refine ⟨?_, ?_, ?_, fun y => ?_, ?_, ?_, fun y => ?_, ?_, fun i j hi => ?_⟩ <;> dsimp only [kernelRun0_B] <;> frame_out <;>
  simp (disch := decide) only [hb.b0, hb.b1, hb.b2, hb.b3, hb.b4, hb.b5, hb.b6, hb.b7, hb.b8, hb.b9, hb.b10, hb.b11, hb.b12, hb.b13, hb.b14, hb.b15,
    ld_slabs ρ, ld_rows, ld_vec X v hX, read_unread_whole, pay19 ρ, pay20 ρ, pay21 ρ, pay22 ρ, pay23 ρ, pay24 ρ, pay25 ρ, pay26 w, pay30 ρ, pay31 w ρ, pay33 w ρ,
    pay34 w ρ, pay35 w ρ, pay36 w ρ, pay37 w ρ, pay38 ρ, pay39 ρ, pay40 w ρ, pay43 w ρ, pay44 w ρ, pay45 w, pay46 w ρ,
    pay47 w ρ, pay48 w ρ, pay49 w ρ, pay50 w, pay51 w ρ, pay52 w ρ, pay53 w ρ, pay54 w ρ, pay55 w ρ, pay56 w ρ, pay57 w ρ, pay58 w ρ, pay59 w ρ,
    pay60 w ρ, pay62 w ρ, pay63 w ρ, pay65 w ρ, pay66 w ρ, pay68 w ρ, pay69 w ρ, pay71 w ρ, pay72 w ρ, pay75 w ρ, pay76 w ρ, pay77 w ρ,
    pay78 w ρ, pay79 w ρ, pay80 w ρ, pay81 w ρ, pay82 w ρ, pay83 w ρ, pay84 w ρ, pay85 w ρ, pay86 w ρ, pay87 w ρ, pay88 w ρ, pay89 w ρ,
    pay90 w ρ, pay91 w ρ, pay92 w ρ, pay1 w ρ, pay2 w ρ, pay3 w ρ, pay4 w ρ]
  · exact canon_slabs ρ (dyl w) _ y
  · refine canon_groups _ _ ?_ ?_ ?_ ?_ ?_ ?_ ?_ ?_ ?_ y <;>
    · intro i j
      congr 2
      apply Fin.ext; rw [ipF_val]; dsimp only; split_ifs <;> omega
  · refine (View.read_writes_apply_eq_canon _ _ _ _ ?_).trans ?_
    · exact (canon_vecs (fun i j => v i j + vecT w ρ i j) [] (fun j => by rw [(vecT_rows w ρ).1]) (fun j => by rw [(vecT_rows w ρ).2.1]) (fun j => by rw [(vecT_rows w ρ).2.2.1]) (fun j => by rw [(vecT_rows w ρ).2.2.2.1]) (fun j => by rw [(vecT_rows w ρ).2.2.2.2.1]) (fun j => by rw [(vecT_rows w ρ).2.2.2.2.2]) i j hi).2
    · exact (canon_vecs (fun i j => v i j + vecT w ρ i j) [] (fun j => by rw [(vecT_rows w ρ).1]) (fun j => by rw [(vecT_rows w ρ).2.1]) (fun j => by rw [(vecT_rows w ρ).2.2.1]) (fun j => by rw [(vecT_rows w ρ).2.2.2.1]) (fun j => by rw [(vecT_rows w ρ).2.2.2.2.1]) (fun j => by rw [(vecT_rows w ρ).2.2.2.2.2]) i j hi).1

end Cert.Mid

end
-- ==== Proof.Points.lean ====
/- What the outputs' buffers hold after every grid point: the tiles of the point's rows, and the sums of what the points up to
   it added; and the sums over all points as sums over the 4096 rows. -/
module

public import proofs.«01_k».proof.Proof.Entry
public import proofs.«01_k».proof.Proof.BodyA
public import proofs.«01_k».proof.Proof.BodyB
public import proofs.«01_k».proof.Proof.MidFrame

@[expose] public section

set_option maxRecDepth 16384

noncomputable section

namespace Cert.Mid

open Idealize.ShloMosaic Idealize.ShloMosaic.TcCoe Idealize.ShloMosaic.Tactic Cert.KernelIdeal Cert.KernelIdeal.Gen

/-- The rows of point `s`, in the kernel's order of channels. -/
def rows (q : Fin 4096 → Row) (s : ℕ) (r : Fin 512) : Row := (q ⟨(512 * s + r.val) % 4096, Nat.mod_lt _ (by omega)⟩).pair

/-- A sum over the points and their rows is the sum over all rows. -/
theorem sum_rows (q : Fin 4096 → Row) (f : Row → ℝ) :
    (∑ s ∈ Finset.range 8, ∑ r, f (rows q s r)) = ∑ i, f (q i).pair := by
  rw [Finset.sum_range]
  refine (Fintype.sum_prod_type' (fun (s : Fin 8) (r : Fin 512) => f (rows q s r))).symm.trans ?_
  refine Fintype.sum_equiv (finProdFinEquiv : Fin 8 × Fin 512 ≃ Fin 4096) _ _ fun x => ?_
  obtain ⟨s, r⟩ := x
  unfold rows
  congr 3
  apply Fin.ext
  show (512 * s.val + r.val) % 4096 = r.val + 512 * s.val
  omega

variable {m : (ℓ : Loc nD τ sig) → Buf (Elt Ideal) ℓ} {c : Dev nD} {w : W} {q : Fin 4096 → Row}

theorem rows_of (t : Fin cfg0.N) : (fun r => (q (rowOf t r)).pair) = rows q t.val := by
  have ht : t.val < 8 := t.isLt
  funext r; unfold rows
  congr 2
  apply Fin.ext
  show 512 * t.val + r.val = (512 * t.val + r.val) % 4096
  omega

variable (w q) in
/-- What the buffers hold after point `n`. -/
structure After (n : ℕ) (p : Outs Ideal) : Prop where
  e16 : p.1 = up2 fun _ _ => ∑ s ∈ Finset.range (n + 1), 1 / 2 * ∑ r, lrow w.pair (rows q s r)
  e17 : p.2.1 = tile (rows q n) (dov w.pair)
  e18 : p.2.2.1 = tile (rows q n) (dza w.pair)
  e19 : p.2.2.2.1 = slabs (rows q n) (dyl w.pair)
  e20 : p.2.2.2.2.1 = tile (rows q n) (dzs w.pair)
  e21 : p.2.2.2.2.2.1 = tile (rows q n) (dpre w.pair)
  e22 : p.2.2.2.2.2.2.1 = up2 fun k j => ∑ s ∈ Finset.range (n + 1), gwoT w.pair (rows q s) (ipF k) j
  e23 : p.2.2.2.2.2.2.2.1 = up2 fun k j => ∑ s ∈ Finset.range (n + 1), gwgT w.pair (rows q s) k j
  e24 : ∀ i j, i.val < 4 → p.2.2.2.2.2.2.2.2.1 (ix2 i j) = ((∑ s ∈ Finset.range (n + 1), vecT w.pair (rows q s) i j : ℝ) : EReal)
  es : p.2.2.2.2.2.2.2.2.2 = up2 w.pair.wo .bf16

/-- The first point leaves its own tiles and parts. -/
theorem after_first (h : Args m c w q) (t : Fin cfg0.N) (h0 : t.val % 8 = 0) : After w q t.val (outsA m c t h0) := by
  have ht : t.val = 0 := by have h : t.val < 8 := t.isLt; omega
  have hb : Blk m c t w.pair w.wo (rows q t.val) := rows_of (q := q) t ▸ blk h t
  obtain ⟨H16, H17, H18, H19, H20, H21, H22, H23, Hs, H24⟩ := outsA_model hb h0
  constructor <;> dsimp only [outsA]
  · rw [H16, ht, zero_add, Finset.sum_range_one]
  · exact H17
  · exact H18
  · exact funext H19
  · exact H20
  · exact H21
  · rw [funext H22, ht]; simp only [zero_add, Finset.sum_range_one]
  · rw [H23, ht]; simp only [zero_add, Finset.sum_range_one]
  · intro i j hi
    rw [H24 i j hi, ht]; simp only [zero_add, Finset.sum_range_one]; rfl
  · exact funext Hs

/-- A later point leaves its own tiles, and its parts over the sums of the points before it. -/
theorem after_later (h : Args m c w q) (t : Fin cfg0.N) (h0 : ¬t.val % 8 = 0) (n : ℕ) (hn : t.val = n + 1) (p : Outs Ideal)
    (hp : After w q n p) : After w q t.val (outsB m c t h0 p) := by
  have hb : Blk m c t w.pair w.wo (rows q t.val) := rows_of (q := q) t ▸ blk h t
  obtain ⟨e16, -, -, -, -, -, e22, e23, e24, es⟩ := hp
  obtain ⟨p16, p17, p18, p19, p20, p21, p22, p23, p24, ps⟩ := p
  dsimp only at e16 e22 e23 e24 es
  subst e16 e22 e23 es
  obtain ⟨H16, H17, H18, H19, H20, H21, H22, H23, H24⟩ := outsB_model hb h0 _ _ _ _ p24 e24
  constructor <;> dsimp only [outsB]
  · rw [H16, hn]; simp only [Finset.sum_range_succ _ (n + 1)]
  · exact H17
  · exact H18
  · exact funext H19
  · exact H20
  · exact H21
  · rw [funext H22, hn]; simp only [Finset.sum_range_succ _ (n + 1)]
  · rw [H23, hn]; simp only [Finset.sum_range_succ _ (n + 1)]
  · intro i j hi
    rw [H24 i j hi, hn]; simp only [Finset.sum_range_succ _ (n + 1)]; rfl

/-- So after every point. -/
theorem after_all (h : Args m c w q) : ∀ (n : ℕ) (hn : n < cfg0.N), After w q n (outsAt0 m c n hn) := by
  intro n
  induction n with
  | zero => intro hn; exact after_first h ⟨0, hn⟩ rfl
  | succ n ih =>
    intro hn
    have h0 : ¬(n + 1) % 8 = 0 := by have h : n + 1 < 8 := hn; omega
    rw [show outsAt0 m c (n + 1) hn = outsB m c ⟨n + 1, hn⟩ h0 (outsAt0 m c n (Nat.lt_of_succ_lt hn)) from outsAt0_B m c ⟨n + 1, hn⟩ h0]
    exact after_later h ⟨n + 1, hn⟩ h0 n rfl _ (ih _)

end Cert.Mid

end
-- ==== Proof.Arrays.lean ====
/- What the call's results hold after the run, as functions of the rows and the weights in their own order. -/
module

public import proofs.«01_k».proof.Proof.Points
public import Idealize.ShloMosaic.Lib.Pipeline.ValueKit

@[expose] public section

set_option maxRecDepth 16384

noncomputable section

namespace Cert.Mid

open Idealize.ShloMosaic Idealize.ShloMosaic.TcCoe Idealize.ShloMosaic.Tactic Cert.KernelIdeal Cert.KernelIdeal.Gen
open Idealize.ShloMosaic.Pipeline (Dat)

variable {m : (ℓ : Loc nD τ sig) → Buf (Elt Ideal) ℓ} {c : Dev nD} {w : W} {q : Fin 4096 → Row} (h : Args m c w q)

/-! ## Where the results' blocks lie -/

theorem at17 : ∀ t : Fin cfg0.N, win0_17.index t = ![t.val, 0] := (by decide +kernel : ∀ t : Fin grid0.N, _)
theorem at18 : ∀ t : Fin cfg0.N, win0_18.index t = ![t.val, 0] := (by decide +kernel : ∀ t : Fin grid0.N, _)
theorem at19 : ∀ t : Fin cfg0.N, win0_19.index t = ![0, t.val, 0] := (by decide +kernel : ∀ t : Fin grid0.N, _)
theorem at20 : ∀ t : Fin cfg0.N, win0_20.index t = ![t.val, 0] := (by decide +kernel : ∀ t : Fin grid0.N, _)
theorem at21 : ∀ t : Fin cfg0.N, win0_21.index t = ![t.val, 0] := (by decide +kernel : ∀ t : Fin grid0.N, _)

include h

/-! ## The results that are cut into the points' rows -/

theorem arr17 : (dats m 0 c).arrAt 17 (cfgs 0).N = tile (fun r => (q r).pair) (dov w.pair) := by
  refine (dats m 0 c).arrAt_eq_of_covers 17 _ (by decide +kernel) fun t _ y => ?_
  idx_vars y
  blk_simp
  rw [after0_17, (after_all h _ _).e17, ← rows_of]
  show tile (fun r => (q r).pair) (dov w.pair) .f32 (ix2 (rowOf t y0) y1) = _
  blk_ext [at17 t, rowOf]

theorem arr18 : (dats m 0 c).arrAt 18 (cfgs 0).N = tile (fun r => (q r).pair) (dza w.pair) := by
  refine (dats m 0 c).arrAt_eq_of_covers 18 _ (by decide +kernel) fun t _ y => ?_
  idx_vars y
  blk_simp
  rw [after0_18, (after_all h _ _).e18, ← rows_of]
  show tile (fun r => (q r).pair) (dza w.pair) .f32 (ix2 (rowOf t y0) y1) = _
  blk_ext [at18 t, rowOf]

theorem arr19 : (dats m 0 c).arrAt 19 (cfgs 0).N = slabs (fun r => (q r).pair) (dyl w.pair) := by
  refine (dats m 0 c).arrAt_eq_of_covers 19 _ (by decide +kernel) fun t _ y => ?_
  idx_vars y
  blk_simp
  rw [after0_19, (after_all h _ _).e19, ← rows_of]
  show slabs (fun r => (q r).pair) (dyl w.pair) (ix3 y0 (rowOf t y1) y2) = _
  blk_ext [at19 t, rowOf]

theorem arr20 : (dats m 0 c).arrAt 20 (cfgs 0).N = tile (fun r => (q r).pair) (dzs w.pair) := by
  refine (dats m 0 c).arrAt_eq_of_covers 20 _ (by decide +kernel) fun t _ y => ?_
  idx_vars y
  blk_simp
  rw [after0_20, (after_all h _ _).e20, ← rows_of]
  show tile (fun r => (q r).pair) (dzs w.pair) .f32 (ix2 (rowOf t y0) y1) = _
  blk_ext [at20 t, rowOf]

theorem arr21 : (dats m 0 c).arrAt 21 (cfgs 0).N = tile (fun r => (q r).pair) (dpre w.pair) := by
  refine (dats m 0 c).arrAt_eq_of_covers 21 _ (by decide +kernel) fun t _ y => ?_
  idx_vars y
  blk_simp
  rw [after0_21, (after_all h _ _).e21, ← rows_of]
  show tile (fun r => (q r).pair) (dpre w.pair) .f32 (ix2 (rowOf t y0) y1) = _
  blk_ext [at21 t, rowOf]

/-! ## The sums over the points -/

theorem arr16 : (dats m 0 c).arrAt 16 (cfgs 0).N = up2 fun _ _ => 1 / 2 * ∑ i, lrow w (q i) := by
  refine (dats m 0 c).arrAt_eq_of_after_last 16 t0_7 (by decide +kernel) _ fun j => ?_
  blk_simp
  rw [after0_16, (after_all h _ _).e16]
  show ((∑ s ∈ Finset.range 8, 1 / 2 * ∑ r, lrow w.pair (rows q s r) : ℝ) : EReal) = ((1 / 2 * ∑ i, lrow w (q i) : ℝ) : EReal)
  rw [← Finset.mul_sum, sum_rows]
  simp only [lrow_pair]

theorem arr22 : (dats m 0 c).arrAt 22 (cfgs 0).N = outerA q (mixed w) (dpre w) := by
  refine (dats m 0 c).arrAt_eq_of_after_last 22 t0_7 (by decide +kernel) _ fun j => ?_
  idx_vars j
  blk_simp
  rw [after0_22, (after_all h _ _).e22]
  show ((∑ s ∈ Finset.range 8, ∑ r, mixed w.pair (rows q s r) (ipF j0) * dpre w.pair (rows q s r) j1 : ℝ) : EReal)
    = ((∑ i, mixed w (q i) j0 * dpre w (q i) j1 : ℝ) : EReal)
  rw [sum_rows q fun p => mixed w.pair p (ipF j0) * dpre w.pair p j1]
  simp only [mixed_pair, dpre_pair, prF_ipF]

theorem arr23 : (dats m 0 c).arrAt 23 (cfgs 0).N = outerA q (gl w) (da w) := by
  refine (dats m 0 c).arrAt_eq_of_after_last 23 t0_7 (by decide +kernel) _ fun j => ?_
  idx_vars j
  blk_simp
  rw [after0_23, (after_all h _ _).e23]
  show ((∑ s ∈ Finset.range 8, ∑ r, gl w.pair (rows q s r) j0 * da w.pair (rows q s r) j1 : ℝ) : EReal)
    = ((∑ i, gl w (q i) j0 * da w (q i) j1 : ℝ) : EReal)
  rw [sum_rows q fun p => gl w.pair p j0 * da w.pair p j1]
  simp only [da_pair]
  rfl

/-- The first four rows of the array of the vectors' gradients. -/
theorem arr24 (i : Fin 8) (j : Fin 1024) (hi : i.val < 4) :
    (dats m 0 c).arrAt 24 (cfgs 0).N (ix2 i j) = ((∑ s ∈ Finset.range 8, vecT w.pair (rows q s) i j : ℝ) : EReal) := by
  refine ((dats m 0 c).arrAt_emb_eq_after_last 24 t0_7 (by decide +kernel) (ix2 i j)).trans ?_
  blk_simp
  rw [after0_24]
  exact (after_all h _ _).e24 i j hi

end Cert.Mid

end
-- ==== Proof.Tail.lean ====
/- The kernel's program computes the row model: the host's lines after the call take the loss out of its array, put the channels of
   the attention's half back into their own order, put the four columns side by side, and cut the array of the vectors'
   gradients. -/
module

public import proofs.«01_k».proof.Proof.Arrays

@[expose] public section

set_option maxRecDepth 16384

noncomputable section

namespace Cert.Mid

open Idealize.ShloMosaic Idealize.ShloMosaic.TcCoe Idealize.ShloMosaic.Tactic Idealize.SL.Sem Cert.KernelIdeal Cert.KernelIdeal.Gen

/-! ## The lines after the call, over any contents of the call's results -/

section Lines

variable (V : Valuation τ sig (Elt Ideal)) {w : W} {q : Fin 4096 → Row}

theorem line_loss (x : ℝ) (h : V (Proc.devRef .tc main_v22_0) = up2 fun _ _ => x) :
    StableHlo.after hostOps1 V (Proc.devRef .tc main_v24) = fun _ => ((x : ℝ) : EReal) := by
  simp only [hostOps1]; after_results
  rw [h]
  funext j; pointwise []
  rfl

theorem line_do (f : Row → Fin 512 → ℝ) (g : Row → Fin 512 → ℝ) (hf : ∀ p l, f p.pair l = g p (pr l))
    (h : V (Proc.devRef .tc main_v22_1) = tile (fun r => (q r).pair) f) :
    StableHlo.after hostOps1 V (Proc.devRef .tc main_v27) = tile q g := by
  simp only [hostOps1]; after_results
  rw [h]
  funext j; idx_vars j; pointwise []
  rw [show (⟨j1.val / 64 % 4 * 128 + j1.val / 256 * 64 + j1.val % 64, by omega⟩ : Fin 512) = ip j1 from Fin.ext (by
    show j1.val / 64 % 4 * 128 + j1.val / 256 * 64 + j1.val % 64 = 128 * (j1.val / 64 % 4) + 64 * (j1.val / 256) + j1.val % 64; omega)]
  show ((f (q j0).pair (ip j1) : ℝ) : EReal) = ((g (q j0) j1 : ℝ) : EReal)
  rw [hf, pr_ip]

theorem line_dza (f : Row → Fin 512 → ℝ) (g : Row → Fin 512 → ℝ) (hf : ∀ p l, f p.pair l = g p (pr l))
    (h : V (Proc.devRef .tc main_v22_2) = tile (fun r => (q r).pair) f) :
    StableHlo.after hostOps1 V (Proc.devRef .tc main_v30) = tile q g := by
  simp only [hostOps1]; after_results
  rw [h]
  funext j; idx_vars j; pointwise []
  rw [show (⟨j1.val / 64 % 4 * 128 + j1.val / 256 * 64 + j1.val % 64, by omega⟩ : Fin 512) = ip j1 from Fin.ext (by
    show j1.val / 64 % 4 * 128 + j1.val / 256 * 64 + j1.val % 64 = 128 * (j1.val / 64 % 4) + 64 * (j1.val / 256) + j1.val % 64; omega)]
  show ((f (q j0).pair (ip j1) : ℝ) : EReal) = ((g (q j0) j1 : ℝ) : EReal)
  rw [hf, pr_ip]

theorem line_dyl (f : Row → Fin 512 → ℝ) (g : Row → Fin 512 → ℝ) (hf : ∀ p l, f p.pair l = g p l)
    (h : V (Proc.devRef .tc main_v22_3) = slabs (fun r => (q r).pair) f) :
    StableHlo.after hostOps1 V (Proc.devRef .tc main_v32) = tile q g := by
  simp only [hostOps1]; after_results
  rw [h]
  funext j; idx_vars j; pointwise []
  show ((f (q j0).pair ⟨128 * (j1.val / 128) + j1.val % 128, _⟩ : ℝ) : EReal) = ((g (q j0) j1 : ℝ) : EReal)
  rw [hf]
  congr 2
  exact Fin.ext (by show 128 * (j1.val / 128) + j1.val % 128 = j1.val; omega)

variable (X : FVec Ideal S8x1024 .f32) (h : V (Proc.devRef .tc main_v22_8) = X) (f : Fin 8 → Fin 1024 → ℝ)
  (hX : ∀ i j, i.val < 4 → X (ix2 i j) = ((f i j : ℝ) : EReal))
include h hX

theorem line_gd : StableHlo.after hostOps1 V (Proc.devRef .tc main_v34) = up1 fun l => f 3 ⟨l.val, by omega⟩ := by
  simp only [hostOps1]; after_results
  rw [h]
  funext j; idx_vars j; pointwise []
  rw [hX _ _ (by decide)]
  rfl

theorem line_gbg : StableHlo.after hostOps1 V (Proc.devRef .tc main_v36) = up1 fun l => f 3 ⟨512 + l.val, by omega⟩ := by
  simp only [hostOps1]; after_results
  rw [h]
  funext j; idx_vars j; pointwise []
  rw [hX _ _ (by decide)]
  rfl

theorem line_gga : StableHlo.after hostOps1 V (Proc.devRef .tc main_v42) = up1 fun l => f 2 ⟨(ip l).val, by omega⟩ := by
  simp only [hostOps1]; after_results
  rw [h]
  funext j; idx_vars j; pointwise []
  rw [hX _ _ (by decide)]
  show ((f 2 _ : ℝ) : EReal) = ((f 2 _ : ℝ) : EReal)
  congr 2
  exact Fin.ext (by show j0.val / 64 % 4 * 128 + j0.val / 256 * 64 + j0.val % 64 = 128 * (j0.val / 64 % 4) + 64 * (j0.val / 256) + j0.val % 64; omega)

theorem line_ggs : StableHlo.after hostOps1 V (Proc.devRef .tc main_v44) = up1 fun l => f 2 ⟨512 + l.val, by omega⟩ := by
  simp only [hostOps1]; after_results
  rw [h]
  funext j; idx_vars j; pointwise []
  rw [hX _ _ (by decide)]
  rfl

theorem line_glg : StableHlo.after hostOps1 V (Proc.devRef .tc main_v46) = up1 fun l => f 0 l := by
  simp only [hostOps1]; after_results
  rw [h]
  funext j; idx_vars j; pointwise []
  rw [hX _ _ (by decide)]
  rfl

theorem line_glb : StableHlo.after hostOps1 V (Proc.devRef .tc main_v48) = up1 fun l => f 1 l := by
  simp only [hostOps1]; after_results
  rw [h]
  funext j; idx_vars j; pointwise []
  rw [hX _ _ (by decide)]
  rfl

end Lines

/-! ## The run -/

/-- What the arrays hold when the call ends. -/
def VA (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem VA_at (m : (ℓ : Loc nD τ sig) → Buf (Elt Ideal) ℓ) (c : Dev nD) (k : Fin 25) :
    VA m c (Proc.devRef .tc (Pipeline.arrRef (cfgs 0).spec k)) = (dats m 0 c).arrAt k (cfgs 0).N :=
  Pipeline.withArrays_arr _ (by decide) c (V0 m c) _ k

theorem tail_eq (m : (ℓ : Loc nD τ sig) → Buf (Elt Ideal) ℓ) (c : Dev nD) (b : Ref sig .tc) :
    Pipeline.afterTail₀ cfgs (dats m) 0 (V0 m) [hostOps1] c b = StableHlo.after hostOps1 (VA m c) (Proc.devRef .tc b) := by
  simp only [Pipeline.afterTail₀, VA, List.flatten_cons, List.flatten_nil, List.append_nil]

section Sums

variable {w : W} {q : Fin 4096 → Row}

/-- The sums in the array of the vectors' gradients, over all rows. -/
theorem vec_gd (l : Fin 512) : ∑ s ∈ Finset.range 8, vecT w.pair (rows q s) 3 ⟨l.val, by omega⟩ = ∑ i, dyl w (q i) l * (q i).u l := by
  have e (s : ℕ) : vecT w.pair (rows q s) 3 ⟨l.val, by omega⟩ = ∑ r, dyl w.pair (rows q s r) l * (rows q s r).u l := by
    unfold vecT; rw [if_neg (by decide), if_neg (by decide), dif_pos l.isLt, if_neg (by decide)]
  simp only [e]
  rw [sum_rows q fun p => dyl w.pair p l * p.u l]
  simp only [dyl_pair]; rfl

theorem vec_gbg (l : Fin 512) : ∑ s ∈ Finset.range 8, vecT w.pair (rows q s) 3 ⟨512 + l.val, by omega⟩ = ∑ i, da w (q i) l := by
  have e (s : ℕ) : vecT w.pair (rows q s) 3 ⟨512 + l.val, by omega⟩ = ∑ r, da w.pair (rows q s r) l := by
    unfold vecT; rw [if_neg (by decide), if_neg (by decide), dif_neg (by dsimp only; omega), if_neg (by decide)]
    simp only [Nat.add_sub_cancel_left]
  simp only [e]
  rw [sum_rows q fun p => da w.pair p l]
  simp only [da_pair]

theorem vec_gga (l : Fin 512) : ∑ s ∈ Finset.range 8, vecT w.pair (rows q s) 2 ⟨(ip l).val, by omega⟩ = ∑ i, dna w (q i) l * na (q i) l := by
  have e (s : ℕ) : vecT w.pair (rows q s) 2 ⟨(ip l).val, by omega⟩ = ∑ r, dna w.pair (rows q s r) (ip l) * na (rows q s r) (ip l) := by
    unfold vecT; rw [if_neg (by decide), if_neg (by decide), dif_pos (ip l).isLt, if_pos (by decide)]
  simp only [e]
  rw [sum_rows q fun p => dna w.pair p (ip l) * na p (ip l)]
  simp only [dna_pair, na_pair, pr_ip]

theorem vec_ggs (l : Fin 512) : ∑ s ∈ Finset.range 8, vecT w.pair (rows q s) 2 ⟨512 + l.val, by omega⟩ = ∑ i, dns w (q i) l * ns w (q i) l := by
  have e (s : ℕ) : vecT w.pair (rows q s) 2 ⟨512 + l.val, by omega⟩ = ∑ r, dns w.pair (rows q s r) l * ns w.pair (rows q s r) l := by
    unfold vecT; rw [if_neg (by decide), if_neg (by decide), dif_neg (by dsimp only; omega), if_pos (by decide)]
    simp only [Nat.add_sub_cancel_left]
  simp only [e]
  rw [sum_rows q fun p => dns w.pair p l * ns w.pair p l]
  simp only [dns_pair]; rfl

theorem vec_glg (j : Fin 1024) : ∑ s ∈ Finset.range 8, vecT w.pair (rows q s) 0 j = ∑ i, dh w (q i) j * hh w (q i) j := by
  have e (s : ℕ) : vecT w.pair (rows q s) 0 j = ∑ r, dh w.pair (rows q s r) j * hh w.pair (rows q s r) j := by
    unfold vecT; rw [if_pos (by decide)]
  simp only [e]
  rw [sum_rows q fun p => dh w.pair p j * hh w.pair p j]
  simp only [dh_pair, hh_pair]

theorem vec_glb (j : Fin 1024) : ∑ s ∈ Finset.range 8, vecT w.pair (rows q s) 1 j = ∑ i, dh w (q i) j := by
  have e (s : ℕ) : vecT w.pair (rows q s) 1 j = ∑ r, dh w.pair (rows q s r) j := by
    unfold vecT; rw [if_neg (by decide), if_pos (by decide)]
  simp only [e]
  rw [sum_rows q fun p => dh w.pair p j]
  simp only [dh_pair]

end Sums

set_option maxHeartbeats 1600000 in
/-- Every execution of the kernel's program ends with the row model's values in the results and the arguments unchanged. -/
theorem run_kernel (m : (ℓ : Loc nD τ sig) → Buf (Elt Ideal) ℓ) (g : Dev nD → PrngReg) (w : Dev nD → W) (q : Dev nD → Fin 4096 → Row)
    (H : ∀ c, Args m c (w c) (q c)) :
    θ_run defs (onTc (τ := τ) (main (F := Ideal))) ⟨m, fun _ => 0, g⟩ fun r => ∀ c : Dev nD,
      r.2.mem ((c.tc : Thread nD τ).loc main_v24) = lossA (w c) (q c)
      ∧ r.2.mem ((c.tc : Thread nD τ).loc main_v27) = tile (q c) (dov (w c))
      ∧ r.2.mem ((c.tc : Thread nD τ).loc main_v30) = tile (q c) (dza (w c))
      ∧ r.2.mem ((c.tc : Thread nD τ).loc main_v32) = tile (q c) (dyl (w c))
      ∧ r.2.mem ((c.tc : Thread nD τ).loc main_v22_4) = tile (q c) (dzs (w c))
      ∧ r.2.mem ((c.tc : Thread nD τ).loc main_v22_5) = tile (q c) (dpre (w c))
      ∧ r.2.mem ((c.tc : Thread nD τ).loc main_v22_6) = outerA (q c) (mixed (w c)) (dpre (w c))
      ∧ r.2.mem ((c.tc : Thread nD τ).loc main_v22_7) = outerA (q c) (gl (w c)) (da (w c))
      ∧ r.2.mem ((c.tc : Thread nD τ).loc main_v34) = rowsA (q c) (fun p l => dyl (w c) p l * p.u l)
      ∧ r.2.mem ((c.tc : Thread nD τ).loc main_v36) = rowsA (q c) (da (w c))
      ∧ r.2.mem ((c.tc : Thread nD τ).loc main_v42) = rowsA (q c) (fun p l => dna (w c) p l * na p l)
      ∧ r.2.mem ((c.tc : Thread nD τ).loc main_v44) = rowsA (q c) (fun p l => dns (w c) p l * ns (w c) p l)
      ∧ r.2.mem ((c.tc : Thread nD τ).loc main_v46) = rowsA (q c) (fun p j => dh (w c) p j * hh (w c) p j)
      ∧ r.2.mem ((c.tc : Thread nD τ).loc main_v48) = rowsA (q c) (dh (w c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run defs _ _).mono (fun r hr c => ?_) (θ_run_and (run_main m g) (unchanged m g))
  obtain ⟨hr, ha⟩ := hr
  have h := H c
  have T (b : Ref sig .tc) (hb : b ∈ Pipeline.restRefs sig (cfgs 0).spec) :
      r.2.mem ((c.tc : Thread nD τ).loc b) = StableHlo.after hostOps1 (VA m c) (Proc.devRef .tc b) := ((hr c).2 b hb).trans (tail_eq m c b)
  have v24 : VA m c (Proc.devRef .tc main_v22_8) = (dats m 0 c).arrAt 24 (cfgs 0).N := VA_at m c 24
  refine ⟨(T main_v24 (Pipeline.mem_restRefs_of main_v24 (by decide) (by decide))).trans (line_loss _ _ ((VA_at m c 16).trans (arr16 h))),
    (T main_v27 (Pipeline.mem_restRefs_of main_v27 (by decide) (by decide))).trans
      (line_do _ (dov (w c).pair) (dov (w c)) (fun p l => dov_pair (w c) p l) ((VA_at m c 17).trans (arr17 h))),
    (T main_v30 (Pipeline.mem_restRefs_of main_v30 (by decide) (by decide))).trans
      (line_dza _ (dza (w c).pair) (dza (w c)) (fun p l => dza_pair (w c) p l) ((VA_at m c 18).trans (arr18 h))),
    (T main_v32 (Pipeline.mem_restRefs_of main_v32 (by decide) (by decide))).trans
      (line_dyl _ (dyl (w c).pair) (dyl (w c)) (fun p l => congrFun (dyl_pair (w c) p) l) ((VA_at m c 19).trans (arr19 h))),
    ((hr c).1 20).trans ((arr20 h).trans ?_), ((hr c).1 21).trans ((arr21 h).trans ?_), ((hr c).1 22).trans (arr22 h), ((hr c).1 23).trans (arr23 h),
    (T main_v34 (Pipeline.mem_restRefs_of main_v34 (by decide) (by decide))).trans ((line_gd _ _ v24 _ (arr24 h)).trans ?_),
    (T main_v36 (Pipeline.mem_restRefs_of main_v36 (by decide) (by decide))).trans ((line_gbg _ _ v24 _ (arr24 h)).trans ?_),
    (T main_v42 (Pipeline.mem_restRefs_of main_v42 (by decide) (by decide))).trans ((line_gga _ _ v24 _ (arr24 h)).trans ?_),
    (T main_v44 (Pipeline.mem_restRefs_of main_v44 (by decide) (by decide))).trans ((line_ggs _ _ v24 _ (arr24 h)).trans ?_),
    (T main_v46 (Pipeline.mem_restRefs_of main_v46 (by decide) (by decide))).trans ((line_glg _ _ v24 _ (arr24 h)).trans ?_),
    (T main_v48 (Pipeline.mem_restRefs_of main_v48 (by decide) (by decide))).trans ((line_glb _ _ v24 _ (arr24 h)).trans ?_), ha c⟩
  · funext j
    show ((dzs (w c).pair (q c (j 0)).pair (j 1) : ℝ) : EReal) = ((dzs (w c) (q c (j 0)) (j 1) : ℝ) : EReal)
    rw [dzs_pair]
  · funext j
    show ((dpre (w c).pair (q c (j 0)).pair (j 1) : ℝ) : EReal) = ((dpre (w c) (q c (j 0)) (j 1) : ℝ) : EReal)
    rw [dpre_pair]
  · exact congrArg up1 (funext fun l => vec_gd l)
  · exact congrArg up1 (funext fun l => vec_gbg l)
  · exact congrArg up1 (funext fun l => vec_gga l)
  · exact congrArg up1 (funext fun l => vec_ggs l)
  · exact congrArg up1 (funext fun l => vec_glg l)
  · exact congrArg up1 (funext fun l => vec_glb l)

end Cert.Mid

end
-- ==== Proof.Ref.lean ====
/- The reference on finite arguments: each of its values is the one the row model names. The forward values first, then the
   gradients from the loss back, where the derivative's own form is brought to the model's by algebra over the reals. -/
module

public import proofs.«01_k».proof.Proof.Up
public import proofs.«01_k».proof.Proof.Gen.ReferenceIdeal.Run

@[expose] public section

set_option maxRecDepth 16384

noncomputable section

namespace Cert.Mid.Ref

open Idealize.ShloMosaic Idealize.ShloMosaic.TcCoe Idealize.SL.Sem Idealize.ShloMosaic.StableHlo Cert.ReferenceIdeal Cert.ReferenceIdeal.Value

/-- The argument arrays hold the weights `w` and the rows `q`. -/
structure Holds (V0 : Valuation τ sig (Elt Ideal)) (w : W) (q : Fin 4096 → Row) : Prop where
  o : V0 (Proc.devRef .tc main_arg0) = tile q Row.o
  za : V0 (Proc.devRef .tc main_arg1) = tile q Row.za
  u : V0 (Proc.devRef .tc main_arg2) = tile q Row.u
  yf : V0 (Proc.devRef .tc main_arg3) = tile q Row.yf
  yb : V0 (Proc.devRef .tc main_arg4) = tile q Row.yb
  zs : V0 (Proc.devRef .tc main_arg5) = tile q Row.zs
  x : V0 (Proc.devRef .tc main_arg6) = tile q Row.x
  t : V0 (Proc.devRef .tc main_arg7) = tile q Row.t
  d : V0 (Proc.devRef .tc main_arg8) = up1 w.d
  wg : V0 (Proc.devRef .tc main_arg9) = up2 w.wg
  bg : V0 (Proc.devRef .tc main_arg10) = up1 w.bg
  ga : V0 (Proc.devRef .tc main_arg11) = up1 w.ga
  gs : V0 (Proc.devRef .tc main_arg12) = up1 w.gs
  wo : V0 (Proc.devRef .tc main_arg13) = up2 w.wo
  lg : V0 (Proc.devRef .tc main_arg14) = up1 w.lg
  lb : V0 (Proc.devRef .tc main_arg15) = up1 w.lb

variable {V0 : Valuation τ sig (Elt Ideal)} {w : W} {q : Fin 4096 → Row} (h : Holds V0 w q)
include h

theorem v3_2 : res_main_v3_2 V0 = tile q sa := by
  unfold res_main_v3_2; rw [h.za]
  funext j; idx_vars j; pointwise []
  simp only [up, up1_at, lits, arith, ref_arith, sa]

theorem v3_0 : res_main_v3_0 V0 = tile q silua := by
  unfold res_main_v3_0; rw [h.za, v3_2 h]
  funext j; idx_vars j; pointwise []
  simp only [up, up1_at, lits, arith, ref_arith, silua]

theorem v4 : res_main_v4 V0 = tile q ya := by
  unfold res_main_v4; rw [h.o, v3_0 h]
  funext j; idx_vars j; pointwise []
  simp only [up, up1_at, lits, arith, ref_arith, ya]

theorem v13 : res_main_v13 V0 = col q (fun p => (∑ l, ya p l * ya p l) / 512 + eps) := by
  unfold res_main_v13; rw [v4 h]
  funext j; idx_vars j; pointwise []
  simp only [up, up1_at, lits, arith, ref_arith]

theorem v14 : res_main_v14 V0 = col q ra := by
  unfold res_main_v14; rw [v13 h]
  funext j; idx_vars j; pointwise []
  simp only [up, rsqrt_norm, ra, rms]

theorem v19 : res_main_v19 V0 = tile q na := by
  unfold res_main_v19; rw [v4 h, v14 h]
  funext j; idx_vars j; pointwise []
  simp only [up, arith, na]

theorem v20 : res_main_v20 V0 = one w.ga := by
  unfold res_main_v20; rw [h.ga]
  funext j; idx_vars j; pointwise []
  simp only [up, up1_at]

theorem v26 : res_main_v26 V0 = tile q (ylin w) := by
  unfold res_main_v26; rw [h.d, h.u, h.yf, h.yb]
  funext j; idx_vars j; pointwise []
  simp only [up, up1_at, arith, ylin, add_assoc]

theorem v39 : res_main_v39 V0 = tile q (th w) := by
  unfold res_main_v39; rw [v26 h]
  funext j; idx_vars j; pointwise []
  simp only [up, lits, arith, ref_arith, th]
  congr 3; simp only [gk]; ring

theorem v48 : res_main_v48 V0 = tile q (fun p l => 1 / 2 * (1 + th w p l)) := by
  unfold res_main_v48; rw [v39 h]
  funext j; idx_vars j; pointwise []
  simp only [up, lits, arith]

theorem v49 : res_main_v49 V0 = tile q (gl w) := by
  unfold res_main_v49; rw [v48 h, v26 h]
  funext j; idx_vars j; pointwise []
  simp only [up, arith, gl]
  congr 1; ring

theorem v59 : res_main_v59 V0 = tile q (sgt w) := by
  unfold res_main_v59; rw [v49 h, h.wg, h.bg]
  funext j; idx_vars j; pointwise []
  simp only [up, up1_at, lits, arith, ref_arith, sgt, gate]

theorem v63 : res_main_v63 V0 = tile q (y2 w) := by
  unfold res_main_v63; rw [v49 h, v59 h]
  funext j; idx_vars j; pointwise []
  simp only [up, arith, y2]

theorem v64_2 : res_main_v64_2 V0 = tile q ss := by
  unfold res_main_v64_2; rw [h.zs]
  funext j; idx_vars j; pointwise []
  simp only [up, lits, arith, ref_arith, ss]

theorem v64_0 : res_main_v64_0 V0 = tile q silus := by
  unfold res_main_v64_0; rw [h.zs, v64_2 h]
  funext j; idx_vars j; pointwise []
  simp only [up, arith, silus]

theorem v65 : res_main_v65 V0 = tile q (ys w) := by
  unfold res_main_v65; rw [v63 h, v64_0 h]
  funext j; idx_vars j; pointwise []
  simp only [up, arith, ys]

theorem v74 : res_main_v74 V0 = col q (fun p => (∑ l, ys w p l * ys w p l) / 512 + eps) := by
  unfold res_main_v74; rw [v65 h]
  funext j; idx_vars j; pointwise []
  simp only [up, lits, arith]

theorem v75 : res_main_v75 V0 = col q (rs w) := by
  unfold res_main_v75; rw [v74 h]
  funext j; idx_vars j; pointwise []
  simp only [up, rsqrt_norm, rs, rms]

theorem v80 : res_main_v80 V0 = tile q (ns w) := by
  unfold res_main_v80; rw [v65 h, v75 h]
  funext j; idx_vars j; pointwise []
  simp only [up, arith, ns]

theorem v81 : res_main_v81 V0 = one w.gs := by
  unfold res_main_v81; rw [h.gs]
  funext j; idx_vars j; pointwise []
  simp only [up, up1_at]

theorem v84 : res_main_v84 V0 = tile q (mixed w) := by
  unfold res_main_v84; rw [v19 h, v20 h, v80 h, v81 h]
  funext j; idx_vars j; pointwise []
  simp only [up, arith, mixed]
  split <;> rfl

theorem v86 : res_main_v86 V0 = tile q (pre w) := by
  unfold res_main_v86; rw [v84 h, h.x, h.wo]
  funext j; idx_vars j; pointwise []
  simp only [up, lits, arith, pre]

theorem v90 : res_main_v90 V0 = col q (fun p => (∑ i, pre w p i) / 1024) := by
  unfold res_main_v90; rw [v86 h]
  funext j; idx_vars j; pointwise []
  simp only [up, lits, arith]

theorem v92 : res_main_v92 V0 = tile q (cen w) := by
  unfold res_main_v92; rw [v86 h, v90 h]
  funext j; idx_vars j; pointwise []
  simp only [up, arith, cen]

theorem v101 : res_main_v101 V0 = tile q (cen w) := v92 h

theorem v103 : res_main_v103 V0 = col q (fun p => (∑ j, cen w p j * cen w p j) / 1024 + eps) := by
  unfold res_main_v103; rw [v92 h]
  funext j; idx_vars j; pointwise []
  simp only [up, lits, arith]

theorem v104 : res_main_v104 V0 = col q (rstd w) := by
  unfold res_main_v104; rw [v103 h]
  funext j; idx_vars j; pointwise []
  simp only [up, rsqrt_norm, rstd]

theorem v109 : res_main_v109 V0 = tile q (hh w) := by
  unfold res_main_v109; rw [v101 h, v104 h]
  funext j; idx_vars j; pointwise []
  simp only [up, arith, hh]

theorem v110 : res_main_v110 V0 = one w.lg := by
  unfold res_main_v110; rw [h.lg]
  funext j; idx_vars j; pointwise []
  simp only [up, up1_at]

theorem v116 : res_main_v116 V0 = tile q (err w) := by
  unfold res_main_v116; rw [v109 h, v110 h, h.lb, h.t]
  funext j; idx_vars j; pointwise []
  simp only [up, up1_at, arith, err, yln]

/-! ## The gradients -/

theorem v130 : res_main_v130 V0 = tile q (dh w) := by
  unfold res_main_v130; rw [v116 h]
  funext j; idx_vars j; pointwise []
  simp only [up, lits, arith, dh, mul_one]
  congr 1; ring

theorem v138 : res_main_v138 V0 = tile q (dhh w) := by
  unfold res_main_v138; rw [v130 h, v110 h]
  funext j; idx_vars j; pointwise []
  simp only [up, arith, dhh]

theorem v144 : res_main_v144 V0 = tile q (fun p j => dhh w p j * rstd w p) := by
  unfold res_main_v144; rw [v138 h, v104 h]
  funext j; idx_vars j; pointwise []
  simp only [up, arith]

omit h in
/-- The deviations from a mean add up to zero. -/
theorem sum_cen (p : Row) : ∑ j, cen w p j = 0 := by
  simp only [cen, Finset.sum_sub_distrib, Finset.sum_const, Finset.card_univ, Fintype.card_fin, nsmul_eq_mul]
  push_cast; ring

omit h in
/-- A reciprocal root over the number under it is the root's reciprocal cubed. -/
theorem root_div {X : ℝ} (hX : 0 < X) : (√X)⁻¹ / X = (√X)⁻¹ * (√X)⁻¹ * (√X)⁻¹ := by
  have h1 : √X ≠ 0 := (Real.sqrt_pos.mpr hX).ne'
  have h2 : √X * √X = X := Real.mul_self_sqrt hX.le
  rw [div_eq_iff hX.ne', ← h2, h2]
  field_simp
  rw [pow_two, h2]

theorem v153 : res_main_v153 V0 = tile q (fun p j => -(rstd w p * rstd w p * rstd w p * (∑ i, cen w p i * dhh w p i) / 1024) * cen w p j) := by
  unfold res_main_v153; rw [v101 h, v138 h, v104 h, v103 h, v92 h]
  funext j; idx_vars j; pointwise []
  simp only [up, lits, arith, ref_arith, Finset.univ_unique, Finset.sum_singleton]
  congr 1
  rw [rstd, root_div (norm_pos _ 1024 (by norm_num))]
  ring

theorem v163 : res_main_v163 V0 = tile q (dpre w) := by
  unfold res_main_v163; rw [v144 h, v153 h]
  funext j; idx_vars j; pointwise []
  simp only [up, lits, arith, ref_arith, Finset.univ_unique, Finset.sum_singleton]
  congr 1
  rw [Finset.sum_neg_distrib, Finset.sum_neg_distrib, ← Finset.mul_sum, sum_cen, ← Finset.sum_mul, dpre, sdhh]
  have e : ∑ i, dhh w (q j0) i * hh w (q j0) i = (∑ i, cen w (q j0) i * dhh w (q j0) i) * rstd w (q j0) := by
    rw [Finset.sum_mul]; exact Finset.sum_congr rfl fun i _ => by rw [hh]; ring
  rw [e, hh]; ring

theorem v166 : res_main_v166 V0 = tile q (dmix w) := by
  unfold res_main_v166; rw [v163 h, h.wo]
  funext j; idx_vars j; pointwise []
  simp only [up, arith, dmix]

theorem v167 : res_main_v167 V0 = tile q (dna w) := by
  unfold res_main_v167; rw [v166 h]
  funext j; idx_vars j; pointwise []
  simp only [up, dna]

theorem v168 : res_main_v168 V0 = tile q (dns w) := by
  unfold res_main_v168; rw [v166 h]
  funext j; idx_vars j; pointwise []
  simp only [up, dns]

theorem v173 : res_main_v173 V0 = tile q (fun p l => dns w p l * w.gs l) := by
  unfold res_main_v173; rw [v168 h, v81 h]
  funext j; idx_vars j; pointwise []
  simp only [up, arith]

omit h in
/-- The derivative of a norm as the reference has it. -/
theorem drms_ref (v g dn : Fin 512 → ℝ) (l : Fin 512) :
    dn l * g l * rms v + (∑ i, v i * (dn i * g i)) * (-(1 / 2) * (rms v / ((∑ l, v l * v l) / 512 + eps))) / 512 * (2 * v l)
      = drms (rms v) (fun i => v i * rms v) g dn l := by
  have e : ∑ i, dn i * g i * (v i * rms v) = (∑ i, v i * (dn i * g i)) * rms v := by
    rw [Finset.sum_mul]; exact Finset.sum_congr rfl fun i _ => by ring
  rw [drms, e, rms, root_div (norm_pos _ 512 (by norm_num))]; ring

theorem v186 : res_main_v186 V0 = tile q (dys w) := by
  unfold res_main_v186; rw [v173 h, v75 h, v74 h, v65 h]
  funext j; idx_vars j; pointwise []
  simp only [up, lits, arith, ref_arith, Finset.univ_unique, Finset.sum_singleton]
  congr 1
  exact drms_ref (ys w (q j0)) w.gs (dns w (q j0)) j1

theorem v187 : res_main_v187 V0 = tile q (fun p l => y2 w p l * dys w p l) := by
  unfold res_main_v187; rw [v63 h, v186 h]
  funext j; idx_vars j; pointwise []
  simp only [up, arith]

theorem v188 : res_main_v188 V0 = tile q (dy2 w) := by
  unfold res_main_v188; rw [v186 h, v64_0 h]
  funext j; idx_vars j; pointwise []
  simp only [up, arith, dy2]

theorem v192 : res_main_v192 V0 = tile q (da w) := by
  unfold res_main_v192; rw [v49 h, v188 h, v59 h]
  funext j; idx_vars j; pointwise []
  simp only [up, lits, arith, da]
  congr 1; ring

theorem v199 : res_main_v199 V0 = tile q (dgl w) := by
  unfold res_main_v199; rw [v188 h, v59 h, v192 h, h.wg]
  funext j; idx_vars j; pointwise []
  simp only [up, arith, dgl]

theorem v206 : res_main_v206 V0 = tile q (fun p l => gc * (1 / 2 * (ylin w p l * dgl w p l) * ((1 + th w p l) * (1 - th w p l)))) := by
  unfold res_main_v206; rw [v26 h, v199 h, v39 h]
  funext j; idx_vars j; pointwise []
  simp only [up, lits, arith]

theorem v222 : res_main_v222 V0 = tile q (fun p l => dna w p l * w.ga l) := by
  unfold res_main_v222; rw [v167 h, v20 h]
  funext j; idx_vars j; pointwise []
  simp only [up, arith]

theorem v235 : res_main_v235 V0 = tile q (dya w) := by
  unfold res_main_v235; rw [v222 h, v14 h, v13 h, v4 h]
  funext j; idx_vars j; pointwise []
  simp only [up, lits, arith, ref_arith, Finset.univ_unique, Finset.sum_singleton]
  congr 1
  exact drms_ref (ya (q j0)) w.ga (dna w (q j0)) j1

theorem v236 : res_main_v236 V0 = tile q (fun p l => p.o l * dya w p l) := by
  unfold res_main_v236; rw [h.o, v235 h]
  funext j; idx_vars j; pointwise []
  simp only [up, arith]

omit h in
/-- THE REFERENCE: on arguments that hold the weights `w` and the rows `q` it ends with the loss and the gradients of the row model. -/
theorem run_ref (m : (ℓ : Loc nD τ sig) → Buf (Elt Ideal) ℓ) (g : Dev nD → PrngReg) (w : Dev nD → W) (q : Dev nD → Fin 4096 → Row)
    (H : ∀ c, Holds (launchContents m c) (w c) (q c)) :
    θ_run defs (onTc (τ := τ) (main (F := Ideal))) ⟨m, fun _ => 0, g⟩ fun r => ∀ c : Dev nD,
        r.2.mem ((c.tc : Thread nD τ).loc main_v124) = lossA (w c) (q c)
        ∧ r.2.mem ((c.tc : Thread nD τ).loc main_v237) = tile (q c) (dov (w c))
        ∧ r.2.mem ((c.tc : Thread nD τ).loc main_v238) = tile (q c) (dza (w c))
        ∧ r.2.mem ((c.tc : Thread nD τ).loc main_v213) = tile (q c) (dyl (w c))
        ∧ r.2.mem ((c.tc : Thread nD τ).loc main_v189) = tile (q c) (dzs (w c))
        ∧ r.2.mem ((c.tc : Thread nD τ).loc main_v163) = tile (q c) (dpre (w c))
        ∧ r.2.mem ((c.tc : Thread nD τ).loc main_v165) = outerA (q c) (mixed (w c)) (dpre (w c))
        ∧ r.2.mem ((c.tc : Thread nD τ).loc main_v197) = outerA (q c) (gl (w c)) (da (w c))
        ∧ r.2.mem ((c.tc : Thread nD τ).loc main_v217) = rowsA (q c) (fun p l => dyl (w c) p l * p.u l)
        ∧ r.2.mem ((c.tc : Thread nD τ).loc main_v195) = rowsA (q c) (da (w c))
        ∧ r.2.mem ((c.tc : Thread nD τ).loc main_v223) = rowsA (q c) (fun p l => dna (w c) p l * na p l)
        ∧ r.2.mem ((c.tc : Thread nD τ).loc main_v174) = rowsA (q c) (fun p l => dns (w c) p l * ns (w c) p l)
        ∧ r.2.mem ((c.tc : Thread nD τ).loc main_v139) = rowsA (q c) (fun p j => dh (w c) p j * hh (w c) p j)
        ∧ r.2.mem ((c.tc : Thread nD τ).loc main_v133) = rowsA (q c) (dh (w c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15) := by
  refine (θ_run defs _ _).mono (fun r hr c => ?_) (run m g)
  obtain ⟨r0, r1, r2, r3, r4, r5, r6, r7, r8, r9, r10, r11, r12, r13, ha⟩ := hr c
  have h := H c
  refine ⟨r0.trans ?_, r1.trans ?_, r2.trans ?_, r3.trans ?_, r4.trans ?_, r5.trans (v163 h), r6.trans ?_, r7.trans ?_, r8.trans ?_,
    r9.trans ?_, r10.trans ?_, r11.trans ?_, r12.trans ?_, r13.trans ?_, ha⟩
  · rw [v116 h]
    funext j; pointwise []
    simp only [up, lits, arith, lossA, lrow]
  · rw [v235 h, v3_0 h]
    funext j; idx_vars j; pointwise []
    simp only [up, arith, dov]
  · rw [v236 h, v3_2 h, h.za]
    funext j; idx_vars j; pointwise []
    simp only [up, lits, arith, dza]
    congr 1; ring
  · rw [v199 h, v48 h, v206 h, v26 h]
    funext j; idx_vars j; pointwise []
    simp only [up, lits, arith, ref_arith, dyl]
    congr 1; simp only [gk3]; ring
  · rw [v187 h, v64_2 h, h.zs]
    funext j; idx_vars j; pointwise []
    simp only [up, lits, arith, dzs]
    congr 1; ring
  · rw [v163 h, v84 h]
    funext j; idx_vars j; pointwise []
    simp only [up, lits, arith, outerA]
    congr 1; exact Finset.sum_congr rfl fun r _ => mul_comm _ _
  · rw [v192 h, v49 h]
    funext j; idx_vars j; pointwise []
    simp only [up, lits, arith, outerA]
    congr 1; exact Finset.sum_congr rfl fun r _ => mul_comm _ _
  · rw [v199 h, v48 h, v206 h, v26 h, h.u]
    funext j; idx_vars j; pointwise []
    simp only [up, up1_at, lits, arith, ref_arith, rowsA, Finset.univ_unique, Finset.sum_singleton]
    congr 1; refine Finset.sum_congr rfl fun r _ => ?_
    simp only [dyl, gk3]; ring
  · rw [v192 h]
    funext j; idx_vars j; pointwise []
    simp only [up, up1_at, lits, arith, rowsA, Finset.univ_unique, Finset.sum_singleton]
  · rw [v19 h, v167 h]
    funext j; idx_vars j; pointwise []
    simp only [up, up1_at, lits, arith, rowsA, Finset.univ_unique, Finset.sum_singleton]
    congr 1; exact Finset.sum_congr rfl fun r _ => mul_comm _ _
  · rw [v80 h, v168 h]
    funext j; idx_vars j; pointwise []
    simp only [up, up1_at, lits, arith, rowsA, Finset.univ_unique, Finset.sum_singleton]
    congr 1; exact Finset.sum_congr rfl fun r _ => mul_comm _ _
  · rw [v109 h, v130 h]
    funext j; idx_vars j; pointwise []
    simp only [up, up1_at, lits, arith, rowsA, Finset.univ_unique, Finset.sum_singleton]
    congr 1; exact Finset.sum_congr rfl fun r _ => mul_comm _ _
  · rw [v130 h]
    funext j; idx_vars j; pointwise []
    simp only [up, up1_at, lits, arith, rowsA, Finset.univ_unique, Finset.sum_singleton]

end Cert.Mid.Ref

end
-- ==== Proof.Finite.lean ====
/- The precondition: every argument is finite, so the arguments are arrays of reals. -/
module

public import proofs.«01_k».proof.Proof.Up
public import proofs.«01_k».proof.Pre_finite
public import Idealize.ShloMosaic.Lib.ReduceAll
public import Idealize.ShloMosaic.Lib.Affine
public import Idealize.ShloMosaic.Lib.Pointwise

@[expose] public section

noncomputable section

namespace Cert.Pre_finite

open Idealize.ShloMosaic

/-- The side conditions of the precondition's operations. -/
theorem facts : Facts where
  bcast_S_S4096x512 := by decide
  reducesTo_S4096x512_S_d0_1 := by decide
  h_S_ := by decide
  bcast_S_S4096x1024 := by decide
  reducesTo_S4096x1024_S_d0_1 := by decide
  bcast_S_S512 := by decide
  reducesTo_S512_S_d0 := by decide
  bcast_S_S512x512 := by decide
  reducesTo_S512x512_S_d0_1 := by decide
  bcast_S_S1024x1024 := by decide
  reducesTo_S1024x1024_S_d0_1 := by decide
  bcast_S_S1024 := by decide
  reducesTo_S1024_S_d0 := by decide

theorem top_word : Ideal.ofBits .f32 0x7F800000#32 = ⊤ := by simp [Ideal.ofBits, Ideal.ieee]

/-- A value whose absolute value is below the infinite one is a real. -/
theorem real_of (x : EReal) (h : Ideal.cmp .olt (max x (-x)) (Ideal.ofBits .f32 0x7F800000#32) = 1#1) : x = ((x.toReal : ℝ) : EReal) := by
  rw [top_word] at h
  have h' : max x (-x) < ⊤ := by
    by_contra hn
    rw [show Ideal.cmp .olt (max x (-x)) ⊤ = BitVec.ofBool (decide (max x (-x) < ⊤)) from rfl, decide_eq_false hn] at h
    exact absurd h (by decide)
  obtain ⟨h1, h2⟩ := max_lt_iff.1 h'
  refine (EReal.coe_toReal h1.ne fun hb => ?_).symm
  rw [hb, EReal.neg_bot] at h2
  exact lt_irrefl _ h2

/-- An array each of whose values passes is an array of reals. -/
theorem reals {s u : Shape} {axes : List (Fin s.rank)} (x : FVec Ideal s .f32) (hb) (h : s.ReducesTo axes S_) (hu : 0 < u.numel)
    (init : u.Idx → BitVec 1) (j : S_.Idx)
    (e : Host.reduce IntOp.andi (cmpf .olt (Host.absf x) (broadcastInDim s ![] hb (constant S_ .f32 0x7F800000#32))) init h hu j = 1#1) (i : s.Idx) :
    x i = (((x i).toReal : ℝ) : EReal) := by
  haveI : Subsingleton S_.Idx := ⟨fun a b => funext fun k => k.elim0⟩
  exact real_of _ (Host.reduce_andi_all _ init h hu j e i)

theorem and_at (x y : IVec S_ 1) (j : S_.Idx) (h : andi x y j = 1#1) : x j = 1#1 ∧ y j = 1#1 := IntOp.andi_eq_one.1 h

/-- Arguments that pass the precondition are arrays of reals. -/
theorem all_reals [Facts] (x0 : FVec Ideal S4096x512 .f32) (x1 : FVec Ideal S4096x512 .f32) (x2 : FVec Ideal S4096x512 .f32) (x3 : FVec Ideal S4096x512 .f32) (x4 : FVec Ideal S4096x512 .f32) (x5 : FVec Ideal S4096x512 .f32) (x6 : FVec Ideal S4096x1024 .f32) (x7 : FVec Ideal S4096x1024 .f32) (x8 : FVec Ideal S512 .f32) (x9 : FVec Ideal S512x512 .f32) (x10 : FVec Ideal S512 .f32) (x11 : FVec Ideal S512 .f32) (x12 : FVec Ideal S512 .f32) (x13 : FVec Ideal S1024x1024 .f32) (x14 : FVec Ideal S1024 .f32) (x15 : FVec Ideal S1024 .f32)
    (e : fn (F := Ideal) x0 x1 x2 x3 x4 x5 x6 x7 x8 x9 x10 x11 x12 x13 x14 x15 = fun _ => 1#1) :
    (∀ i, x0 i = (((x0 i).toReal : ℝ) : EReal))
    ∧ (∀ i, x1 i = (((x1 i).toReal : ℝ) : EReal))
    ∧ (∀ i, x2 i = (((x2 i).toReal : ℝ) : EReal))
    ∧ (∀ i, x3 i = (((x3 i).toReal : ℝ) : EReal))
    ∧ (∀ i, x4 i = (((x4 i).toReal : ℝ) : EReal))
    ∧ (∀ i, x5 i = (((x5 i).toReal : ℝ) : EReal))
    ∧ (∀ i, x6 i = (((x6 i).toReal : ℝ) : EReal))
    ∧ (∀ i, x7 i = (((x7 i).toReal : ℝ) : EReal))
    ∧ (∀ i, x8 i = (((x8 i).toReal : ℝ) : EReal))
    ∧ (∀ i, x9 i = (((x9 i).toReal : ℝ) : EReal))
    ∧ (∀ i, x10 i = (((x10 i).toReal : ℝ) : EReal))
    ∧ (∀ i, x11 i = (((x11 i).toReal : ℝ) : EReal))
    ∧ (∀ i, x12 i = (((x12 i).toReal : ℝ) : EReal))
    ∧ (∀ i, x13 i = (((x13 i).toReal : ℝ) : EReal))
    ∧ (∀ i, x14 i = (((x14 i).toReal : ℝ) : EReal))
    ∧ (∀ i, x15 i = (((x15 i).toReal : ℝ) : EReal)) := by
  have h := congrFun e (fun k => k.elim0)
  unfold fn fn_part1 fn_part2 fn_part3 fn_part4 at h
  dsimp only at h
  obtain ⟨h, h15⟩ := and_at _ _ _ h
  obtain ⟨h, h14⟩ := and_at _ _ _ h
  obtain ⟨h, h13⟩ := and_at _ _ _ h
  obtain ⟨h, h12⟩ := and_at _ _ _ h
  obtain ⟨h, h11⟩ := and_at _ _ _ h
  obtain ⟨h, h10⟩ := and_at _ _ _ h
  obtain ⟨h, h9⟩ := and_at _ _ _ h
  obtain ⟨h, h8⟩ := and_at _ _ _ h
  obtain ⟨h, h7⟩ := and_at _ _ _ h
  obtain ⟨h, h6⟩ := and_at _ _ _ h
  obtain ⟨h, h5⟩ := and_at _ _ _ h
  obtain ⟨h, h4⟩ := and_at _ _ _ h
  obtain ⟨h, h3⟩ := and_at _ _ _ h
  obtain ⟨h, h2⟩ := and_at _ _ _ h
  obtain ⟨h, h1⟩ := and_at _ _ _ h
  exact ⟨reals _ _ _ _ _ _ h, reals _ _ _ _ _ _ h1, reals _ _ _ _ _ _ h2, reals _ _ _ _ _ _ h3, reals _ _ _ _ _ _ h4, reals _ _ _ _ _ _ h5, reals _ _ _ _ _ _ h6, reals _ _ _ _ _ _ h7, reals _ _ _ _ _ _ h8, reals _ _ _ _ _ _ h9, reals _ _ _ _ _ _ h10, reals _ _ _ _ _ _ h11, reals _ _ _ _ _ _ h12, reals _ _ _ _ _ _ h13, reals _ _ _ _ _ _ h14, reals _ _ _ _ _ _ h15⟩

end Cert.Pre_finite

end
-- ==== Proof.Claims.lean ====
/- The claims: the frames, the named constants, and that the kernel and the reference compute the same values from finite
   arguments. -/
module

public import proofs.«01_k».proof.Proof.Tail
public import proofs.«01_k».proof.Proof.Ref
public import proofs.«01_k».proof.Proof.Finite
public import proofs.«01_k».proof.Proof.Gen.Kernel
public import proofs.«01_k».proof.Defs

@[expose] public section

set_option maxRecDepth 16384

noncomputable section

namespace Cert.Mid

open Idealize.ShloMosaic Idealize.ShloMosaic.TcCoe Idealize.ShloMosaic.Tactic Idealize.SL.Sem

/-- A vector of finite values is a vector of reals. -/
theorem real1 {a : ℕ} (x : FVec Ideal ⟨1, ![a]⟩ .f32) (h : ∀ i, x i = (((x i).toReal : ℝ) : EReal)) :
    x = up1 fun l => (x (ix1 l)).toReal := by
  funext j
  rw [h j]
  show (((x j).toReal : ℝ) : EReal) = (((x (ix1 (j 0))).toReal : ℝ) : EReal)
  rw [show (ix1 (j 0) : Shape.Idx ⟨1, ![a]⟩) = j from by funext k; fin_cases k; rfl]

/-- A matrix of finite values is a matrix of reals. -/
theorem real2 {a b : ℕ} (x : FVec Ideal ⟨2, ![a, b]⟩ .f32) (h : ∀ i, x i = (((x i).toReal : ℝ) : EReal)) :
    x = up2 fun i l => (x (ix2 i l)).toReal := by
  funext j
  rw [h j]
  show (((x j).toReal : ℝ) : EReal) = (((x (ix2 (j 0) (j 1))).toReal : ℝ) : EReal)
  rw [show (ix2 (j 0) (j 1) : Shape.Idx ⟨2, ![a, b]⟩) = j from by funext k; fin_cases k <;> rfl]

section Arguments

open Cert.KernelIdeal

variable (m : (ℓ : Loc nD τ sig) → Buf (Elt Ideal) ℓ) (c : Dev nD)

/-- The weights among the arguments. -/
def wOf : W where
  d := fun l => ((m ((c.tc : Thread nD τ).loc main_arg8) : FVec Ideal S512 .f32) (ix1 l)).toReal
  wg := fun i l => ((m ((c.tc : Thread nD τ).loc main_arg9) : FVec Ideal S512x512 .f32) (ix2 i l)).toReal
  bg := fun l => ((m ((c.tc : Thread nD τ).loc main_arg10) : FVec Ideal S512 .f32) (ix1 l)).toReal
  ga := fun l => ((m ((c.tc : Thread nD τ).loc main_arg11) : FVec Ideal S512 .f32) (ix1 l)).toReal
  gs := fun l => ((m ((c.tc : Thread nD τ).loc main_arg12) : FVec Ideal S512 .f32) (ix1 l)).toReal
  wo := fun i l => ((m ((c.tc : Thread nD τ).loc main_arg13) : FVec Ideal S1024x1024 .f32) (ix2 i l)).toReal
  lg := fun l => ((m ((c.tc : Thread nD τ).loc main_arg14) : FVec Ideal S1024 .f32) (ix1 l)).toReal
  lb := fun l => ((m ((c.tc : Thread nD τ).loc main_arg15) : FVec Ideal S1024 .f32) (ix1 l)).toReal

/-- The rows among the arguments. -/
def qOf (i : Fin 4096) : Row where
  o := fun l => ((m ((c.tc : Thread nD τ).loc main_arg0) : FVec Ideal S4096x512 .f32) (ix2 i l)).toReal
  za := fun l => ((m ((c.tc : Thread nD τ).loc main_arg1) : FVec Ideal S4096x512 .f32) (ix2 i l)).toReal
  u := fun l => ((m ((c.tc : Thread nD τ).loc main_arg2) : FVec Ideal S4096x512 .f32) (ix2 i l)).toReal
  yf := fun l => ((m ((c.tc : Thread nD τ).loc main_arg3) : FVec Ideal S4096x512 .f32) (ix2 i l)).toReal
  yb := fun l => ((m ((c.tc : Thread nD τ).loc main_arg4) : FVec Ideal S4096x512 .f32) (ix2 i l)).toReal
  zs := fun l => ((m ((c.tc : Thread nD τ).loc main_arg5) : FVec Ideal S4096x512 .f32) (ix2 i l)).toReal
  x := fun l => ((m ((c.tc : Thread nD τ).loc main_arg6) : FVec Ideal S4096x1024 .f32) (ix2 i l)).toReal
  t := fun l => ((m ((c.tc : Thread nD τ).loc main_arg7) : FVec Ideal S4096x1024 .f32) (ix2 i l)).toReal

variable {m} in
theorem args_of [Cert.Pre_finite.Facts] (h : Cert.Pre_KernelIdeal_finite m) : Args m c (wOf m c) (qOf m c) := by
  obtain ⟨h0, h1, h2, h3, h4, h5, h6, h7, h8, h9, h10, h11, h12, h13, h14, h15⟩ := Cert.Pre_finite.all_reals _ _ _ _ _ _ _ _ _ _ _ _ _ _ _ _ (h c)
  exact ⟨real2 _ h0, real2 _ h1, real2 _ h2, real2 _ h3, real2 _ h4, real2 _ h5, real2 _ h6, real2 _ h7, real1 _ h8, real2 _ h9, real1 _ h10, real1 _ h11, real1 _ h12, real2 _ h13, real1 _ h14, real1 _ h15⟩

end Arguments

/-! ## The claims -/

section Claims

theorem frame_ideal : @Cert.quiescent_KernelIdeal Cert.KernelIdeal.Gen.facts := fun m ρ _ => Cert.KernelIdeal.Gen.frame (F := Ideal) m ρ

theorem frame_ideal_pre [Cert.Pre_finite.Facts] : @Cert.quiescent_KernelIdeal_pre_finite Cert.KernelIdeal.Gen.facts _ :=
  fun m ρ _ => Cert.KernelIdeal.Gen.frame (F := Ideal) m ρ

theorem frame_ref : @Cert.quiescent_ReferenceIdeal Cert.ReferenceIdeal.Gen.facts := by
  intro m g _
  refine (θ_run Cert.ReferenceIdeal.defs _ _).mono (fun r h => ⟨fun c => ?_, sem_eq_zero_of_no_sems (by decide) r.2⟩)
    (Cert.ReferenceIdeal.Value.run (F := Ideal) m g)
  obtain ⟨-, -, -, -, -, -, -, -, -, -, -, -, -, -, h⟩ := h c
  exact h

theorem frame_ref_pre [Cert.Pre_finite.Facts] : @Cert.quiescent_ReferenceIdeal_pre_finite Cert.ReferenceIdeal.Gen.facts _ := fun m g _ => frame_ref m g trivial

theorem preserves : Cert.preserves_Kernel_KernelIdeal :=
  ⟨IdealRules.named_const.statement Cert.KernelIdeal.κ "gelu_k" .f32 0x3D372713#32 _ rfl,
    IdealRules.named_const.statement Cert.KernelIdeal.κ "gelu_3k" .f32 0x3E095D4F#32 _ rfl⟩

/-- From finite arguments the two programs end with equal results: those of the row model. -/
theorem algebraic [Cert.Pre_finite.Facts] :
    @Cert.algebraic_KernelIdeal_ReferenceIdeal_pre_finite Cert.KernelIdeal.Gen.facts Cert.ReferenceIdeal.Gen.facts _ := by
  intro m g m' g' hpre hagree
  have H (c : Dev Cert.KernelIdeal.nD) : Args m c (wOf m c) (qOf m c) := args_of c hpre
  have H' (c : Dev Cert.KernelIdeal.nD) : Ref.Holds (StableHlo.launchContents m' c) (wOf m c) (qOf m c) := by
    obtain ⟨e0, e1, e2, e3, e4, e5, e6, e7, e8, e9, e10, e11, e12, e13, e14, e15⟩ := hagree c
    have h := H c
    exact ⟨e0.trans h.o, e1.trans h.za, e2.trans h.u, e3.trans h.yf, e4.trans h.yb, e5.trans h.zs, e6.trans h.x, e7.trans h.t, e8.trans h.d, e9.trans h.wg, e10.trans h.bg, e11.trans h.ga, e12.trans h.gs, e13.trans h.wo, e14.trans h.lg, e15.trans h.lb⟩
  refine ⟨_, _, _, _, _, _, _, _, _, _, _, _, _, _, run_kernel m g (wOf m) (qOf m) H, Ref.run_ref m' g' (wOf m) (qOf m) H'⟩

end Claims

end Cert.Mid

end
-- ==== Proof.KernelFrame.lean ====
/- The frame of the kernel at the bit level: over bit words the ideal kernel's program is the kernel itself. -/
module

public import proofs.«01_k».proof.Proof.MidFrame
public import proofs.«01_k».proof.Proof.Gen.Kernel
public import proofs.«01_k».proof.Defs

@[expose] public section

set_option maxRecDepth 65536
set_option maxHeartbeats 4000000

open Idealize.ShloMosaic Idealize.ShloMosaic.TcCoe Idealize.SL.Sem

namespace Cert.Mid

/-- Over bit words a named constant is its own word. -/
@[reducible] def namedBits : Named Bits := ⟨fun _ _ _ w => Scalar.ofBits _ w⟩

/-- The two programs' kernel functions are the same. -/
theorem body_eq : @Cert.Kernel.defs₀ Bits _ Cert.Kernel.Gen.facts = @Cert.KernelIdeal.defs₀ Bits _ namedBits Cert.KernelIdeal.Gen.facts :=
  congrArg (Defs.onTc (nD := Cert.Kernel.nD) (τ := Cert.Kernel.τ) (sig := Cert.Kernel.sig)) (funext fun l => funext fun a => match l, a with
  | 0, (_, _) => rfl)

/-- So are the tables of what a call may run. -/
theorem defs_eq : @Cert.Kernel.defs Bits _ Cert.Kernel.Gen.facts = @Cert.KernelIdeal.defs Bits _ namedBits Cert.KernelIdeal.Gen.facts :=
  congrArg (Pipeline.defs (@Cert.Kernel.pcfgs Bits Cert.Kernel.Gen.facts)) body_eq

/-- So are the main programs. -/
theorem main_eq : @Cert.Kernel.main Bits _ Cert.Kernel.Gen.facts = @Cert.KernelIdeal.main Bits _ Cert.KernelIdeal.Gen.facts := by exact (rfl)

/-- What holds of a program's runs holds of an equal program's. -/
theorem run_of_eq {nD : ℕ} {τ : Topo} {sig : RefSig} {Val : EltTy → Type} {Λ : Labels} {D D' : Defs nD τ sig Val Λ} (hD : D = D')
    {p p' : Dev nD → Prog (TpuEff nD τ sig Val Λ .tc) PUnit} (hp : p = p') {s : MemSt nD τ sig Val}
    {Q : _ → Prop} (h : θ_run D' (onTc p') s Q) : θ_run D (onTc p) s Q := by
  subst hD hp
  exact h

/-- The kernel at the bit level runs, leaves its arguments alone and ends with every counter at zero. -/
theorem frame_kernel : @Cert.quiescent_Kernel Cert.Kernel.Gen.facts :=
  fun m ρ _ => run_of_eq defs_eq main_eq (letI := namedBits; Cert.KernelIdeal.Gen.frame (F := Bits) m ρ)

end Cert.Mid

end
-- ==== Proof.Turn.lean ====
/- The gradient of the input projection's product, in closed form: the columns of the queries and the keys are turned back by the
   angle of their position, the columns of the recurrence's input collect three gradients, and the others are taken as they are. -/
module

public import Idealize.ShloMosaic.Lib.Pipeline.ValueKit
public import Idealize.ShloMosaic.Lib.Claim

@[expose] public section

set_option maxRecDepth 16384

noncomputable section

namespace Cert.Proj

open Idealize.ShloMosaic Idealize.ShloMosaic.TcCoe Idealize.ShloMosaic.Tactic

/-- The frequency of lane `l` of a half head. -/
def freq (l : ℕ) : ℝ := Real.rpow 10000 (-(l : ℝ) / 32)

/-- The cosine and the sine of position `p`'s angle at the lane `l`. -/
def co (p l : ℕ) : ℝ := Real.cos ((p : ℝ) * freq l)
def si (p l : ℕ) : ℝ := Real.sin ((p : ℝ) * freq l)

/-- The sign with which the sine turns the lane `n` of a head: minus in the head's first half. -/
def sg (n : ℕ) : ℝ := if n % 64 < 32 then -1 else 1

theorem co_add (p q l : ℕ) : co (p + q) l = co p l * co q l - si p l * si q l := by
  unfold co si; rw [Nat.cast_add, add_mul, Real.cos_add]

theorem si_add (p q l : ℕ) : si (p + q) l = si p l * co q l + co p l * si q l := by
  unfold co si; rw [Nat.cast_add, add_mul, Real.sin_add]

theorem lit_base : Ideal.ofBits .f32 0x461C4000#32 = ((10000 : ℝ) : EReal) := by
  simp [Ideal.ofBits, Ideal.ieee, -EReal.coe_mul]; norm_num
theorem lit_32 : Ideal.ofBits .f32 0x42000000#32 = ((32 : ℝ) : EReal) := by
  simp [Ideal.ofBits, Ideal.ieee, -EReal.coe_mul]; norm_num

/-- A small number read from its word. -/
theorem word (n : ℕ) (h : n < 2 ^ 31) : (BitVec.ofNat 32 n).toInt = n := by
  rw [BitVec.toInt_eq_toNat_of_lt] <;> simp only [BitVec.toNat_ofNat] <;> omega

/-- The frequency as the programs compute it. -/
theorem freq_eq (l : ℕ) (h : l < 32) :
    Ideal.pow (Ideal.ofBits .f32 0x461C4000#32)
      (Ideal.div (-((((BitVec.ofNat 32 l).toInt : ℤ) : ℝ) : EReal)) (Ideal.ofBits .f32 0x42000000#32)) = ((freq l : ℝ) : EReal) := by
  rw [lit_base, lit_32, word l (by omega), Ideal.div, if_neg (by norm_num), ← EReal.coe_inv, ← EReal.coe_neg, ← EReal.coe_mul]
  show ((Real.rpow 10000 (-((l : ℤ) : ℝ) * 32⁻¹) : ℝ) : EReal) = _
  rw [freq, div_eq_mul_inv, Int.cast_natCast]

/-- The cosine and the sine as the programs compute them: the position `p` is read from the word `w`, the lane from its number. -/
theorem co_eq (p l : ℕ) (w : BitVec 32) (hw : w.toInt = (p : ℤ)) (h : l < 32) :
    Ideal.cos (FloatOps.sitofp (F := Ideal) .f32 w * Ideal.pow (Ideal.ofBits .f32 0x461C4000#32)
      (Ideal.div (-FloatOps.sitofp (F := Ideal) .f32 (BitVec.ofNat 32 l)) (Ideal.ofBits .f32 0x42000000#32))) = ((co p l : ℝ) : EReal) := by
  show Ideal.cos (((w.toInt : ℝ) : EReal) * Ideal.pow _ (Ideal.div (-((((BitVec.ofNat 32 l).toInt : ℤ) : ℝ) : EReal)) _)) = _
  rw [freq_eq l h, hw, Int.cast_natCast, ← EReal.coe_mul]; rfl
theorem si_eq (p l : ℕ) (w : BitVec 32) (hw : w.toInt = (p : ℤ)) (h : l < 32) :
    Ideal.sin (FloatOps.sitofp (F := Ideal) .f32 w * Ideal.pow (Ideal.ofBits .f32 0x461C4000#32)
      (Ideal.div (-FloatOps.sitofp (F := Ideal) .f32 (BitVec.ofNat 32 l)) (Ideal.ofBits .f32 0x42000000#32))) = ((si p l : ℝ) : EReal) := by
  show Ideal.sin (((w.toInt : ℝ) : EReal) * Ideal.pow _ (Ideal.div (-((((BitVec.ofNat 32 l).toInt : ℤ) : ℝ) : EReal)) _)) = _
  rw [freq_eq l h, hw, Int.cast_natCast, ← EReal.coe_mul]; rfl

/-- The sine with the sign of its lane. -/
theorem sg_neg (p l : ℕ) (h : l % 64 < 32) : -1 * ((si p (l % 32) : ℝ) : EReal) = ((sg l * si p (l % 32) : ℝ) : EReal) := by
  rw [sg, if_pos h, EReal.coe_mul, EReal.coe_neg, EReal.coe_one]
theorem sg_pos (p l : ℕ) (h : ¬ l % 64 < 32) : ((si p (l % 32) : ℝ) : EReal) = ((sg l * si p (l % 32) : ℝ) : EReal) := by
  rw [sg, if_neg h, one_mul]

/-- The position of a group's first row, read from its word. -/
theorem group (b : Fin 32) : (IntOp.muli (BitVec.ofNat 32 b.val) 128#32).toInt = ((128 * b.val : ℕ) : ℤ) := by
  revert b; decide

/-- A matrix read at numbers. -/
def rd {a b : ℕ} (x : Fin a → Fin b → EReal) (r n : ℕ) : EReal := if h : r < a ∧ n < b then x ⟨r, h.1⟩ ⟨n, h.2⟩ else 0

theorem rd_eq {a b : ℕ} (x : Fin a → Fin b → EReal) (r : Fin a) (n : Fin b) : rd x r.val n.val = x r n := by
  rw [rd, dif_pos ⟨r.isLt, n.isLt⟩]

theorem rd_of {a b : ℕ} (x : Fin a → Fin b → EReal) (r : Fin a) (n : Fin b) (r' n' : ℕ) (hr : r.val = r') (hn : n.val = n') :
    x r n = rd x r' n' := by
  subst hr hn; exact (rd_eq x r n).symm

/-- The lane `n` of the row `x` of position `p`, turned back by the position's angle. -/
def back (x : ℕ → EReal) (p n : ℕ) : EReal :=
  if n % 64 < 32 then x n * (co p (n % 32) : ℝ) + x (n + 32) * (si p (n % 32) : ℝ)
  else x n * (co p (n % 32) : ℝ) + x (n - 32) * ((-si p (n % 32) : ℝ) : EReal)

/-- The heads in pairs: the lane `l` of the pairs is this lane of the array. -/
def natural (l : ℕ) : ℕ := l / 64 % 2 * 256 + l / 128 * 64 + l % 64

/-- The gradients that reach the projection. -/
structure G where
  (q : Fin 4096 → Fin 512 → EReal) (k v : Fin 4096 → Fin 128 → EReal)
  (za f b l zs : Fin 4096 → Fin 512 → EReal) (d : Fin 512 → EReal)

/-- The gradient of the product's entry at row `p`, column `n`. -/
def G.col (g : G) (p n : ℕ) : EReal :=
  if n < 512 then back (rd g.q p) p n
  else if n < 640 then back (rd g.k p) p (n - 512)
  else if n < 768 then rd g.v p (n - 640)
  else if n < 1280 then rd g.za p (n - 768)
  else if n < 1792 then rd g.f p (n - 1280) + rd g.b p (n - 1280) + rd (fun _ : Fin 1 => g.d) 0 (n - 1280) * rd g.l p (n - 1280)
  else rd g.zs p (n - 1792)

end Cert.Proj

end
-- ==== Proof.EntryX.lean ====
/- What the operands of the input gradient's call hold: the two tables of cosines and sines, the gradients with their heads in
   pairs and their columns in slabs, and the weights transposed. -/
module

public import proofs.«01_k».proof.Proof.Gen.Kernel2Ideal.Launch
public import proofs.«01_k».proof.Proof.Turn

@[expose] public section

set_option maxRecDepth 16384

noncomputable section

namespace Cert.Px

open Idealize.ShloMosaic Idealize.ShloMosaic.TcCoe Idealize.ShloMosaic.Tactic Cert.Kernel2Ideal Cert.Kernel2Ideal.Gen Cert.Proj

/-- What the run of the host's lines leaves. -/
def W (V : Valuation τ sig (Elt Ideal)) (b : Ref sig .tc) := StableHlo.after (hostOps0 (F := Ideal)) V (Proc.devRef .tc b)

variable (V : Valuation τ sig (Elt Ideal))

/-! ## The tables -/

theorem hi_cos (b : Fin 32) (l : Fin 128) : W V main_v34 (ix3 0 b l) = ((co (128 * b.val) (l.val % 32) : ℝ) : EReal) := by
  simp only [W, hostOps0]; after_results_simp
  dsimp only [Matrix.cons_val]; after_results_simp
  pointwise []
  exact co_eq _ _ _ (group b) (by omega)

theorem hi_sin (b : Fin 32) (l : Fin 128) : W V main_v34 (ix3 1 b l) = ((si (128 * b.val) (l.val % 32) : ℝ) : EReal) := by
  simp only [W, hostOps0]; after_results_simp
  dsimp only [Matrix.cons_val]; after_results_simp
  pointwise []
  exact si_eq _ _ _ (group b) (by omega)

theorem hi_sign (b : Fin 32) (l : Fin 128) : W V main_v34 (ix3 2 b l) = ((sg l.val * si (128 * b.val) (l.val % 32) : ℝ) : EReal) := by
  simp only [W, hostOps0]; after_results_simp
  dsimp only [Matrix.cons_val]; after_results_simp
  pointwise []
  split_ifs with h <;> after_results_simp <;> pointwise [] <;> rw [si_eq _ _ _ (group b) (by omega)]
  all_goals first | exact sg_neg _ _ h | exact sg_pos _ _ h

theorem lo_cos (r l : Fin 128) : W V main_v51 (ix3 0 r l) = ((co r.val (l.val % 32) : ℝ) : EReal) := by
  simp only [W, hostOps0]; after_results_simp
  dsimp only [Matrix.cons_val]; after_results_simp
  pointwise []
  exact co_eq _ _ _ (word _ (by omega)) (by omega)

theorem lo_sin (r l : Fin 128) : W V main_v51 (ix3 1 r l) = ((si r.val (l.val % 32) : ℝ) : EReal) := by
  simp only [W, hostOps0]; after_results_simp
  dsimp only [Matrix.cons_val]; after_results_simp
  pointwise []
  exact si_eq _ _ _ (word _ (by omega)) (by omega)

theorem lo_sign (r l : Fin 128) : W V main_v51 (ix3 2 r l) = ((sg l.val * si r.val (l.val % 32) : ℝ) : EReal) := by
  simp only [W, hostOps0]; after_results_simp
  dsimp only [Matrix.cons_val]; after_results_simp
  pointwise []
  split_ifs with h <;> after_results_simp <;> pointwise [] <;> rw [si_eq _ _ _ (word _ (by omega)) (by omega)]
  all_goals first | exact sg_neg _ _ h | exact sg_pos _ _ h

/-! ## The gradients -/

/-- The gradients that the arguments hold. -/
def grads : G where
  q r n := V (Proc.devRef .tc main_arg3) (ix2 r n)
  k r n := V (Proc.devRef .tc main_arg4) (ix2 r n)
  v r n := V (Proc.devRef .tc main_arg5) (ix2 r n)
  za r n := V (Proc.devRef .tc main_arg6) (ix2 r n)
  f r n := V (Proc.devRef .tc main_arg7) (ix2 r n)
  b r n := V (Proc.devRef .tc main_arg8) (ix2 r n)
  l r n := V (Proc.devRef .tc main_arg9) (ix2 r n)
  zs r n := V (Proc.devRef .tc main_arg10) (ix2 r n)
  d n := V (Proc.devRef .tc main_arg2) (ix1 n)

theorem q_at (r : Fin 4096) (l : Fin 512) : W V main_v54 (ix2 r l) = rd (grads V).q r.val (natural l.val) := by
  simp only [W, hostOps0]; after_results
  pointwise []
  exact rd_of (grads V).q _ _ _ _ rfl rfl

theorem za_at (r : Fin 4096) (l : Fin 512) : W V main_v57 (ix2 r l) = rd (grads V).za r.val (natural l.val) := by
  simp only [W, hostOps0]; after_results
  pointwise []
  exact rd_of (grads V).za _ _ _ _ rfl rfl

theorem k_at (r : Fin 4096) (l : Fin 128) : W V main_arg4 (ix2 r l) = rd (grads V).k r.val l.val := by
  simp only [W, hostOps0]; after_results
  exact rd_of (grads V).k _ _ _ _ rfl rfl

theorem v_at (r : Fin 4096) (l : Fin 128) : W V main_arg5 (ix2 r l) = rd (grads V).v r.val l.val := by
  simp only [W, hostOps0]; after_results
  exact rd_of (grads V).v _ _ _ _ rfl rfl

theorem zs_at (r : Fin 4096) (l : Fin 512) : W V main_arg10 (ix2 r l) = rd (grads V).zs r.val l.val := by
  simp only [W, hostOps0]; after_results
  exact rd_of (grads V).zs _ _ _ _ rfl rfl

theorem f_at (a : Fin 4) (r : Fin 4096) (l : Fin 128) : W V main_v59 (ix3 a r l) = rd (grads V).f r.val (a.val * 128 + l.val) := by
  simp only [W, hostOps0]; after_results
  pointwise []
  exact rd_of (grads V).f _ _ _ _ rfl rfl

theorem b_at (a : Fin 4) (r : Fin 4096) (l : Fin 128) : W V main_v61 (ix3 a r l) = rd (grads V).b r.val (a.val * 128 + l.val) := by
  simp only [W, hostOps0]; after_results
  pointwise []
  exact rd_of (grads V).b _ _ _ _ rfl rfl

theorem l_at (a : Fin 4) (r : Fin 4096) (l : Fin 128) : W V main_v63 (ix3 a r l) = rd (grads V).l r.val (a.val * 128 + l.val) := by
  simp only [W, hostOps0]; after_results
  pointwise []
  exact rd_of (grads V).l _ _ _ _ rfl rfl

theorem d_at (l : Fin 512) : W V main_v64 (ix2 0 l) = rd (fun _ : Fin 1 => (grads V).d) 0 l.val := by
  simp only [W, hostOps0]; after_results
  pointwise []
  exact rd_of (fun _ : Fin 1 => (grads V).d) 0 _ _ _ rfl rfl

/-! ## The rest -/

theorem w_at (n : Fin 2304) (j : Fin 1024) : W V main_v66 (ix2 n j) = V (Proc.devRef .tc main_arg1) (ix2 j n) := by
  simp only [W, hostOps0]; after_results
  pointwise []

theorem pre_at (r : Fin 4096) (j : Fin 1024) : W V main_arg11 (ix2 r j) = V (Proc.devRef .tc main_arg11) (ix2 r j) := by
  simp only [W, hostOps0]; after_results

end Cert.Px

end
-- ==== Proof.Block.lean ====
/- The matrix of gradients that a grid point of the input projection's backward calls builds: from the rows it reads it turns the
   query and key heads back, brings the heads to their natural order, and sums the three gradients of the scan's input.
   Its entry at row `r`, column `n` is the gradient of the projection's product there. -/
module

public import proofs.«01_k».proof.Proof.Gen.Kernel2Ideal.Skeleton
public import proofs.«01_k».proof.Proof.Turn
public import Idealize.ShloMosaic.Lib.Pipeline.ValueKit

@[expose] public section

set_option maxRecDepth 16384

noncomputable section

namespace Cert.Proj

open Idealize.ShloMosaic Idealize.ShloMosaic.TcCoe Idealize.ShloMosaic.Tactic Cert.Kernel2Ideal Cert.Kernel2Ideal.Gen

/-! ## The terms

`hc`, `hs`, `hg` are the four groups' cosines, sines and signed sines; `tc`, `ts`, `tg` those of the rows inside a group. -/

section terms
variable (hc hs hg : Fin 4 → Vec Ideal S1x1x128 .f32) (tc ts tg : Vec Ideal S1x128x128 .f32)

/-- The cosines of the point's rows. -/
def Cos : FVec Ideal S512x128 .f32 :=
  k0_pay17 (k0_pay4 tc) (k0_pay5 ts) (k0_pay8 tc ts (hc 0) (hs 0)) (k0_pay11 (k0_pay4 tc) (k0_pay5 ts) (k0_pay10 (hc 1)) (hs 1))
    (k0_pay14 (k0_pay4 tc) (k0_pay5 ts) (hc 2) (hs 2)) (k0_pay16 (hc 3)) (hs 3)

/-- The signed sines of the point's rows. -/
def Sin : FVec Ideal S512x128 .f32 :=
  k0_pay18 (k0_pay4 tc) (k0_pay6 tg) (k0_pay9 tc tg (hc 0) (hg 0)) (k0_pay12 (k0_pay4 tc) (k0_pay6 tg) (k0_pay10 (hc 1)) (hg 1))
    (k0_pay15 (k0_pay4 tc) (k0_pay6 tg) (hc 2) (hg 2)) (k0_pay16 (hc 3)) (hg 3)

variable (c s : FVec Ideal S512x128 .f32) (q : Vec Ideal S512x512 .f32)

/-- The four pairs of query heads, turned back. -/
def Q0 : FVec Ideal S512x128 .f32 := k0_pay28 (mulf (k0_pay22 q) c) (mulf (k0_pay22 q) s) k0_pay25 k0_pay26 k0_pay27
def Q1 : FVec Ideal S512x128 .f32 := k0_pay29 c s (k0_pay20 q)
def Q2 : FVec Ideal S512x128 .f32 :=
  k0_pay35 (k0_pay31 c (k0_pay20 q)) (k0_pay32 s (k0_pay20 q)) (Scalar.select (Scalar.cmpi .eq 64#32 0#32) 1#32 64#32) k0_pay33 k0_pay34
def Q3 : FVec Ideal S512x128 .f32 := k0_pay36 c s (k0_pay20 q)

/-- The whole matrix. -/
def D (k v : Vec Ideal S512x128 .f32) (za : Vec Ideal S512x512 .f32) (f b l : Fin 4 → Vec Ideal S1x512x128 .f32)
    (zs : Vec Ideal S512x512 .f32) (d : Vec Ideal S1x512 .f32) : FVec Ideal S512x2304 .f32 :=
  concatenate S512x2304 1 [⟨S512x128, k0_pay39 k0_pay19 (Q0 c s q) (k0_pay38 (Q1 c s q))⟩,
    ⟨S512x128, k0_pay40 k0_pay19 (Q2 c s q) (Q3 c s q)⟩, ⟨S512x128, k0_pay41 k0_pay19 (Q1 c s q) (k0_pay37 (Q0 c s q))⟩,
    ⟨S512x128, k0_pay42 k0_pay19 (Q2 c s q) (Q3 c s q)⟩, ⟨S512x128, k0_pay44 c s k⟩, ⟨S512x128, v⟩,
    ⟨S512x128, k0_pay51 k0_pay19 (k0_pay45 (k0_pay21 za)) (k0_pay50 (k0_pay21 za))⟩,
    ⟨S512x128, k0_pay52 k0_pay19 (k0_pay47 (k0_pay21 za)) (k0_pay48 (k0_pay21 za))⟩,
    ⟨S512x128, k0_pay53 k0_pay19 (k0_pay46 (k0_pay21 za)) (k0_pay49 (k0_pay21 za))⟩,
    ⟨S512x128, k0_pay54 k0_pay19 (k0_pay47 (k0_pay21 za)) (k0_pay48 (k0_pay21 za))⟩,
    ⟨S512x128, k0_pay55 (k0_pay43 d) (f 0) (b 0) (l 0)⟩, ⟨S512x128, k0_pay56 (k0_pay43 d) (f 1) (b 1) (l 1)⟩,
    ⟨S512x128, k0_pay1 (k0_pay57 (f 2) (b 2)) (k0_pay58 (k0_pay43 d)) (l 2)⟩, ⟨S512x128, k0_pay2 (k0_pay43 d) (f 3) (b 3) (l 3)⟩,
    ⟨S512x512, zs⟩]
    concatenates_S512x128_S512x128_S512x128_S512x128_S512x128_S512x128_S512x128_S512x128_S512x128_S512x128_S512x128_S512x128_S512x128_S512x128_S512x512_S512x2304_d1

end terms

/-! ## The angles -/

section angles
variable {hc hs hg : Fin 4 → Vec Ideal S1x1x128 .f32} {tc ts tg : Vec Ideal S1x128x128 .f32} {P : ℕ}

theorem three : ((3 : Fin 4) : ℕ) = 3 := rfl

theorem add_cos (p q l : ℕ) : ((co p l : ℝ) : EReal) * ((co q l : ℝ) : EReal) - ((si p l : ℝ) : EReal) * ((si q l : ℝ) : EReal) = ((co (p + q) l : ℝ) : EReal) := by
  rw [co_add, EReal.coe_sub, EReal.coe_mul, EReal.coe_mul]

theorem add_sin (p q n l : ℕ) : ((sg n * si p l : ℝ) : EReal) * ((co q l : ℝ) : EReal) + ((co p l : ℝ) : EReal) * ((sg n * si q l : ℝ) : EReal) = ((sg n * si (p + q) l : ℝ) : EReal) := by
  rw [si_add, mul_add, EReal.coe_add, ← EReal.coe_mul, ← EReal.coe_mul]; congr 2 <;> ring

theorem cos_at (h0 : ∀ (g : Fin 4) (l : Fin 128), hc g (ix3 0 0 l) = ((co (P + 128 * g.val) (l.val % 32) : ℝ) : EReal))
    (h1 : ∀ (g : Fin 4) (l : Fin 128), hs g (ix3 0 0 l) = ((si (P + 128 * g.val) (l.val % 32) : ℝ) : EReal))
    (h2 : ∀ r l : Fin 128, tc (ix3 0 r l) = ((co r.val (l.val % 32) : ℝ) : EReal))
    (h3 : ∀ r l : Fin 128, ts (ix3 0 r l) = ((si r.val (l.val % 32) : ℝ) : EReal)) (r : Fin 512) (l : Fin 128) :
    Cos hc hs tc ts (ix2 r l) = ((co (P + r.val) (l.val % 32) : ℝ) : EReal) := by
  pointwise [Cos, k0_pay17, k0_pay4, k0_pay5, k0_pay8, k0_pay7, k0_pay11, k0_pay10, k0_pay14, k0_pay13, k0_pay16]
  split_ifs <;> rw [h0, h1, h2, h3, add_cos] <;> congr 2 <;> simp only [Fin.val_zero, Fin.val_one, Fin.val_two, three] <;> omega

theorem sin_at (h0 : ∀ (g : Fin 4) (l : Fin 128), hc g (ix3 0 0 l) = ((co (P + 128 * g.val) (l.val % 32) : ℝ) : EReal))
    (h1 : ∀ (g : Fin 4) (l : Fin 128), hg g (ix3 0 0 l) = ((sg l.val * si (P + 128 * g.val) (l.val % 32) : ℝ) : EReal))
    (h2 : ∀ r l : Fin 128, tc (ix3 0 r l) = ((co r.val (l.val % 32) : ℝ) : EReal))
    (h3 : ∀ r l : Fin 128, tg (ix3 0 r l) = ((sg l.val * si r.val (l.val % 32) : ℝ) : EReal)) (r : Fin 512) (l : Fin 128) :
    Sin hc hg tc tg (ix2 r l) = ((sg l.val * si (P + r.val) (l.val % 32) : ℝ) : EReal) := by
  pointwise [Sin, k0_pay18, k0_pay4, k0_pay6, k0_pay9, k0_pay7, k0_pay12, k0_pay10, k0_pay15, k0_pay13, k0_pay16]
  split_ifs <;> rw [h0, h1, h2, h3, add_sin] <;> congr 3 <;> simp only [Fin.val_zero, Fin.val_one, Fin.val_two, three] <;> omega

end angles

/-! ## Heads turned back -/

/-- The word that says whether a lane lies in the low half of its head. -/
abbrev low (l : Fin 128) : BitVec 1 :=
  IntOp.cmpi CmpIPredicate.slt
    (Scalar.select
      (IntOp.andi
        (IntOp.xori
          (IntOp.cmpi CmpIPredicate.slt (IntOp.remsi ArithUnit.vector (BitVec.ofNat 32 ↑l) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 ↑l) (Scalar.select (Scalar.cmpi CmpIPredicate.eq 64#32 0#32) 1#32 64#32)) 0#32))
      (IntOp.addi (IntOp.remsi ArithUnit.vector (BitVec.ofNat 32 ↑l) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 ↑l) (Scalar.select (Scalar.cmpi CmpIPredicate.eq 64#32 0#32) 1#32 64#32)))
    32#32

theorem low_eq : ∀ l : Fin 128, low l = if l.val % 64 < 32 then 1#1 else 0#1 := by decide

/-- One lane turned back, from the lane, its partner above and its partner below. -/
theorem turn (X : ℕ → EReal) (p : ℕ) (l : Fin 128) (n : ℕ) (hn : n % 64 = l.val % 64) (y yp ym c sp sm : EReal)
    (h : y = X n) (hp : l.val % 64 < 32 → yp = X (n + 32)) (hm : ¬ l.val % 64 < 32 → ym = X (n - 32))
    (hc : c = ((co p (l.val % 32) : ℝ) : EReal)) (hsp : l.val % 64 < 32 → sp = ((si p (l.val % 32) : ℝ) : EReal))
    (hsm : ¬ l.val % 64 < 32 → sm = ((-si p (l.val % 32) : ℝ) : EReal)) :
    y * c + Scalar.select (low l) (yp * sp) (ym * sm) = back X p n := by
  have e : n % 32 = l.val % 32 := by omega
  rw [low_eq, back, hn, e, h, hc]
  by_cases hl : l.val % 64 < 32
  · rw [if_pos hl, if_pos hl, hp hl, hsp hl]; rfl
  · rw [if_neg hl, if_neg hl, hm hl, hsm hl]; rfl

section heads
variable {c s : FVec Ideal S512x128 .f32} {P : ℕ}
variable (hc : ∀ (r : Fin 512) (l : Fin 128), c (ix2 r l) = ((co (P + r.val) (l.val % 32) : ℝ) : EReal))
variable (hs : ∀ (r : Fin 512) (l : Fin 128), s (ix2 r l) = ((sg l.val * si (P + r.val) (l.val % 32) : ℝ) : EReal))
include hs in
theorem s_up (r : Fin 512) (l : Fin 128) (h : l.val % 64 < 32) (hl : (l.val + 128 - 96) % 128 < 128) :
    s (ix2 r ⟨(l.val + 128 - 96) % 128, hl⟩) = ((si (P + r.val) (l.val % 32) : ℝ) : EReal) := by
  rw [hs, sg, if_neg (by show ¬ (l.val + 128 - 96) % 128 % 64 < 32; omega), one_mul]
  congr 2; show (l.val + 128 - 96) % 128 % 32 = _; omega
include hs in
theorem s_down (r : Fin 512) (l : Fin 128) (h : ¬ l.val % 64 < 32) (hl : (l.val + 128 - 32) % 128 < 128) :
    s (ix2 r ⟨(l.val + 128 - 32) % 128, hl⟩) = ((-si (P + r.val) (l.val % 32) : ℝ) : EReal) := by
  rw [hs, sg, if_pos (by show (l.val + 128 - 32) % 128 % 64 < 32; omega), neg_one_mul]
  congr 3; show (l.val + 128 - 32) % 128 % 32 = _; omega

variable {X : ℕ → ℕ → EReal} {q : Vec Ideal S512x512 .f32} (hq : ∀ (r l : Fin 512), q (ix2 r l) = X (P + r.val) (natural l.val))
include hc hs hq

/-- The pair `j` of heads: its lane `l` is the lane `l % 64` of head `l / 64 * 4 + j`. -/
theorem q0_at (r : Fin 512) (l : Fin 128) : Q0 c s q (ix2 r l) = back (X (P + r.val)) (P + r.val) (l.val / 64 * 256 + l.val % 64) := by
  pointwise [Q0, k0_pay28, k0_pay25, k0_pay26, k0_pay27, k0_pay22, k0_pay20]
  refine turn _ _ l _ (by omega) _ _ _ _ _ _ ?_ (fun h => ?_) (fun h => ?_) (hc r l) (fun h => s_up hs r l h _) (fun h => s_down hs r l h _) <;>
    rw [hq] <;> congr 1 <;> simp only [natural] <;> omega

theorem q1_at (r : Fin 512) (l : Fin 128) : Q1 c s q (ix2 r l) = back (X (P + r.val)) (P + r.val) (l.val / 64 * 256 + 64 + l.val % 64) := by
  pointwise [Q1, k0_pay29, k0_pay20]
  refine turn _ _ l _ (by omega) _ _ _ _ _ _ ?_ (fun h => ?_) (fun h => ?_) (hc r l) (fun h => s_up hs r l h _) (fun h => s_down hs r l h _) <;>
    rw [hq] <;> congr 1 <;> simp only [natural] <;> omega

theorem q2_at (r : Fin 512) (l : Fin 128) : Q2 c s q (ix2 r l) = back (X (P + r.val)) (P + r.val) (l.val / 64 * 256 + 128 + l.val % 64) := by
  pointwise [Q2, k0_pay35, k0_pay31, k0_pay32, k0_pay30, k0_pay33, k0_pay34, k0_pay20]
  refine turn _ _ l _ (by omega) _ _ _ _ _ _ ?_ (fun h => ?_) (fun h => ?_) (hc r l) (fun h => s_up hs r l h _) (fun h => s_down hs r l h _) <;>
    rw [hq] <;> congr 1 <;> simp only [natural] <;> omega

theorem q3_at (r : Fin 512) (l : Fin 128) : Q3 c s q (ix2 r l) = back (X (P + r.val)) (P + r.val) (l.val / 64 * 256 + 192 + l.val % 64) := by
  pointwise [Q3, k0_pay36, k0_pay20]
  refine turn _ _ l _ (by omega) _ _ _ _ _ _ ?_ (fun h => ?_) (fun h => ?_) (hc r l) (fun h => s_up hs r l h _) (fun h => s_down hs r l h _) <;>
    rw [hq] <;> congr 1 <;> simp only [natural] <;> omega

omit hq in
theorem k_at {k : Vec Ideal S512x128 .f32} (hk : ∀ (r : Fin 512) (l : Fin 128), k (ix2 r l) = X (P + r.val) l.val) (r : Fin 512) (l : Fin 128) :
    k0_pay44 c s k (ix2 r l) = back (X (P + r.val)) (P + r.val) l.val := by
  pointwise [k0_pay44]
  refine turn _ _ l _ rfl _ _ _ _ _ _ ?_ (fun h => ?_) (fun h => ?_) (hc r l) (fun h => s_up hs r l h _) (fun h => s_down hs r l h _) <;>
    rw [hk] <;> congr 1 <;> simp only [] <;> omega

end heads

/-! ## The natural order -/

/-- The word that says whether a lane belongs to the first head of its pair. -/
theorem first : ∀ l : Fin 128, IntOp.cmpi CmpIPredicate.slt (BitVec.ofNat 32 ↑l) 64#32 = if l.val < 64 then 1#1 else 0#1 := by decide

section order
variable {P : ℕ} {Y : ℕ → ℕ → EReal} {p0 p1 p2 p3 : FVec Ideal S512x128 .f32}
variable (h0 : ∀ (r : Fin 512) (l : Fin 128), p0 (ix2 r l) = Y (P + r.val) (l.val / 64 * 256 + l.val % 64))
variable (h1 : ∀ (r : Fin 512) (l : Fin 128), p1 (ix2 r l) = Y (P + r.val) (l.val / 64 * 256 + 64 + l.val % 64))
variable (h2 : ∀ (r : Fin 512) (l : Fin 128), p2 (ix2 r l) = Y (P + r.val) (l.val / 64 * 256 + 128 + l.val % 64))
variable (h3 : ∀ (r : Fin 512) (l : Fin 128), p3 (ix2 r l) = Y (P + r.val) (l.val / 64 * 256 + 192 + l.val % 64))

include h0 h1 in
theorem order0 (r : Fin 512) (l : Fin 128) : k0_pay39 k0_pay19 p0 (k0_pay38 p1) (ix2 r l) = Y (P + r.val) l.val := by
  pointwise [k0_pay39, k0_pay38, k0_pay19]
  rw [first]
  by_cases h : l.val < 64
  · rw [if_pos h]; refine (h0 _ _).trans ?_; congr 1; omega
  · rw [if_neg h]; refine (h1 _ _).trans ?_; congr 1; simp only []; omega

include h2 h3 in
theorem order1 (r : Fin 512) (l : Fin 128) : k0_pay40 k0_pay19 p2 p3 (ix2 r l) = Y (P + r.val) (128 + l.val) := by
  pointwise [k0_pay40, k0_pay19]
  rw [first]
  by_cases h : l.val < 64
  · rw [if_pos h]; refine (h2 _ _).trans ?_; congr 1; omega
  · rw [if_neg h]; refine (h3 _ _).trans ?_; congr 1; simp only []; omega

include h0 h1 in
theorem order2 (r : Fin 512) (l : Fin 128) : k0_pay41 k0_pay19 p1 (k0_pay37 p0) (ix2 r l) = Y (P + r.val) (256 + l.val) := by
  pointwise [k0_pay41, k0_pay37, k0_pay19]
  rw [first]
  by_cases h : l.val < 64
  · rw [if_pos h]; refine (h0 _ _).trans ?_; congr 1; simp only []; omega
  · rw [if_neg h]; refine (h1 _ _).trans ?_; congr 1; omega

include h2 h3 in
theorem order3 (r : Fin 512) (l : Fin 128) : k0_pay42 k0_pay19 p2 p3 (ix2 r l) = Y (P + r.val) (384 + l.val) := by
  pointwise [k0_pay42, k0_pay19]
  rw [first]
  by_cases h : l.val < 64
  · rw [if_pos h]; refine (h2 _ _).trans ?_; congr 1; simp only []; omega
  · rw [if_neg h]; refine (h3 _ _).trans ?_; congr 1; omega

variable {za : Vec Ideal S512x512 .f32} (hz : ∀ (r l : Fin 512), za (ix2 r l) = Y (P + r.val) (natural l.val))
include hz

theorem z0_at (r : Fin 512) (l : Fin 128) : k0_pay51 k0_pay19 (k0_pay45 (k0_pay21 za)) (k0_pay50 (k0_pay21 za)) (ix2 r l) = Y (P + r.val) l.val := by
  pointwise [k0_pay51, k0_pay45, k0_pay46, k0_pay50, k0_pay21, k0_pay19]
  rw [first]
  by_cases h : l.val < 64
  · rw [if_pos h]; refine (hz _ _).trans ?_; congr 1; simp only [natural]; omega
  · rw [if_neg h]; refine (hz _ _).trans ?_; congr 1; simp only [natural]; omega

theorem z1_at (r : Fin 512) (l : Fin 128) : k0_pay52 k0_pay19 (k0_pay47 (k0_pay21 za)) (k0_pay48 (k0_pay21 za)) (ix2 r l) = Y (P + r.val) (128 + l.val) := by
  pointwise [k0_pay52, k0_pay47, k0_pay48, k0_pay21, k0_pay19]
  rw [first]
  by_cases h : l.val < 64
  · rw [if_pos h]; refine (hz _ _).trans ?_; congr 1; simp only [natural]; omega
  · rw [if_neg h]; refine (hz _ _).trans ?_; congr 1; simp only [natural]; omega

theorem z2_at (r : Fin 512) (l : Fin 128) : k0_pay53 k0_pay19 (k0_pay46 (k0_pay21 za)) (k0_pay49 (k0_pay21 za)) (ix2 r l) = Y (P + r.val) (256 + l.val) := by
  pointwise [k0_pay53, k0_pay45, k0_pay46, k0_pay49, k0_pay21, k0_pay19]
  rw [first]
  by_cases h : l.val < 64
  · rw [if_pos h]; refine (hz _ _).trans ?_; congr 1; simp only [natural]; omega
  · rw [if_neg h]; refine (hz _ _).trans ?_; congr 1; simp only [natural]; omega

theorem z3_at (r : Fin 512) (l : Fin 128) : k0_pay54 k0_pay19 (k0_pay47 (k0_pay21 za)) (k0_pay48 (k0_pay21 za)) (ix2 r l) = Y (P + r.val) (384 + l.val) := by
  pointwise [k0_pay54, k0_pay47, k0_pay48, k0_pay21, k0_pay19]
  rw [first]
  by_cases h : l.val < 64
  · rw [if_pos h]; refine (hz _ _).trans ?_; congr 1; simp only [natural]; omega
  · rw [if_neg h]; refine (hz _ _).trans ?_; congr 1; simp only [natural]; omega

end order

/-! ## The scan's input -/

section scan
variable {P : ℕ} {Xf Xb Xl : ℕ → ℕ → EReal} {Xd : ℕ → EReal} {f b l : Fin 4 → Vec Ideal S1x512x128 .f32} {d : Vec Ideal S1x512 .f32}
variable (hf : ∀ (a : Fin 4) (r : Fin 512) (n : Fin 128), f a (ix3 0 r n) = Xf (P + r.val) (a.val * 128 + n.val))
variable (hb : ∀ (a : Fin 4) (r : Fin 512) (n : Fin 128), b a (ix3 0 r n) = Xb (P + r.val) (a.val * 128 + n.val))
variable (hl : ∀ (a : Fin 4) (r : Fin 512) (n : Fin 128), l a (ix3 0 r n) = Xl (P + r.val) (a.val * 128 + n.val))
variable (hd : ∀ n : Fin 512, d (ix2 0 n) = Xd n.val)
include hf hb hl hd

theorem u0_at (r : Fin 512) (n : Fin 128) : k0_pay55 (k0_pay43 d) (f 0) (b 0) (l 0) (ix2 r n)
    = Xf (P + r.val) (0 * 128 + n.val) + Xb (P + r.val) (0 * 128 + n.val) + Xd (0 * 128 + n.val) * Xl (P + r.val) (0 * 128 + n.val) := by
  pointwise [k0_pay55, k0_pay43]
  rw [hf, hb, hl, hd]; simp only [Fin.val_zero, Nat.zero_mul, Nat.zero_add]

theorem u1_at (r : Fin 512) (n : Fin 128) : k0_pay56 (k0_pay43 d) (f 1) (b 1) (l 1) (ix2 r n)
    = Xf (P + r.val) (1 * 128 + n.val) + Xb (P + r.val) (1 * 128 + n.val) + Xd (1 * 128 + n.val) * Xl (P + r.val) (1 * 128 + n.val) := by
  pointwise [k0_pay56, k0_pay43]
  rw [hf, hb, hl, hd]; rfl

theorem u2_at (r : Fin 512) (n : Fin 128) : k0_pay1 (k0_pay57 (f 2) (b 2)) (k0_pay58 (k0_pay43 d)) (l 2) (ix2 r n)
    = Xf (P + r.val) (2 * 128 + n.val) + Xb (P + r.val) (2 * 128 + n.val) + Xd (2 * 128 + n.val) * Xl (P + r.val) (2 * 128 + n.val) := by
  pointwise [k0_pay1, k0_pay57, k0_pay58, k0_pay43]
  rw [hf, hb, hl, hd]; rfl

theorem u3_at (r : Fin 512) (n : Fin 128) : k0_pay2 (k0_pay43 d) (f 3) (b 3) (l 3) (ix2 r n)
    = Xf (P + r.val) (3 * 128 + n.val) + Xb (P + r.val) (3 * 128 + n.val) + Xd (3 * 128 + n.val) * Xl (P + r.val) (3 * 128 + n.val) := by
  pointwise [k0_pay2, k0_pay43]
  rw [hf, hb, hl, hd]; rfl

end scan

/-! ## The whole matrix -/

end Cert.Proj

end
-- ==== Proof.Side.lean ====
module

public import proofs.«01_k».proof.Proof.Gen.Kernel2Ideal.Skeleton
public import proofs.«01_k».proof.Proof.Block
public import Idealize.ShloMosaic.Lib.Pipeline.ValueKit

@[expose] public section

set_option maxRecDepth 16384

noncomputable section

namespace Cert.Proj

open Idealize.ShloMosaic Idealize.ShloMosaic.TcCoe Idealize.ShloMosaic.Tactic Cert.Kernel2Ideal Cert.Kernel2Ideal.Gen

/-- Fourteen blocks of 128 columns and one of 512. -/
abbrev parts (w : Fin 14 → FVec Ideal S512x128 .f32) (z : FVec Ideal S512x512 .f32) : List ((s : Shape) × (s.Idx → EReal)) :=
  [⟨S512x128, w 0⟩, ⟨S512x128, w 1⟩, ⟨S512x128, w 2⟩, ⟨S512x128, w 3⟩, ⟨S512x128, w 4⟩, ⟨S512x128, w 5⟩,
    ⟨S512x128, w 6⟩, ⟨S512x128, w 7⟩, ⟨S512x128, w 8⟩, ⟨S512x128, w 9⟩, ⟨S512x128, w 10⟩, ⟨S512x128, w 11⟩, ⟨S512x128, w 12⟩,
    ⟨S512x128, w 13⟩, ⟨S512x512, z⟩]

section
variable (w : Fin 14 → FVec Ideal S512x128 .f32) (z : FVec Ideal S512x512 .f32)

theorem part_at (a : Fin 14) : (parts w z)[a.val]'(by have := a.isLt; show a.val < 15; omega) = ⟨S512x128, w a⟩ := by
  fin_cases a <;> rfl

/-- How far along the columns a shape reaches. -/
abbrev ext (s : Shape) : ℕ := if h : s.rank = S512x2304.rank then s.size ((1 : Fin S512x2304.rank).cast h.symm) else 0

theorem ext_pre : ∀ a : Fin 15,
    (((List.replicate 14 S512x128 ++ [S512x512]).take a.val).map ext).sum = 128 * a.val := by decide +kernel

theorem part_pre (a : Fin 15) : ((((parts w z).take a.val).map (·.1)).map ext).sum = 128 * a.val := by
  rw [List.map_take]; exact ext_pre a

/-- The blocks side by side, read at an entry. -/
theorem side (F : ℕ → ℕ → EReal)
    (hw : ∀ (a : Fin 14) (r : Fin 512) (l : Fin 128), w a (ix2 r l) = F r.val (128 * a.val + l.val))
    (hz : ∀ (r l : Fin 512), z (ix2 r l) = F r.val (1792 + l.val)) (r : Fin 512) (n : Fin 2304)
    (h : Shape.Concatenates ((parts w z).map (·.1)) S512x2304 1) :
    concatenate S512x2304 1 (parts w z) h (ix2 r n) = F r.val n.val := by
  by_cases hn : n.val < 1792
  · let a : Fin 14 := ⟨n.val / 128, by omega⟩
    refine (concatenate_apply_piece (t := S512x2304) 1 (parts w z) h (ix2 r n) a.val (by have := a.isLt; show a.val < 15; omega)
      S512x128 (w a) (part_at w z a) rfl (128 * a.val) (part_pre w z ⟨a.val, by omega⟩) (ix2 r ⟨n.val % 128, by omega⟩) (fun b hb => ?_) ?_).trans ?_
    · fin_cases b
      · rfl
      · exact absurd rfl hb
    · show 128 * (n.val / 128) + n.val % 128 = n.val; omega
    · rw [hw]; congr 1; show 128 * (n.val / 128) + n.val % 128 = n.val; omega
  · refine (concatenate_apply_piece (t := S512x2304) 1 (parts w z) h (ix2 r n) 14 (by show 14 < 15; omega)
      S512x512 z rfl rfl (128 * 14) (part_pre w z 14) (ix2 r ⟨n.val - 1792, by omega⟩) (fun b hb => ?_) ?_).trans ?_
    · fin_cases b
      · rfl
      · exact absurd rfl hb
    · show 128 * 14 + (n.val - 1792) = n.val; omega
    · rw [hz]; congr 1; show 1792 + (n.val - 1792) = n.val; omega

end

/-- What the columns hold, range by range. -/
theorem col_q (g : G) (p l : ℕ) (h : l < 512) : g.col p l = back (rd g.q p) p l := by rw [G.col, if_pos h]
theorem col_k (g : G) (p l : ℕ) (h : l < 128) : g.col p (512 + l) = back (rd g.k p) p l := by
  rw [G.col, if_neg (by omega), if_pos (by omega), Nat.add_sub_cancel_left]
theorem col_v (g : G) (p l : ℕ) (h : l < 128) : g.col p (640 + l) = rd g.v p l := by
  rw [G.col, if_neg (by omega), if_neg (by omega), if_pos (by omega), Nat.add_sub_cancel_left]
theorem col_z (g : G) (p l : ℕ) (h : l < 512) : g.col p (768 + l) = rd g.za p l := by
  rw [G.col, if_neg (by omega), if_neg (by omega), if_neg (by omega), if_pos (by omega), Nat.add_sub_cancel_left]
theorem col_u (g : G) (p l : ℕ) (h : l < 512) :
    g.col p (1280 + l) = rd g.f p l + rd g.b p l + rd (fun _ : Fin 1 => g.d) 0 l * rd g.l p l := by
  rw [G.col, if_neg (by omega), if_neg (by omega), if_neg (by omega), if_neg (by omega), if_pos (by omega), Nat.add_sub_cancel_left]
theorem col_s (g : G) (p l : ℕ) (h : l < 512) : g.col p (1792 + l) = rd g.zs p l := by
  rw [G.col, if_neg (by omega), if_neg (by omega), if_neg (by omega), if_neg (by omega), if_neg (by omega), Nat.add_sub_cancel_left]

/-- The matrix of a point whose rows begin at `P`: entry `(r, n)` is the gradient at row `P + r`, column `n`. -/
theorem d_at (g : G) (P : ℕ) {c s : FVec Ideal S512x128 .f32} {q za zs : Vec Ideal S512x512 .f32} {k v : Vec Ideal S512x128 .f32}
    {f b l : Fin 4 → Vec Ideal S1x512x128 .f32} {d : Vec Ideal S1x512 .f32}
    (hc : ∀ (r : Fin 512) (l : Fin 128), c (ix2 r l) = ((co (P + r.val) (l.val % 32) : ℝ) : EReal))
    (hs : ∀ (r : Fin 512) (l : Fin 128), s (ix2 r l) = ((sg l.val * si (P + r.val) (l.val % 32) : ℝ) : EReal))
    (hq : ∀ (r l : Fin 512), q (ix2 r l) = rd g.q (P + r.val) (natural l.val))
    (hk : ∀ (r : Fin 512) (l : Fin 128), k (ix2 r l) = rd g.k (P + r.val) l.val)
    (hv : ∀ (r : Fin 512) (l : Fin 128), v (ix2 r l) = rd g.v (P + r.val) l.val)
    (hz : ∀ (r l : Fin 512), za (ix2 r l) = rd g.za (P + r.val) (natural l.val))
    (hf : ∀ (a : Fin 4) (r : Fin 512) (n : Fin 128), f a (ix3 0 r n) = rd g.f (P + r.val) (a.val * 128 + n.val))
    (hb : ∀ (a : Fin 4) (r : Fin 512) (n : Fin 128), b a (ix3 0 r n) = rd g.b (P + r.val) (a.val * 128 + n.val))
    (hl : ∀ (a : Fin 4) (r : Fin 512) (n : Fin 128), l a (ix3 0 r n) = rd g.l (P + r.val) (a.val * 128 + n.val))
    (hzs : ∀ (r l : Fin 512), zs (ix2 r l) = rd g.zs (P + r.val) l.val)
    (hd : ∀ n : Fin 512, d (ix2 0 n) = rd (fun _ : Fin 1 => g.d) 0 n.val) (r : Fin 512) (n : Fin 2304) :
    D c s q k v za f b l zs d (ix2 r n) = g.col (P + r.val) n.val := by
  let w : Fin 14 → FVec Ideal S512x128 .f32 :=
    ![k0_pay39 k0_pay19 (Q0 c s q) (k0_pay38 (Q1 c s q)), k0_pay40 k0_pay19 (Q2 c s q) (Q3 c s q),
      k0_pay41 k0_pay19 (Q1 c s q) (k0_pay37 (Q0 c s q)), k0_pay42 k0_pay19 (Q2 c s q) (Q3 c s q), k0_pay44 c s k, v,
      k0_pay51 k0_pay19 (k0_pay45 (k0_pay21 za)) (k0_pay50 (k0_pay21 za)), k0_pay52 k0_pay19 (k0_pay47 (k0_pay21 za)) (k0_pay48 (k0_pay21 za)),
      k0_pay53 k0_pay19 (k0_pay46 (k0_pay21 za)) (k0_pay49 (k0_pay21 za)), k0_pay54 k0_pay19 (k0_pay47 (k0_pay21 za)) (k0_pay48 (k0_pay21 za)),
      k0_pay55 (k0_pay43 d) (f 0) (b 0) (l 0), k0_pay56 (k0_pay43 d) (f 1) (b 1) (l 1),
      k0_pay1 (k0_pay57 (f 2) (b 2)) (k0_pay58 (k0_pay43 d)) (l 2), k0_pay2 (k0_pay43 d) (f 3) (b 3) (l 3)]
  have h0 := fun r l => q0_at hc hs (X := rd g.q) hq r l
  have h1 := fun r l => q1_at hc hs (X := rd g.q) hq r l
  have h2 := fun r l => q2_at hc hs (X := rd g.q) hq r l
  have h3 := fun r l => q3_at hc hs (X := rd g.q) hq r l
  refine side w zs (fun r n => g.col (P + r) n) (fun a r l => ?_) (fun r l => (hzs r l).trans (col_s g _ _ l.isLt).symm) r n _
  have hl' := l.isLt
  fin_cases a
  · exact (order0 (Y := fun p n => back (rd g.q p) p n) h0 h1 r l).trans ((col_q g _ _ (by omega)).symm.trans (by congr 1; show l.val = 0 + l.val; omega))
  · exact (order1 (Y := fun p n => back (rd g.q p) p n) h2 h3 r l).trans ((col_q g _ _ (by omega)).symm.trans (by congr 1))
  · exact (order2 (Y := fun p n => back (rd g.q p) p n) h0 h1 r l).trans ((col_q g _ _ (by omega)).symm.trans (by congr 1))
  · exact (order3 (Y := fun p n => back (rd g.q p) p n) h2 h3 r l).trans ((col_q g _ _ (by omega)).symm.trans (by congr 1))
  · exact (k_at hc hs (X := rd g.k) hk r l).trans (col_k g _ _ hl').symm
  · exact (hv r l).trans (col_v g _ _ hl').symm
  · exact (z0_at (Y := rd g.za) hz r l).trans (col_z g _ _ (by omega)).symm
  · exact (z1_at (Y := rd g.za) hz r l).trans ((col_z g _ _ (by omega)).symm.trans (by congr 1; show 768 + (128 + l.val) = 896 + l.val; omega))
  · exact (z2_at (Y := rd g.za) hz r l).trans ((col_z g _ _ (by omega)).symm.trans (by congr 1; show 768 + (256 + l.val) = 1024 + l.val; omega))
  · exact (z3_at (Y := rd g.za) hz r l).trans ((col_z g _ _ (by omega)).symm.trans (by congr 1; show 768 + (384 + l.val) = 1152 + l.val; omega))
  · exact (u0_at hf hb hl hd r l).trans ((col_u g _ _ (by omega)).symm.trans (by congr 1; show 1280 + (0 * 128 + l.val) = 1280 + l.val; omega))
  · exact (u1_at hf hb hl hd r l).trans ((col_u g _ _ (by omega)).symm.trans (by congr 1; show 1280 + (1 * 128 + l.val) = 1408 + l.val; omega))
  · exact (u2_at hf hb hl hd r l).trans ((col_u g _ _ (by omega)).symm.trans (by congr 1; show 1280 + (2 * 128 + l.val) = 1536 + l.val; omega))
  · exact (u3_at hf hb hl hd r l).trans ((col_u g _ _ (by omega)).symm.trans (by congr 1; show 1280 + (3 * 128 + l.val) = 1664 + l.val; omega))

end Cert.Proj

end
-- ==== Proof.Rows.lean ====
/- What a point of the projection's backward calls reads and the matrix of gradients it builds: when its blocks hold rows
   `512 t`, …, `512 t + 511` of the gradients and the two tables, the matrix's rows are those of the product's gradient. -/
module

public import proofs.«01_k».proof.Proof.Side

@[expose] public section

set_option maxRecDepth 16384

noncomputable section

namespace Cert.Proj

open Idealize.ShloMosaic Idealize.ShloMosaic.TcCoe Idealize.ShloMosaic.Tactic Cert.Kernel2Ideal Cert.Kernel2Ideal.Gen

/-! ## What a point reads -/

/-- The cosines, the sines and the signed sines of the point's four groups of rows. -/
def gc (i : grid0.Coords) (x : Vec Ideal S3x32x128 .f32) (g : Fin 4) : Vec Ideal S1x1x128 .f32 :=
  View.ld x (Rect.unit (s := S3x32x128) (k0_off1 i (BitVec.ofNat 32 g.val)) S1x1x128.size (k0_off1_inb i g))
def gs (i : grid0.Coords) (x : Vec Ideal S3x32x128 .f32) (g : Fin 4) : Vec Ideal S1x1x128 .f32 :=
  View.ld x (Rect.unit (s := S3x32x128) (k0_off2 i (BitVec.ofNat 32 g.val)) S1x1x128.size (k0_off2_inb i g))
def gg (i : grid0.Coords) (x : Vec Ideal S3x32x128 .f32) (g : Fin 4) : Vec Ideal S1x1x128 .f32 :=
  View.ld x (Rect.unit (s := S3x32x128) (k0_off3 i (BitVec.ofNat 32 g.val)) S1x1x128.size (k0_off3_inb i g))

/-- Those of the rows inside a group. -/
def rc (x : Vec Ideal S3x128x128 .f32) : Vec Ideal S1x128x128 .f32 :=
  View.ld x (Rect.unit (s := S3x128x128) ![0, 0, 0] S1x128x128.size inb_S3x128x128_S1x128x128_0_0_0)
def rs (x : Vec Ideal S3x128x128 .f32) : Vec Ideal S1x128x128 .f32 :=
  View.ld x (Rect.unit (s := S3x128x128) ![1, 0, 0] S1x128x128.size inb_S3x128x128_S1x128x128_1_0_0)
def rg (x : Vec Ideal S3x128x128 .f32) : Vec Ideal S1x128x128 .f32 :=
  View.ld x (Rect.unit (s := S3x128x128) ![2, 0, 0] S1x128x128.size inb_S3x128x128_S1x128x128_2_0_0)

/-- A slab of 128 columns. -/
def slab (x : Vec Ideal S4x512x128 .f32) : Fin 4 → Vec Ideal S1x512x128 .f32
  | 0 => View.ld x (Rect.unit (s := S4x512x128) ![0, 0, 0] S1x512x128.size inb_S4x512x128_S1x512x128_0_0_0)
  | 1 => View.ld x (Rect.unit (s := S4x512x128) ![1, 0, 0] S1x512x128.size inb_S4x512x128_S1x512x128_1_0_0)
  | 2 => View.ld x (Rect.unit (s := S4x512x128) ![2, 0, 0] S1x512x128.size inb_S4x512x128_S1x512x128_2_0_0)
  | 3 => View.ld x (Rect.unit (s := S4x512x128) ![3, 0, 0] S1x512x128.size inb_S4x512x128_S1x512x128_3_0_0)

/-- The point's matrix of gradients, over the blocks it reads. -/
def Dx (i : grid0.Coords) (x0 : Vec Ideal S512x512 .f32) (x1 x2 : Vec Ideal S512x128 .f32) (x3 : Vec Ideal S512x512 .f32)
    (x4 x5 x6 : Vec Ideal S4x512x128 .f32) (x7 : Vec Ideal S512x512 .f32) (x8 : Vec Ideal S1x512 .f32) (x9 : Vec Ideal S3x32x128 .f32)
    (x10 : Vec Ideal S3x128x128 .f32) : FVec Ideal S512x2304 .f32 :=
  D (Cos (gc i x9) (gs i x9) (rc x10) (rs x10)) (Sin (gc i x9) (gg i x9) (rc x10) (rg x10))
    (View.ld x0 (Rect.unit (s := S512x512) ![0, 0] S512x512.size inb_S512x512_S512x512_0_0))
    (View.ld x1 (Rect.unit (s := S512x128) ![0, 0] S512x128.size inb_S512x128_S512x128_0_0))
    (View.ld x2 (Rect.unit (s := S512x128) ![0, 0] S512x128.size inb_S512x128_S512x128_0_0))
    (View.ld x3 (Rect.unit (s := S512x512) ![0, 0] S512x512.size inb_S512x512_S512x512_0_0))
    (slab x4) (slab x5) (slab x6)
    (View.ld x7 (Rect.unit (s := S512x512) ![0, 0] S512x512.size inb_S512x512_S512x512_0_0))
    (View.ld x8 (Rect.unit (s := S1x512) ![0, 0] S1x512.size inb_S1x512_S1x512_0_0))

/-- The blocks of a single piece are read whole. -/
theorem Dx_eq (i : grid0.Coords) (x0 : Vec Ideal S512x512 .f32) (x1 x2 : Vec Ideal S512x128 .f32) (x3 : Vec Ideal S512x512 .f32)
    (x4 x5 x6 : Vec Ideal S4x512x128 .f32) (x7 : Vec Ideal S512x512 .f32) (x8 : Vec Ideal S1x512 .f32) (x9 : Vec Ideal S3x32x128 .f32)
    (x10 : Vec Ideal S3x128x128 .f32) :
    Dx i x0 x1 x2 x3 x4 x5 x6 x7 x8 x9 x10 = D (Cos (gc i x9) (gs i x9) (rc x10) (rs x10)) (Sin (gc i x9) (gg i x9) (rc x10) (rg x10))
      x0 x1 x2 x3 (slab x4) (slab x5) (slab x6) x7 x8 := by
  have z : (![0, 0] : Fin 2 → ℕ) = fun _ => 0 := by funext a; fin_cases a <;> rfl
  rw [Dx, View.ld_unit_zero (S := S512x512) z _ x0, View.ld_unit_zero (S := S512x128) z _ x1, View.ld_unit_zero (S := S512x128) z _ x2,
    View.ld_unit_zero (S := S512x512) z _ x3, View.ld_unit_zero (S := S512x512) z _ x7, View.ld_unit_zero (S := S1x512) z _ x8]

theorem off1 : ∀ (t : Fin grid0.N) (g : Fin 4), k0_off1 (grid0.coords t) (BitVec.ofNat 32 g.val) = ![0, 4 * t.val + g.val, 0] :=
  (by decide +kernel : ∀ (t : Fin grid0.N) (g : Fin 4), _)
theorem off2 : ∀ (t : Fin grid0.N) (g : Fin 4), k0_off2 (grid0.coords t) (BitVec.ofNat 32 g.val) = ![1, 4 * t.val + g.val, 0] :=
  (by decide +kernel : ∀ (t : Fin grid0.N) (g : Fin 4), _)
theorem off3 : ∀ (t : Fin grid0.N) (g : Fin 4), k0_off3 (grid0.coords t) (BitVec.ofNat 32 g.val) = ![2, 4 * t.val + g.val, 0] :=
  (by decide +kernel : ∀ (t : Fin grid0.N) (g : Fin 4), _)

/-- A row of a table, read at an offset known by its value. -/
theorem ld_row (x : Vec Ideal S3x32x128 .f32) (off : Fin 3 → ℕ) (h : ∀ a, off a + S1x1x128.size a ≤ S3x32x128.size a) (a : Fin 3) (b : Fin 32)
    (l : Fin 128) (ho : off = ![a.val, b.val, 0]) :
    View.ld x (Rect.unit (s := S3x32x128) off S1x1x128.size h) (ix3 0 0 l) = x (ix3 a b l) := by
  subst ho
  pointwise []

/-- The point's matrix of gradients, entry by entry. -/
theorem dx_at (p : G) (t : Fin grid0.N) {x0 : Vec Ideal S512x512 .f32} {x1 x2 : Vec Ideal S512x128 .f32} {x3 : Vec Ideal S512x512 .f32}
    {x4 x5 x6 : Vec Ideal S4x512x128 .f32} {x7 : Vec Ideal S512x512 .f32} {x8 : Vec Ideal S1x512 .f32} {x9 : Vec Ideal S3x32x128 .f32}
    {x10 : Vec Ideal S3x128x128 .f32}
    (hq : ∀ r l : Fin 512, x0 (ix2 r l) = rd p.q (512 * t.val + r.val) (natural l.val))
    (hk : ∀ (r : Fin 512) (l : Fin 128), x1 (ix2 r l) = rd p.k (512 * t.val + r.val) l.val)
    (hv : ∀ (r : Fin 512) (l : Fin 128), x2 (ix2 r l) = rd p.v (512 * t.val + r.val) l.val)
    (hz : ∀ r l : Fin 512, x3 (ix2 r l) = rd p.za (512 * t.val + r.val) (natural l.val))
    (hf : ∀ (a : Fin 4) (r : Fin 512) (l : Fin 128), x4 (ix3 a r l) = rd p.f (512 * t.val + r.val) (a.val * 128 + l.val))
    (hb : ∀ (a : Fin 4) (r : Fin 512) (l : Fin 128), x5 (ix3 a r l) = rd p.b (512 * t.val + r.val) (a.val * 128 + l.val))
    (hl : ∀ (a : Fin 4) (r : Fin 512) (l : Fin 128), x6 (ix3 a r l) = rd p.l (512 * t.val + r.val) (a.val * 128 + l.val))
    (hzs : ∀ r l : Fin 512, x7 (ix2 r l) = rd p.zs (512 * t.val + r.val) l.val)
    (hd : ∀ l : Fin 512, x8 (ix2 0 l) = rd (fun _ : Fin 1 => p.d) 0 l.val)
    (hc : ∀ (b : Fin 32) (l : Fin 128), x9 (ix3 0 b l) = ((co (128 * b.val) (l.val % 32) : ℝ) : EReal))
    (hs : ∀ (b : Fin 32) (l : Fin 128), x9 (ix3 1 b l) = ((si (128 * b.val) (l.val % 32) : ℝ) : EReal))
    (hg : ∀ (b : Fin 32) (l : Fin 128), x9 (ix3 2 b l) = ((sg l.val * si (128 * b.val) (l.val % 32) : ℝ) : EReal))
    (tc : ∀ r l : Fin 128, x10 (ix3 0 r l) = ((co r.val (l.val % 32) : ℝ) : EReal))
    (ts : ∀ r l : Fin 128, x10 (ix3 1 r l) = ((si r.val (l.val % 32) : ℝ) : EReal))
    (tg : ∀ r l : Fin 128, x10 (ix3 2 r l) = ((sg l.val * si r.val (l.val % 32) : ℝ) : EReal))
    (r : Fin 512) (n : Fin 2304) :
    Dx (grid0.coords t) x0 x1 x2 x3 x4 x5 x6 x7 x8 x9 x10 (ix2 r n) = p.col (512 * t.val + r.val) n.val := by
  have h8 : t.val < 8 := t.isLt
  have h1 : ∀ (g : Fin 4) (l : Fin 128), gc (grid0.coords t) x9 g (ix3 0 0 l) = ((co (512 * t.val + 128 * g.val) (l.val % 32) : ℝ) : EReal) := fun g l => by
    refine (ld_row _ _ _ 0 ⟨4 * t.val + g.val, by omega⟩ l (off1 t g)).trans ((hc _ _).trans ?_)
    congr 2; show 128 * (4 * t.val + g.val) = _; omega
  have h2 : ∀ (g : Fin 4) (l : Fin 128), gs (grid0.coords t) x9 g (ix3 0 0 l) = ((si (512 * t.val + 128 * g.val) (l.val % 32) : ℝ) : EReal) := fun g l => by
    refine (ld_row _ _ _ 1 ⟨4 * t.val + g.val, by omega⟩ l (off2 t g)).trans ((hs _ _).trans ?_)
    congr 2; show 128 * (4 * t.val + g.val) = _; omega
  have h3 : ∀ (g : Fin 4) (l : Fin 128), gg (grid0.coords t) x9 g (ix3 0 0 l) = ((sg l.val * si (512 * t.val + 128 * g.val) (l.val % 32) : ℝ) : EReal) := fun g l => by
    refine (ld_row _ _ _ 2 ⟨4 * t.val + g.val, by omega⟩ l (off3 t g)).trans ((hg _ _).trans ?_)
    congr 3; show 128 * (4 * t.val + g.val) = _; omega
  have h4 : ∀ r l : Fin 128, rc x10 (ix3 0 r l) = ((co r.val (l.val % 32) : ℝ) : EReal) := fun r l => by
    refine Eq.trans ?_ (tc r l); pointwise [rc]
  have h5 : ∀ r l : Fin 128, rs x10 (ix3 0 r l) = ((si r.val (l.val % 32) : ℝ) : EReal) := fun r l => by
    refine Eq.trans ?_ (ts r l); pointwise [rs]
  have h6 : ∀ r l : Fin 128, rg x10 (ix3 0 r l) = ((sg l.val * si r.val (l.val % 32) : ℝ) : EReal) := fun r l => by
    refine Eq.trans ?_ (tg r l); pointwise [rg]
  have ho : ∀ (x : Vec Ideal S4x512x128 .f32) (a : Fin 4) (r : Fin 512) (l : Fin 128), slab x a (ix3 0 r l) = x (ix3 a r l) := fun x a r l => by
    fin_cases a <;> (simp only [slab]; pointwise [])
  refine d_at p (512 * t.val) (fun r l => cos_at h1 h2 h4 h5 r l) (fun r l => sin_at h1 h3 h4 h6 r l)
    (fun r l => Eq.trans ?_ (hq r l)) (fun r l => Eq.trans ?_ (hk r l)) (fun r l => Eq.trans ?_ (hv r l))
    (fun r l => Eq.trans ?_ (hz r l)) (fun a r l => (ho _ a r l).trans (hf a r l)) (fun a r l => (ho _ a r l).trans (hb a r l))
    (fun a r l => (ho _ a r l).trans (hl a r l)) (fun r l => Eq.trans ?_ (hzs r l)) (fun l => Eq.trans ?_ (hd l)) r n <;>
    pointwise []

end Cert.Proj

end
-- ==== Proof.FinalX.lean ====
/- The input gradient's call: each of its eight points writes 512 rows, the product of the point's matrix of gradients with the
   weights' transpose, added to the multiple of the gradient that passes the projection by. -/
module

public import proofs.«01_k».proof.Proof.Gen.Kernel2Ideal.Value
public import proofs.«01_k».proof.Proof.EntryX
public import proofs.«01_k».proof.Proof.Rows

@[expose] public section

set_option maxRecDepth 16384

noncomputable section

namespace Cert.Px

open Idealize.ShloMosaic Idealize.ShloMosaic.TcCoe Idealize.ShloMosaic.Tactic Cert.Kernel2Ideal Cert.Kernel2Ideal.Gen Cert.Proj

theorem out_eq (c : Dev nD) (i : grid0.Coords)
    (arg1 : Memref sig .tc .vmem S512x512 .f32) (harg1 : arg1.IsWhole)
    (arg2 : Memref sig .tc .vmem S512x128 .f32) (harg2 : arg2.IsWhole)
    (arg3 : Memref sig .tc .vmem S512x128 .f32) (harg3 : arg3.IsWhole)
    (arg4 : Memref sig .tc .vmem S512x512 .f32) (harg4 : arg4.IsWhole)
    (arg5 : Memref sig .tc .vmem S4x512x128 .f32) (harg5 : arg5.IsWhole)
    (arg6 : Memref sig .tc .vmem S4x512x128 .f32) (harg6 : arg6.IsWhole)
    (arg7 : Memref sig .tc .vmem S4x512x128 .f32) (harg7 : arg7.IsWhole)
    (arg8 : Memref sig .tc .vmem S512x512 .f32) (harg8 : arg8.IsWhole)
    (arg9 : Memref sig .tc .vmem S1x512 .f32) (harg9 : arg9.IsWhole)
    (arg10 : Memref sig .tc .vmem S3x32x128 .f32) (harg10 : arg10.IsWhole)
    (arg11 : Memref sig .tc .vmem S3x128x128 .f32) (harg11 : arg11.IsWhole)
    (arg12 : Memref sig .tc .vmem S512x1024 .f32) (harg12 : arg12.IsWhole)
    (arg13 : Memref sig .tc .vmem S2304x1024 .bf16) (harg13 : arg13.IsWhole)
    (arg14 : Memref sig .tc .vmem S512x1024 .f32) (harg14 : arg14.IsWhole)
    (x0 : Vec Ideal S512x512 .f32) (x1 : Vec Ideal S512x128 .f32) (x2 : Vec Ideal S512x128 .f32) (x3 : Vec Ideal S512x512 .f32) (x4 : Vec Ideal S4x512x128 .f32) (x5 : Vec Ideal S4x512x128 .f32) (x6 : Vec Ideal S4x512x128 .f32) (x7 : Vec Ideal S512x512 .f32) (x8 : Vec Ideal S1x512 .f32) (x9 : Vec Ideal S3x32x128 .f32) (x10 : Vec Ideal S3x128x128 .f32) (x11 : Vec Ideal S512x1024 .f32) (x12 : Vec Ideal S2304x1024 .bf16)
    (r : Fin 512) (j : Fin 1024) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 (ix2 r j)
      = k0_pay3 (Dx i x0 x1 x2 x3 x4 x5 x6 x7 x8 x9 x10)
          (View.ld x11 (Rect.unit (s := S512x1024) ![0, 0] S512x1024.size inb_S512x1024_S512x1024_0_0))
          (View.ld x12 (Rect.unit (s := S2304x1024) ![0, 0] S2304x1024.size inb_S2304x1024_S2304x1024_0_0)) (ix2 r j) := by
  frame_out
  rw [harg1.read_unread x0, harg2.read_unread x1, harg3.read_unread x2, harg4.read_unread x3, harg5.read_unread x4, harg6.read_unread x5, harg7.read_unread x6, harg8.read_unread x7, harg9.read_unread x8, harg10.read_unread x9, harg11.read_unread x10]
  simp only [Dx, D, Cos, Sin, Q0, Q1, Q2, Q3, gc, gs, gg, rc, rs, rg, slab]
  exact rfl

/-- The point's product, entry by entry. -/
theorem pay3_at (d : FVec Ideal S512x2304 .f32) (p : Vec Ideal S512x1024 .f32) (w : Vec Ideal S2304x1024 .bf16) (r : Fin 512) (j : Fin 1024) :
    k0_pay3 d p w (ix2 r j) = Ideal.ofBits .f32 0x3F9837F0#32 * p (ix2 r j) + ∑ x : Fin 2304, d (ix2 r x) * w (ix2 x j) := by
  pointwise [k0_pay3]

/-! ## The point's blocks -/

/-- Which rows, which groups and which slabs the point's windows hold. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, t.val, 0] ∧ win0_5.index t = ![0, t.val, 0] ∧ win0_6.index t = ![0, t.val, 0] ∧ win0_7.index t = ![t.val, 0]
    ∧ win0_8.index t = ![0, 0] ∧ win0_9.index t = ![0, 0, 0] ∧ win0_10.index t = ![0, 0, 0] ∧ win0_11.index t = ![t.val, 0]
    ∧ win0_12.index t = ![0, 0] ∧ win0_13.index t = ![t.val, 0] :=
  (by decide +kernel : ∀ t : Fin grid0.N, _)

variable (m : (ℓ : Loc nD τ sig) → Buf (Elt Ideal) ℓ) (c : Dev nD) (t : Fin cfg0.N)

/-- The launch's buffers on device `c`. -/
abbrev mem : Valuation τ sig (Elt Ideal) := fun b => m (c, b)

theorem eight (t : Fin cfg0.N) : t.val < 8 := t.isLt

/-- The buffer of the `n`-th row of the point's block. -/
abbrev row (t : Fin cfg0.N) (r : Fin 512) : Fin 4096 := ⟨512 * t.val + r.val, by have := eight t; omega⟩

theorem blk_q (r l : Fin 512) : iblk m c 0 t (ix2 r l) = rd (grads (mem m c)).q (512 * t.val + r.val) (natural l.val) := by
  refine Eq.trans ?_ (q_at (mem m c) (row t r) l)
  show W (mem m c) main_v54 _ = _
  blk_ext [idx t]

theorem blk_k (r : Fin 512) (l : Fin 128) : iblk m c 1 t (ix2 r l) = rd (grads (mem m c)).k (512 * t.val + r.val) l.val := by
  refine Eq.trans ?_ (k_at (mem m c) (row t r) l)
  show W (mem m c) main_arg4 _ = _
  blk_ext [idx t]

theorem blk_v (r : Fin 512) (l : Fin 128) : iblk m c 2 t (ix2 r l) = rd (grads (mem m c)).v (512 * t.val + r.val) l.val := by
  refine Eq.trans ?_ (v_at (mem m c) (row t r) l)
  show W (mem m c) main_arg5 _ = _
  blk_ext [idx t]

theorem blk_z (r l : Fin 512) : iblk m c 3 t (ix2 r l) = rd (grads (mem m c)).za (512 * t.val + r.val) (natural l.val) := by
  refine Eq.trans ?_ (za_at (mem m c) (row t r) l)
  show W (mem m c) main_v57 _ = _
  blk_ext [idx t]

theorem blk_f (a : Fin 4) (r : Fin 512) (l : Fin 128) :
    iblk m c 4 t (ix3 a r l) = rd (grads (mem m c)).f (512 * t.val + r.val) (a.val * 128 + l.val) := by
  refine Eq.trans ?_ (f_at (mem m c) a (row t r) l)
  show W (mem m c) main_v59 _ = _
  blk_ext [idx t]

theorem blk_b (a : Fin 4) (r : Fin 512) (l : Fin 128) :
    iblk m c 5 t (ix3 a r l) = rd (grads (mem m c)).b (512 * t.val + r.val) (a.val * 128 + l.val) := by
  refine Eq.trans ?_ (b_at (mem m c) a (row t r) l)
  show W (mem m c) main_v61 _ = _
  blk_ext [idx t]

theorem blk_l (a : Fin 4) (r : Fin 512) (l : Fin 128) :
    iblk m c 6 t (ix3 a r l) = rd (grads (mem m c)).l (512 * t.val + r.val) (a.val * 128 + l.val) := by
  refine Eq.trans ?_ (l_at (mem m c) a (row t r) l)
  show W (mem m c) main_v63 _ = _
  blk_ext [idx t]

theorem blk_s (r l : Fin 512) : iblk m c 7 t (ix2 r l) = rd (grads (mem m c)).zs (512 * t.val + r.val) l.val := by
  refine Eq.trans ?_ (zs_at (mem m c) (row t r) l)
  show W (mem m c) main_arg10 _ = _
  blk_ext [idx t]

theorem blk_d (l : Fin 512) : iblk m c 8 t (ix2 0 l) = rd (fun _ : Fin 1 => (grads (mem m c)).d) 0 l.val := by
  refine Eq.trans ?_ (Cert.Px.d_at (mem m c) l)
  show W (mem m c) main_v64 _ = _
  blk_ext [idx t]

theorem blk_hi (a : Fin 3) (b : Fin 32) (l : Fin 128) : iblk m c 9 t (ix3 a b l) = W (mem m c) main_v34 (ix3 a b l) := by
  show W (mem m c) main_v34 _ = _
  blk_ext [idx t]

theorem blk_lo (a : Fin 3) (r l : Fin 128) : iblk m c 10 t (ix3 a r l) = W (mem m c) main_v51 (ix3 a r l) := by
  show W (mem m c) main_v51 _ = _
  blk_ext [idx t]

theorem blk_pre (r : Fin 512) (j : Fin 1024) : iblk m c 11 t (ix2 r j) = m ((c : Thread nD τ).loc main_arg11) (ix2 (row t r) j) := by
  refine Eq.trans ?_ (pre_at (mem m c) (row t r) j)
  show W (mem m c) main_arg11 _ = _
  blk_ext [idx t]

theorem blk_w (n : Fin 2304) (j : Fin 1024) : iblk m c 12 t (ix2 n j) = m ((c : Thread nD τ).loc main_arg1) (ix2 j n) := by
  refine Eq.trans ?_ (w_at (mem m c) n j)
  show W (mem m c) main_v66 _ = _
  blk_ext [idx t]

/-! ## The whole array -/

/-- The point's matrix of gradients, entry by entry. -/
theorem dx_at (r : Fin 512) (n : Fin 2304) :
    Dx (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r n) = (grads (mem m c)).col (512 * t.val + r.val) n.val :=
  Cert.Proj.dx_at (grads (mem m c)) t (blk_q m c t) (blk_k m c t) (blk_v m c t) (blk_z m c t) (blk_f m c t) (blk_b m c t) (blk_l m c t)
    (blk_s m c t) (blk_d m c t) (fun b l => (blk_hi m c t 0 b l).trans (hi_cos (mem m c) b l))
    (fun b l => (blk_hi m c t 1 b l).trans (hi_sin (mem m c) b l)) (fun b l => (blk_hi m c t 2 b l).trans (hi_sign (mem m c) b l))
    (fun r l => (blk_lo m c t 0 r l).trans (lo_cos (mem m c) r l)) (fun r l => (blk_lo m c t 1 r l).trans (lo_sin (mem m c) r l))
    (fun r l => (blk_lo m c t 2 r l).trans (lo_sign (mem m c) r l)) r n

/-- The gradient of the projection's input. -/
def resX : FVec Ideal S4096x1024 .f32 := fun y =>
  Ideal.ofBits .f32 0x3F9837F0#32 * m ((c : Thread nD τ).loc main_arg11) (ix2 (y 0) (y 1))
    + ∑ x : Fin 2304, (grads (mem m c)).col (y 0).val x.val * m ((c : Thread nD τ).loc main_arg1) (ix2 (y 1) x)

theorem point (r : Fin 512) (j : Fin 1024) : outsAt0 m c t (ix2 r j) = resX m c (ix2 (row t r) j) := by
  rw [outsAt0, out_eq, pay3_at]
  refine congrArg₂ (· + ·) (congrArg _ (Eq.trans ?_ (blk_pre m c t r j))) (Finset.sum_congr rfl fun x _ =>
    congrArg₂ (· * ·) (dx_at m c t r x) (Eq.trans ?_ (blk_w m c t x j))) <;> pointwise []

/-- What the call leaves. -/
theorem final : (dats m 0 c).arrAt 13 (cfgs 0).N = resX m c := by
  refine (dats m 0 c).arrAt_eq_of_covers 13 _ (by decide +kernel) fun t _ y => ?_
  blk_simp
  rw [after0_13]
  idx_vars y
  refine (point m c t y0 y1).trans ?_
  blk_ext [idx t]

end Cert.Px

end
-- ==== Proof.RefX.lean ====
/- The references of the projection's two gradients: the matrix of gradients that both multiply, entry by entry, and the two products. -/
module

public import proofs.«01_k».proof.Proof.Gen.Reference2Ideal.Run
public import proofs.«01_k».proof.Proof.Turn
public import proofs.«01_k».proof.Proof.Side
public import Idealize.ShloMosaic.Lib.Pipeline.ValueKit

@[expose] public section

set_option maxRecDepth 16384
set_option maxHeartbeats 2000000

noncomputable section

namespace Cert.Pref

open Idealize.ShloMosaic Idealize.ShloMosaic.TcCoe Idealize.ShloMosaic.Tactic Cert.Reference2Ideal Cert.Reference2Ideal.Gen Cert.Proj

/-- The angles of the rows. -/
def ang : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem cos_at (r : Fin 4096) (l : Fin 32) : Host.cos ang (ix2 r l) = ((co r.val l.val : ℝ) : EReal) := by
  pointwise [ang]
  exact co_eq _ _ _ (word _ (by omega)) l.isLt

theorem sin_at (r : Fin 4096) (l : Fin 32) : Host.sin ang (ix2 r l) = ((si r.val l.val : ℝ) : EReal) := by
  pointwise [ang]
  exact si_eq _ _ _ (word _ (by omega)) l.isLt

section turn
variable (c s : FVec Ideal S4096x32 .f32)

/-- The query heads turned back. -/
def turn8 (x : FVec Ideal S4096x512 .f32) : FVec Ideal S4096x512 .f32 :=
  shapeCast _ (addf
    (pad S4096x8x64 ![0, 0, 32] ![0, 0, 0] ![0, 0, 0] (addf
      (mulf (extractStridedSlice S4096x8x32 ![0, 0, 32] (shapeCast _ x shapeCasts_S4096x512_S4096x8x64) slices_S4096x8x64_S4096x8x32_0_0_32)
        (broadcastInDim S4096x8x32 ![0, 1, 2] bcast_S4096x1x32_S4096x8x32_0_1_2 (broadcastInDim S4096x1x32 ![0, 2] bcast_S4096x32_S4096x1x32_0_2 c)))
      (mulf (Host.negf (extractStridedSlice S4096x8x32 ![0, 0, 0] (shapeCast _ x shapeCasts_S4096x512_S4096x8x64) slices_S4096x8x64_S4096x8x32_0_0_0))
        (broadcastInDim S4096x8x32 ![0, 1, 2] bcast_S4096x1x32_S4096x8x32_0_1_2 (broadcastInDim S4096x1x32 ![0, 2] bcast_S4096x32_S4096x1x32_0_2 s))))
      (constant S_ .f32 0x00000000#32) pads_S4096x8x32_S4096x8x64_000_000_3200 h_S_)
    (pad S4096x8x64 ![0, 0, 0] ![0, 0, 32] ![0, 0, 0] (addf
      (mulf (extractStridedSlice S4096x8x32 ![0, 0, 32] (shapeCast _ x shapeCasts_S4096x512_S4096x8x64) slices_S4096x8x64_S4096x8x32_0_0_32)
        (broadcastInDim S4096x8x32 ![0, 1, 2] bcast_S4096x1x32_S4096x8x32_0_1_2 (broadcastInDim S4096x1x32 ![0, 2] bcast_S4096x32_S4096x1x32_0_2 s)))
      (mulf (extractStridedSlice S4096x8x32 ![0, 0, 0] (shapeCast _ x shapeCasts_S4096x512_S4096x8x64) slices_S4096x8x64_S4096x8x32_0_0_0)
        (broadcastInDim S4096x8x32 ![0, 1, 2] bcast_S4096x1x32_S4096x8x32_0_1_2 (broadcastInDim S4096x1x32 ![0, 2] bcast_S4096x32_S4096x1x32_0_2 c))))
      (constant S_ .f32 0x00000000#32) pads_S4096x8x32_S4096x8x64_000_000_0320 h_S_)) shapeCasts_S4096x8x64_S4096x512

/-- The key heads turned back. -/
def turn2 (x : FVec Ideal S4096x128 .f32) : FVec Ideal S4096x128 .f32 :=
  shapeCast _ (addf
    (pad S4096x2x64 ![0, 0, 32] ![0, 0, 0] ![0, 0, 0] (addf
      (mulf (extractStridedSlice S4096x2x32 ![0, 0, 32] (shapeCast _ x shapeCasts_S4096x128_S4096x2x64) slices_S4096x2x64_S4096x2x32_0_0_32)
        (broadcastInDim S4096x2x32 ![0, 1, 2] bcast_S4096x1x32_S4096x2x32_0_1_2 (broadcastInDim S4096x1x32 ![0, 2] bcast_S4096x32_S4096x1x32_0_2 c)))
      (mulf (Host.negf (extractStridedSlice S4096x2x32 ![0, 0, 0] (shapeCast _ x shapeCasts_S4096x128_S4096x2x64) slices_S4096x2x64_S4096x2x32_0_0_0))
        (broadcastInDim S4096x2x32 ![0, 1, 2] bcast_S4096x1x32_S4096x2x32_0_1_2 (broadcastInDim S4096x1x32 ![0, 2] bcast_S4096x32_S4096x1x32_0_2 s))))
      (constant S_ .f32 0x00000000#32) pads_S4096x2x32_S4096x2x64_000_000_3200 h_S_)
    (pad S4096x2x64 ![0, 0, 0] ![0, 0, 32] ![0, 0, 0] (addf
      (mulf (extractStridedSlice S4096x2x32 ![0, 0, 32] (shapeCast _ x shapeCasts_S4096x128_S4096x2x64) slices_S4096x2x64_S4096x2x32_0_0_32)
        (broadcastInDim S4096x2x32 ![0, 1, 2] bcast_S4096x1x32_S4096x2x32_0_1_2 (broadcastInDim S4096x1x32 ![0, 2] bcast_S4096x32_S4096x1x32_0_2 s)))
      (mulf (extractStridedSlice S4096x2x32 ![0, 0, 0] (shapeCast _ x shapeCasts_S4096x128_S4096x2x64) slices_S4096x2x64_S4096x2x32_0_0_0)
        (broadcastInDim S4096x2x32 ![0, 1, 2] bcast_S4096x1x32_S4096x2x32_0_1_2 (broadcastInDim S4096x1x32 ![0, 2] bcast_S4096x32_S4096x1x32_0_2 c))))
      (constant S_ .f32 0x00000000#32) pads_S4096x2x32_S4096x2x64_000_000_0320 h_S_)) shapeCasts_S4096x2x64_S4096x128

/-- A lane of a head's first half, turned back. -/
theorem back_low {w : ℕ} (x : Fin 4096 → Fin w → EReal) (r : Fin 4096) (n n' : Fin w) (h : n.val % 64 < 32) (hn : n'.val = n.val + 32) :
    0 + (x r n' * ((si r.val (n.val % 64) : ℝ) : EReal) + x r n * ((co r.val (n.val % 64) : ℝ) : EReal)) = back (rd x r.val) r.val n.val := by
  rw [zero_add, back, if_pos h, rd_of x r n' r.val (n.val + 32) rfl hn, ← rd_eq x r n, show n.val % 64 = n.val % 32 by omega, add_comm]

/-- A lane of a head's second half, turned back. -/
theorem back_high {w : ℕ} (x : Fin 4096 → Fin w → EReal) (r : Fin 4096) (n n' n'' : Fin w) (h : ¬ n.val % 64 < 32)
    (hn' : n'.val = n.val) (hn : n''.val = n.val - 32) :
    x r n' * ((co r.val (n.val % 64 - 32) : ℝ) : EReal) + -x r n'' * ((si r.val (n.val % 64 - 32) : ℝ) : EReal) + 0 = back (rd x r.val) r.val n.val := by
  rw [add_zero, back, if_neg h, rd_of x r n' r.val n.val rfl hn', rd_of x r n'' r.val (n.val - 32) rfl hn,
    show n.val % 64 - 32 = n.val % 32 by omega, EReal.coe_neg, neg_mul, mul_neg]

variable {c s} (hc : ∀ (r : Fin 4096) (l : Fin 32), c (ix2 r l) = ((co r.val l.val : ℝ) : EReal))
variable (hs : ∀ (r : Fin 4096) (l : Fin 32), s (ix2 r l) = ((si r.val l.val : ℝ) : EReal))
include hc hs

theorem turn8_at (x : FVec Ideal S4096x512 .f32) (r : Fin 4096) (n : Fin 512) :
    turn8 c s x (ix2 r n) = back (rd (fun r n => x (ix2 r n)) r.val) r.val n.val := by
  pointwise [turn8]
  by_cases h : n.val % 64 < 32
  · split_ifs with h1 h2 h2
    · exact absurd h1.2.1 (by omega)
    · exact absurd h1.2.1 (by omega)
    · rw [hc, hs]
      refine back_low (fun r n => x (ix2 r n)) r n _ h ?_
      simp only []; omega
    · exact absurd ⟨by omega, h⟩ h2
  · split_ifs with h1 h2 h2
    · exact absurd h2.2 h
    · rw [hc, hs]
      refine back_high (fun r n => x (ix2 r n)) r n _ _ h ?_ ?_ <;> simp only [] <;> omega
    · exact absurd h2.2 h
    · exact absurd ⟨by omega, by omega, by omega⟩ h1

theorem turn2_at (x : FVec Ideal S4096x128 .f32) (r : Fin 4096) (n : Fin 128) :
    turn2 c s x (ix2 r n) = back (rd (fun r n => x (ix2 r n)) r.val) r.val n.val := by
  pointwise [turn2]
  by_cases h : n.val % 64 < 32
  · split_ifs with h1 h2 h2
    · exact absurd h1.2.1 (by omega)
    · exact absurd h1.2.1 (by omega)
    · rw [hc, hs]
      refine back_low (fun r n => x (ix2 r n)) r n _ h ?_
      simp only []; omega
    · exact absurd ⟨by omega, h⟩ h2
  · split_ifs with h1 h2 h2
    · exact absurd h2.2 h
    · rw [hc, hs]
      refine back_high (fun r n => x (ix2 r n)) r n _ _ h ?_ ?_ <;> simp only [] <;> omega
    · exact absurd h2.2 h
    · exact absurd ⟨by omega, by omega, by omega⟩ h1

end turn

/-- The matrix of gradients. -/
def M (q : FVec Ideal S4096x512 .f32) (k v : FVec Ideal S4096x128 .f32) (za f b l zs : FVec Ideal S4096x512 .f32) (d : FVec Ideal S512 .f32) :
    FVec Ideal S4096x2304 .f32 :=
  concatenate S4096x2304 1 [⟨S4096x512, turn8 (Host.cos ang) (Host.sin ang) q⟩, ⟨S4096x128, turn2 (Host.cos ang) (Host.sin ang) k⟩,
    ⟨S4096x128, v⟩, ⟨S4096x512, za⟩,
    ⟨S4096x512, addf (addf f b) (mulf (broadcastInDim S4096x512 ![0, 1] bcast_S1x512_S4096x512_0_1 (broadcastInDim S1x512 ![1] bcast_S512_S1x512_1 d)) l)⟩,
    ⟨S4096x512, zs⟩] concatenates_S4096x512_S4096x128_S4096x128_S4096x512_S4096x512_S4096x512_S4096x2304_d1

theorem M_at (q : FVec Ideal S4096x512 .f32) (k v : FVec Ideal S4096x128 .f32) (za f b l zs : FVec Ideal S4096x512 .f32) (d : FVec Ideal S512 .f32)
    (r : Fin 4096) (n : Fin 2304) :
    M q k v za f b l zs d (ix2 r n) = G.col ⟨fun r n => q (ix2 r n), fun r n => k (ix2 r n), fun r n => v (ix2 r n), fun r n => za (ix2 r n),
      fun r n => f (ix2 r n), fun r n => b (ix2 r n), fun r n => l (ix2 r n), fun r n => zs (ix2 r n), fun n => d (ix1 n)⟩ r.val n.val := by
  pointwise [M]
  simp only [turn8_at cos_at sin_at, turn2_at cos_at sin_at, G.col]
  by_cases h0 : n.val < 512
  · rw [dif_pos h0, if_pos h0]
  rw [dif_neg h0, if_neg h0]
  by_cases h1 : n.val < 640
  · rw [dif_pos (by omega), if_pos h1]
  rw [dif_neg (by omega), if_neg h1]
  by_cases h2 : n.val < 768
  · rw [dif_pos (by omega), if_pos h2]
    refine rd_of (fun r n => v (ix2 r n)) _ _ _ _ rfl ?_
    simp only []; omega
  rw [dif_neg (by omega), if_neg h2]
  by_cases h3 : n.val < 1280
  · rw [dif_pos (by omega), if_pos h3]
    refine rd_of (fun r n => za (ix2 r n)) _ _ _ _ rfl ?_
    simp only []; omega
  rw [dif_neg (by omega), if_neg h3]
  by_cases h4 : n.val < 1792
  · rw [dif_pos (by omega), if_pos h4]
    refine congrArg₂ (· + ·) (congrArg₂ (· + ·) (rd_of (fun r n => f (ix2 r n)) _ _ _ _ rfl ?_) (rd_of (fun r n => b (ix2 r n)) _ _ _ _ rfl ?_))
      (congrArg₂ (· * ·) (rd_of (fun (_ : Fin 1) n => d (ix1 n)) 0 _ _ _ rfl ?_) (rd_of (fun r n => l (ix2 r n)) _ _ _ _ rfl ?_)) <;>
      simp only [] <;> omega
  rw [dif_neg (by omega), if_neg h4]
  refine rd_of (fun r n => zs (ix2 r n)) _ _ _ _ rfl ?_
  simp only []; omega

/-- The gradient of the projection's input, in the reference's words. -/
def out (x : FVec Ideal S4096x1024 .f32) (g : FVec Ideal S4096x2304 .f32) (w : FVec Ideal S1024x2304 .f32) : FVec Ideal S4096x1024 .f32 :=
  addf (mulf (broadcastInDim S4096x1024 ![] bcast_S_S4096x1024 (constant S_ .f32 0x3F9837F0#32)) x)
    (Host.dotGeneral dot_S4096x2304_S1024x2304_S4096x1024_1_1_0_0_n_n none g w)

theorem out_at (x : FVec Ideal S4096x1024 .f32) (g : FVec Ideal S4096x2304 .f32) (w : FVec Ideal S1024x2304 .f32) (r : Fin 4096) (j : Fin 1024) :
    out x g w (ix2 r j) = Ideal.ofBits .f32 0x3F9837F0#32 * x (ix2 r j) + ∑ n : Fin 2304, g (ix2 r n) * w (ix2 j n) := by
  pointwise [out]

theorem res_eq (m : (ℓ : Loc nD τ sig) → Buf (Elt Ideal) ℓ) (c : Dev nD) :
    Value.res_main_v119 m c = out (m ((c.tc : Thread nD τ).loc main_arg11))
      (M (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg2)))
      (m ((c.tc : Thread nD τ).loc main_arg1)) := by
  simp only [Value.res_main_v119, out, M, turn8, turn2, ang]

end Cert.Pref

end
-- ==== Proof.ClaimsX.lean ====
/- The claims on the gradient of the projection's input. -/
module

public import proofs.«01_k».proof.Proof.Gen.Kernel2Ideal.Value
public import proofs.«01_k».proof.Proof.Gen.Kernel2Ideal.Frame
public import proofs.«01_k».proof.Proof.FinalX
public import proofs.«01_k».proof.Proof.RefX
public import proofs.«01_k».proof.Defs

@[expose] public section

set_option maxRecDepth 16384

noncomputable section

namespace Cert.Px

open Idealize.ShloMosaic Idealize.ShloMosaic.TcCoe Idealize.ShloMosaic.Tactic Cert.Proj

theorem frame_ideal : @Cert.quiescent_Kernel2Ideal Cert.Kernel2Ideal.Gen.facts := fun m ρ _ => Cert.Kernel2Ideal.Gen.frame (F := Ideal) m ρ

theorem frame_ref : @Cert.quiescent_Reference2Ideal Cert.Reference2Ideal.Gen.facts := by
  intro m g _
  refine (θ_run Cert.Reference2Ideal.defs _ _).mono (fun r h => ⟨fun c => ?_, sem_eq_zero_of_no_sems (by decide) r.2⟩)
    (Cert.Reference2Ideal.Value.run (F := Ideal) m g)
  obtain ⟨-, h⟩ := h c
  exact h

/-- Where the two launches have the same arguments, the reference's result is the kernel's. -/
theorem res_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (e3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (e4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (e5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (e6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (e7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (e8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (e9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
    (e10 : m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10))
    (e11 : m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) :
    Cert.Reference2Ideal.Value.res_main_v119 m' c = resX m c := by
  rw [Cert.Pref.res_eq, e1, e2, e3, e4, e5, e6, e7, e8, e9, e10, e11]
  funext y
  idx_vars y
  rw [Cert.Pref.out_at]
  refine congrArg₂ (· + ·) rfl (Finset.sum_congr rfl fun x _ => congrArg₂ (· * ·) ((Cert.Pref.M_at _ _ _ _ _ _ _ _ _ y0 x).trans rfl) rfl)

theorem algebraic :
    @Cert.algebraic_Kernel2Ideal_Reference2Ideal Cert.Kernel2Ideal.Gen.facts Cert.Reference2Ideal.Gen.facts := by
  intro m g m' g' _ hagree
  refine ⟨fun c => resX m c, (θ_run _ _ _).mono (fun r h c => ?_) (Cert.Kernel2Ideal.Value.run_blocks (F := Ideal) m g),
    (θ_run _ _ _).mono (fun r h c => ?_) (Cert.Reference2Ideal.Value.run (F := Ideal) m' g')⟩
  · obtain ⟨h0, h⟩ := h c
    exact ⟨h0.trans (final m c), h⟩
  · obtain ⟨-, e1, e2, e3, e4, e5, e6, e7, e8, e9, e10, e11⟩ := hagree c
    obtain ⟨h0, h⟩ := h c
    exact ⟨h0.trans (res_eq m m' c e1 e2 e3 e4 e5 e6 e7 e8 e9 e10 e11), h⟩

end Cert.Px

end
-- ==== Proof.EntryW.lean ====
/- What the operands of the weight gradient's call hold: the two tables of cosines and sines, the gradients with their heads in
   pairs and their columns in slabs, and the projection's input. -/
module

public import proofs.«01_k».proof.Proof.Gen.Kernel3Ideal.Launch
public import proofs.«01_k».proof.Proof.Turn

@[expose] public section

set_option maxRecDepth 16384

noncomputable section

namespace Cert.Pw

open Idealize.ShloMosaic Idealize.ShloMosaic.TcCoe Idealize.ShloMosaic.Tactic Cert.Kernel3Ideal Cert.Kernel3Ideal.Gen Cert.Proj

/-- What the run of the host's lines leaves. -/
def W (V : Valuation τ sig (Elt Ideal)) (b : Ref sig .tc) := StableHlo.after (hostOps0 (F := Ideal)) V (Proc.devRef .tc b)

variable (V : Valuation τ sig (Elt Ideal))

/-! ## The tables -/

theorem hi_cos (b : Fin 32) (l : Fin 128) : W V main_v34 (ix3 0 b l) = ((co (128 * b.val) (l.val % 32) : ℝ) : EReal) := by
  simp only [W, hostOps0]; after_results_simp
  dsimp only [Matrix.cons_val]; after_results_simp
  pointwise []
  exact co_eq _ _ _ (group b) (by omega)

theorem hi_sin (b : Fin 32) (l : Fin 128) : W V main_v34 (ix3 1 b l) = ((si (128 * b.val) (l.val % 32) : ℝ) : EReal) := by
  simp only [W, hostOps0]; after_results_simp
  dsimp only [Matrix.cons_val]; after_results_simp
  pointwise []
  exact si_eq _ _ _ (group b) (by omega)

theorem hi_sign (b : Fin 32) (l : Fin 128) : W V main_v34 (ix3 2 b l) = ((sg l.val * si (128 * b.val) (l.val % 32) : ℝ) : EReal) := by
  simp only [W, hostOps0]; after_results_simp
  dsimp only [Matrix.cons_val]; after_results_simp
  pointwise []
  split_ifs with h <;> after_results_simp <;> pointwise [] <;> rw [si_eq _ _ _ (group b) (by omega)]
  all_goals first | exact sg_neg _ _ h | exact sg_pos _ _ h

theorem lo_cos (r l : Fin 128) : W V main_v51 (ix3 0 r l) = ((co r.val (l.val % 32) : ℝ) : EReal) := by
  simp only [W, hostOps0]; after_results_simp
  dsimp only [Matrix.cons_val]; after_results_simp
  pointwise []
  exact co_eq _ _ _ (word _ (by omega)) (by omega)

theorem lo_sin (r l : Fin 128) : W V main_v51 (ix3 1 r l) = ((si r.val (l.val % 32) : ℝ) : EReal) := by
  simp only [W, hostOps0]; after_results_simp
  dsimp only [Matrix.cons_val]; after_results_simp
  pointwise []
  exact si_eq _ _ _ (word _ (by omega)) (by omega)

theorem lo_sign (r l : Fin 128) : W V main_v51 (ix3 2 r l) = ((sg l.val * si r.val (l.val % 32) : ℝ) : EReal) := by
  simp only [W, hostOps0]; after_results_simp
  dsimp only [Matrix.cons_val]; after_results_simp
  pointwise []
  split_ifs with h <;> after_results_simp <;> pointwise [] <;> rw [si_eq _ _ _ (word _ (by omega)) (by omega)]
  all_goals first | exact sg_neg _ _ h | exact sg_pos _ _ h

/-! ## The gradients -/

/-- The gradients that the arguments hold. -/
def grads : G where
  q r n := V (Proc.devRef .tc main_arg3) (ix2 r n)
  k r n := V (Proc.devRef .tc main_arg4) (ix2 r n)
  v r n := V (Proc.devRef .tc main_arg5) (ix2 r n)
  za r n := V (Proc.devRef .tc main_arg6) (ix2 r n)
  f r n := V (Proc.devRef .tc main_arg7) (ix2 r n)
  b r n := V (Proc.devRef .tc main_arg8) (ix2 r n)
  l r n := V (Proc.devRef .tc main_arg9) (ix2 r n)
  zs r n := V (Proc.devRef .tc main_arg10) (ix2 r n)
  d n := V (Proc.devRef .tc main_arg2) (ix1 n)

theorem q_at (r : Fin 4096) (l : Fin 512) : W V main_v54 (ix2 r l) = rd (grads V).q r.val (natural l.val) := by
  simp only [W, hostOps0]; after_results
  pointwise []
  exact rd_of (grads V).q _ _ _ _ rfl rfl

theorem za_at (r : Fin 4096) (l : Fin 512) : W V main_v57 (ix2 r l) = rd (grads V).za r.val (natural l.val) := by
  simp only [W, hostOps0]; after_results
  pointwise []
  exact rd_of (grads V).za _ _ _ _ rfl rfl

theorem k_at (r : Fin 4096) (l : Fin 128) : W V main_arg4 (ix2 r l) = rd (grads V).k r.val l.val := by
  simp only [W, hostOps0]; after_results
  exact rd_of (grads V).k _ _ _ _ rfl rfl

theorem v_at (r : Fin 4096) (l : Fin 128) : W V main_arg5 (ix2 r l) = rd (grads V).v r.val l.val := by
  simp only [W, hostOps0]; after_results
  exact rd_of (grads V).v _ _ _ _ rfl rfl

theorem zs_at (r : Fin 4096) (l : Fin 512) : W V main_arg10 (ix2 r l) = rd (grads V).zs r.val l.val := by
  simp only [W, hostOps0]; after_results
  exact rd_of (grads V).zs _ _ _ _ rfl rfl

theorem f_at (a : Fin 4) (r : Fin 4096) (l : Fin 128) : W V main_v59 (ix3 a r l) = rd (grads V).f r.val (a.val * 128 + l.val) := by
  simp only [W, hostOps0]; after_results
  pointwise []
  exact rd_of (grads V).f _ _ _ _ rfl rfl

theorem b_at (a : Fin 4) (r : Fin 4096) (l : Fin 128) : W V main_v61 (ix3 a r l) = rd (grads V).b r.val (a.val * 128 + l.val) := by
  simp only [W, hostOps0]; after_results
  pointwise []
  exact rd_of (grads V).b _ _ _ _ rfl rfl

theorem l_at (a : Fin 4) (r : Fin 4096) (l : Fin 128) : W V main_v63 (ix3 a r l) = rd (grads V).l r.val (a.val * 128 + l.val) := by
  simp only [W, hostOps0]; after_results
  pointwise []
  exact rd_of (grads V).l _ _ _ _ rfl rfl

theorem d_at (l : Fin 512) : W V main_v64 (ix2 0 l) = rd (fun _ : Fin 1 => (grads V).d) 0 l.val := by
  simp only [W, hostOps0]; after_results
  pointwise []
  exact rd_of (fun _ : Fin 1 => (grads V).d) 0 _ _ _ rfl rfl

/-! ## The rest -/

theorem x_at (r : Fin 4096) (j : Fin 1024) : W V main_arg0 (ix2 r j) = V (Proc.devRef .tc main_arg0) (ix2 r j) := by
  simp only [W, hostOps0]; after_results

end Cert.Pw

end
-- ==== Proof.PointW.lean ====
/- The weight gradient's call. -/
module

public import proofs.«01_k».proof.Proof.Gen.Kernel3Ideal.Frame
public import Idealize.ShloMosaic.Lib.Pipeline.ValueKit
public import Idealize.ShloMosaic.Lib.Pipeline.ReadBack
public import proofs.«01_k».proof.Proof.EntryW
public import proofs.«01_k».proof.Proof.Rows

@[expose] public section

set_option maxRecDepth 16384

noncomputable section

namespace Cert.Pw

open Idealize.ShloMosaic Idealize.ShloMosaic.TcCoe Idealize.ShloMosaic.Tactic Cert.Kernel3Ideal Cert.Kernel3Ideal.Gen
open Cert.Proj (Dx Dx_eq D Cos Sin Q0 Q1 Q2 Q3 gc gs gg rc rs rg slab)

/-- A piece under three that hold the place is not seen. -/
theorem canon_under {Val : EltTy → Type} [∀ e, Nonempty (Val e)] {S : Shape} {e : EltTy} (p q s z : View.Piece Val S e) (y : S.Idx)
    (h : ∃ k ∈ [p, q, s], y ∈ k.1.set) : View.canon [p, q, s, z] y = View.canon [p, q, s] y := by
  by_cases hp : y ∈ p.1.set
  · obtain ⟨x, rfl⟩ := p.1.exists_idx_of_mem hp
    rw [show p.1.idx x = p.1.emb x from rfl, View.canon_cons_emb, View.canon_cons_emb]
  by_cases hq : y ∈ q.1.set
  · rw [View.canon_cons_of_not_mem _ _ hp, View.canon_cons_of_not_mem _ _ hp]
    obtain ⟨x, rfl⟩ := q.1.exists_idx_of_mem hq
    rw [show q.1.idx x = q.1.emb x from rfl, View.canon_cons_emb, View.canon_cons_emb]
  have hs : y ∈ s.1.set := by
    obtain ⟨k, hk, hy⟩ := h
    rcases List.mem_cons.mp hk with rfl | hk
    · exact absurd hy hp
    rcases List.mem_cons.mp hk with rfl | hk
    · exact absurd hy hq
    · rwa [List.mem_singleton.mp hk] at hy
  rw [View.canon_cons_of_not_mem _ _ hp, View.canon_cons_of_not_mem _ _ hp, View.canon_cons_of_not_mem _ _ hq, View.canon_cons_of_not_mem _ _ hq]
  obtain ⟨x, rfl⟩ := s.1.exists_idx_of_mem hs
  rw [show s.1.idx x = s.1.emb x from rfl, View.canon_cons_emb, View.canon_cons_emb]

theorem low_at (d : FVec Ideal S512x2304 .bf16) (b : FVec Ideal S512x1024 .bf16) (a : Vec Ideal S768x1024 .f32) (n : Fin 768) (j : Fin 1024) :
    (addf (shapeCast S768x1024 a shapeCasts_S768x1024_S768x1024) (matmul dot_S512x768_S512x1024_S768x1024_0_0_1_1_n_n none
      (extractStridedSlice S512x768 ![0, 0] d slices_S512x2304_o0_0_S512x768) b (constant S768x1024 .f32 0x00000000#32)) : FVec Ideal S768x1024 .f32)
        (ix2 n j)
      = a (ix2 n j) + ∑ r : Fin 512, d (ix2 r ⟨n.val, by omega⟩) * b (ix2 r j) := by
  pointwise []

theorem mid_at (d : FVec Ideal S512x2304 .bf16) (b : FVec Ideal S512x1024 .bf16) (a : Vec Ideal S768x1024 .f32) (n : Fin 768) (j : Fin 1024) :
    (addf (shapeCast S768x1024 a shapeCasts_S768x1024_S768x1024) (matmul dot_S512x768_S512x1024_S768x1024_0_0_1_1_n_n none
      (extractStridedSlice S512x768 ![0, 768] d slices_S512x2304_o0_768_S512x768) b (constant S768x1024 .f32 0x00000000#32)) : FVec Ideal S768x1024 .f32)
        (ix2 n j)
      = a (ix2 n j) + ∑ r : Fin 512, d (ix2 r ⟨768 + n.val, by omega⟩) * b (ix2 r j) := by
  pointwise []

theorem high_at (d : FVec Ideal S512x2304 .bf16) (b : FVec Ideal S512x1024 .bf16) (a : Vec Ideal S768x1024 .f32) (n : Fin 768) (j : Fin 1024) :
    (addf (shapeCast S768x1024 a shapeCasts_S768x1024_S768x1024) (matmul dot_S512x768_S512x1024_S768x1024_0_0_1_1_n_n none
      (extractStridedSlice S512x768 ![0, 1536] d slices_S512x2304_o0_1536_S512x768) b (constant S768x1024 .f32 0x00000000#32)) : FVec Ideal S768x1024 .f32)
        (ix2 n j)
      = a (ix2 n j) + ∑ r : Fin 512, d (ix2 r ⟨1536 + n.val, by omega⟩) * b (ix2 r j) := by
  pointwise []

theorem out_B (c : Dev nD) (i : grid0.Coords)
    (arg1 : Memref sig .tc .vmem S512x1024 .f32) (harg1 : arg1.IsWhole)
    (arg2 : Memref sig .tc .vmem S512x512 .f32) (harg2 : arg2.IsWhole)
    (arg3 : Memref sig .tc .vmem S512x128 .f32) (harg3 : arg3.IsWhole)
    (arg4 : Memref sig .tc .vmem S512x128 .f32) (harg4 : arg4.IsWhole)
    (arg5 : Memref sig .tc .vmem S512x512 .f32) (harg5 : arg5.IsWhole)
    (arg6 : Memref sig .tc .vmem S4x512x128 .f32) (harg6 : arg6.IsWhole)
    (arg7 : Memref sig .tc .vmem S4x512x128 .f32) (harg7 : arg7.IsWhole)
    (arg8 : Memref sig .tc .vmem S4x512x128 .f32) (harg8 : arg8.IsWhole)
    (arg9 : Memref sig .tc .vmem S512x512 .f32) (harg9 : arg9.IsWhole)
    (arg10 : Memref sig .tc .vmem S1x512 .f32) (harg10 : arg10.IsWhole)
    (arg11 : Memref sig .tc .vmem S3x32x128 .f32) (harg11 : arg11.IsWhole)
    (arg12 : Memref sig .tc .vmem S3x128x128 .f32) (harg12 : arg12.IsWhole)
    (arg13 : Memref sig .tc .vmem S2304x1024 .f32) (harg13 : arg13.IsWhole)
    (h : ¬cond0_0 i) (b0 : Vec Ideal S512x1024 .f32) (b1 : Vec Ideal S512x512 .f32) (b2 : Vec Ideal S512x128 .f32) (b3 : Vec Ideal S512x128 .f32) (b4 : Vec Ideal S512x512 .f32) (b5 : Vec Ideal S4x512x128 .f32) (b6 : Vec Ideal S4x512x128 .f32) (b7 : Vec Ideal S4x512x128 .f32) (b8 : Vec Ideal S512x512 .f32) (b9 : Vec Ideal S1x512 .f32) (b10 : Vec Ideal S3x32x128 .f32) (b11 : Vec Ideal S3x128x128 .f32) (xo : Vec Ideal S2304x1024 .f32)
    (n : Fin 2304) (j : Fin 1024) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 h b0 b1 b2 b3 b4 b5 b6 b7 b8 b9 b10 b11 xo (ix2 n j)
      = xo (ix2 n j) + ∑ r : Fin 512, Dx i b1 b2 b3 b4 b5 b6 b7 b8 b9 b10 b11 (ix2 r n) * b0 (ix2 r j) := by
  frame_out
  canon_tiles x h
  all_goals idx_vars x
  all_goals simp only [k0_pay60, k0_pay1, k0_pay2, k0_pay61, k0_pay62]
  all_goals (first | rw [low_at] | rw [mid_at] | rw [high_at])
  case' piece0 => obtain rfl : n = ⟨1536 + x0.val, Nat.add_lt_add_left x0.isLt 1536⟩ := Fin.ext h0
  case' piece1 => obtain rfl : n = ⟨768 + x0.val, (Nat.add_lt_add_left x0.isLt 768).trans (by decide)⟩ := Fin.ext h0
  case' piece2 => obtain rfl : n = ⟨x0.val, x0.isLt.trans (by decide)⟩ := Fin.ext h0
  all_goals
    obtain rfl : j = x1 := Fin.ext h1
    refine congrArg₂ (· + ·) ?_ (Finset.sum_congr rfl fun r _ => congrArg₂ (· * ·) ?_ ?_)
    · pointwise []
    · rw [Dx_eq]
      simp only [D, Cos, Sin, Q0, Q1, Q2, Q3, gc, gs, gg, rc, rs, rg, slab]
      exact rfl
    · pointwise [k0_pay59]

theorem out_A (c : Dev nD) (i : grid0.Coords)
    (arg1 : Memref sig .tc .vmem S512x1024 .f32) (harg1 : arg1.IsWhole)
    (arg2 : Memref sig .tc .vmem S512x512 .f32) (harg2 : arg2.IsWhole)
    (arg3 : Memref sig .tc .vmem S512x128 .f32) (harg3 : arg3.IsWhole)
    (arg4 : Memref sig .tc .vmem S512x128 .f32) (harg4 : arg4.IsWhole)
    (arg5 : Memref sig .tc .vmem S512x512 .f32) (harg5 : arg5.IsWhole)
    (arg6 : Memref sig .tc .vmem S4x512x128 .f32) (harg6 : arg6.IsWhole)
    (arg7 : Memref sig .tc .vmem S4x512x128 .f32) (harg7 : arg7.IsWhole)
    (arg8 : Memref sig .tc .vmem S4x512x128 .f32) (harg8 : arg8.IsWhole)
    (arg9 : Memref sig .tc .vmem S512x512 .f32) (harg9 : arg9.IsWhole)
    (arg10 : Memref sig .tc .vmem S1x512 .f32) (harg10 : arg10.IsWhole)
    (arg11 : Memref sig .tc .vmem S3x32x128 .f32) (harg11 : arg11.IsWhole)
    (arg12 : Memref sig .tc .vmem S3x128x128 .f32) (harg12 : arg12.IsWhole)
    (arg13 : Memref sig .tc .vmem S2304x1024 .f32) (harg13 : arg13.IsWhole)
    (h : cond0_0 i) (b0 : Vec Ideal S512x1024 .f32) (b1 : Vec Ideal S512x512 .f32) (b2 : Vec Ideal S512x128 .f32) (b3 : Vec Ideal S512x128 .f32) (b4 : Vec Ideal S512x512 .f32) (b5 : Vec Ideal S4x512x128 .f32) (b6 : Vec Ideal S4x512x128 .f32) (b7 : Vec Ideal S4x512x128 .f32) (b8 : Vec Ideal S512x512 .f32) (b9 : Vec Ideal S1x512 .f32) (b10 : Vec Ideal S3x32x128 .f32) (b11 : Vec Ideal S3x128x128 .f32)
    (n : Fin 2304) (j : Fin 1024) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 h b0 b1 b2 b3 b4 b5 b6 b7 b8 b9 b10 b11 (ix2 n j)
      = 0 + ∑ r : Fin 512, Dx i b1 b2 b3 b4 b5 b6 b7 b8 b9 b10 b11 (ix2 r n) * b0 (ix2 r j) := by
  frame_out
  simp (disch := decide) only [↓ View.readCov_skip, ↓ View.readCov_fill]
  rw [canon_under _ _ _ _ _ (View.cover_of_tiled_head _ _ [_, _] rfl _)]
  canon_tiles x h
  all_goals idx_vars x
  all_goals simp only [k0_pay60, k0_pay1, k0_pay2, k0_pay61, k0_pay62]
  all_goals (first | rw [low_at] | rw [mid_at] | rw [high_at])
  case' piece0 => obtain rfl : n = ⟨1536 + x0.val, Nat.add_lt_add_left x0.isLt 1536⟩ := Fin.ext h0
  case' piece1 => obtain rfl : n = ⟨768 + x0.val, (Nat.add_lt_add_left x0.isLt 768).trans (by decide)⟩ := Fin.ext h0
  case' piece2 => obtain rfl : n = ⟨x0.val, x0.isLt.trans (by decide)⟩ := Fin.ext h0
  all_goals
    obtain rfl : j = x1 := Fin.ext h1
    refine congrArg₂ (· + ·) ?_ (Finset.sum_congr rfl fun r _ => congrArg₂ (· * ·) ?_ ?_)
    · pointwise [k0_pay3]
    · rw [Dx_eq]
      simp only [D, Cos, Sin, Q0, Q1, Q2, Q3, gc, gs, gg, rc, rs, rg, slab]
      exact rfl
    · pointwise [k0_pay59]

end Cert.Pw

end
-- ==== Proof.FinalW.lean ====
/- The weight gradient's call: the eight points add up the products of their rows' matrices of gradients with the rows of the
   projection's input, which is the product over all rows; the host's line after the call transposes it. -/
module

public import proofs.«01_k».proof.Proof.PointW

@[expose] public section

set_option maxRecDepth 16384

noncomputable section

namespace Cert.Pw

open Idealize.ShloMosaic Idealize.ShloMosaic.TcCoe Idealize.ShloMosaic.Tactic Idealize.SL.Sem Cert.Kernel3Ideal Cert.Kernel3Ideal.Gen
open Cert.Proj (Dx G rd natural)

/-! ## The point's blocks -/

/-- Which rows, which groups and which slabs the point's windows hold. -/
theorem idx : ∀ t : Fin cfg0.N,
    win0_0.index t = ![t.val, 0] ∧ win0_1.index t = ![t.val, 0] ∧ win0_2.index t = ![t.val, 0] ∧ win0_3.index t = ![t.val, 0]
    ∧ win0_4.index t = ![t.val, 0] ∧ win0_5.index t = ![0, t.val, 0] ∧ win0_6.index t = ![0, t.val, 0] ∧ win0_7.index t = ![0, t.val, 0]
    ∧ win0_8.index t = ![t.val, 0] ∧ win0_9.index t = ![0, 0] ∧ win0_10.index t = ![0, 0, 0] ∧ win0_11.index t = ![0, 0, 0]
    ∧ win0_12.index t = ![0, 0] :=
  (by decide +kernel : ∀ t : Fin grid0.N, _)

variable (m : (ℓ : Loc nD τ sig) → Buf (Elt Ideal) ℓ) (c : Dev nD) (t : Fin cfg0.N)

/-- The launch's buffers on device `c`. -/
abbrev mem : Valuation τ sig (Elt Ideal) := fun b => m (c, b)

theorem eight (t : Fin cfg0.N) : t.val < 8 := t.isLt

/-- The buffer of the `n`-th row of the point's block. -/
abbrev row (t : Fin cfg0.N) (r : Fin 512) : Fin 4096 := ⟨512 * t.val + r.val, by have := eight t; omega⟩

theorem blk_q (r l : Fin 512) : iblk m c 1 t (ix2 r l) = rd (grads (mem m c)).q (512 * t.val + r.val) (natural l.val) := by
  refine Eq.trans ?_ (q_at (mem m c) (row t r) l)
  show W (mem m c) main_v54 _ = _
  blk_ext [idx t]

theorem blk_k (r : Fin 512) (l : Fin 128) : iblk m c 2 t (ix2 r l) = rd (grads (mem m c)).k (512 * t.val + r.val) l.val := by
  refine Eq.trans ?_ (k_at (mem m c) (row t r) l)
  show W (mem m c) main_arg4 _ = _
  blk_ext [idx t]

theorem blk_v (r : Fin 512) (l : Fin 128) : iblk m c 3 t (ix2 r l) = rd (grads (mem m c)).v (512 * t.val + r.val) l.val := by
  refine Eq.trans ?_ (v_at (mem m c) (row t r) l)
  show W (mem m c) main_arg5 _ = _
  blk_ext [idx t]

theorem blk_z (r l : Fin 512) : iblk m c 4 t (ix2 r l) = rd (grads (mem m c)).za (512 * t.val + r.val) (natural l.val) := by
  refine Eq.trans ?_ (za_at (mem m c) (row t r) l)
  show W (mem m c) main_v57 _ = _
  blk_ext [idx t]

theorem blk_f (a : Fin 4) (r : Fin 512) (l : Fin 128) :
    iblk m c 5 t (ix3 a r l) = rd (grads (mem m c)).f (512 * t.val + r.val) (a.val * 128 + l.val) := by
  refine Eq.trans ?_ (f_at (mem m c) a (row t r) l)
  show W (mem m c) main_v59 _ = _
  blk_ext [idx t]

theorem blk_b (a : Fin 4) (r : Fin 512) (l : Fin 128) :
    iblk m c 6 t (ix3 a r l) = rd (grads (mem m c)).b (512 * t.val + r.val) (a.val * 128 + l.val) := by
  refine Eq.trans ?_ (b_at (mem m c) a (row t r) l)
  show W (mem m c) main_v61 _ = _
  blk_ext [idx t]

theorem blk_l (a : Fin 4) (r : Fin 512) (l : Fin 128) :
    iblk m c 7 t (ix3 a r l) = rd (grads (mem m c)).l (512 * t.val + r.val) (a.val * 128 + l.val) := by
  refine Eq.trans ?_ (l_at (mem m c) a (row t r) l)
  show W (mem m c) main_v63 _ = _
  blk_ext [idx t]

theorem blk_s (r l : Fin 512) : iblk m c 8 t (ix2 r l) = rd (grads (mem m c)).zs (512 * t.val + r.val) l.val := by
  refine Eq.trans ?_ (zs_at (mem m c) (row t r) l)
  show W (mem m c) main_arg10 _ = _
  blk_ext [idx t]

theorem blk_d (l : Fin 512) : iblk m c 9 t (ix2 0 l) = rd (fun _ : Fin 1 => (grads (mem m c)).d) 0 l.val := by
  refine Eq.trans ?_ (Cert.Pw.d_at (mem m c) l)
  show W (mem m c) main_v64 _ = _
  blk_ext [idx t]

theorem blk_hi (a : Fin 3) (b : Fin 32) (l : Fin 128) : iblk m c 10 t (ix3 a b l) = W (mem m c) main_v34 (ix3 a b l) := by
  show W (mem m c) main_v34 _ = _
  blk_ext [idx t]

theorem blk_lo (a : Fin 3) (r l : Fin 128) : iblk m c 11 t (ix3 a r l) = W (mem m c) main_v51 (ix3 a r l) := by
  show W (mem m c) main_v51 _ = _
  blk_ext [idx t]

theorem blk_x (r : Fin 512) (j : Fin 1024) : iblk m c 0 t (ix2 r j) = m ((c : Thread nD τ).loc main_arg0) (ix2 (row t r) j) := by
  refine Eq.trans ?_ (x_at (mem m c) (row t r) j)
  show W (mem m c) main_arg0 _ = _
  blk_ext [idx t]

/-! ## The whole array -/

/-- The point's matrix of gradients, entry by entry. -/
theorem dx_at (r : Fin 512) (n : Fin 2304) :
    Dx (grid0.coords t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix2 r n) = (grads (mem m c)).col (512 * t.val + r.val) n.val :=
  Cert.Proj.dx_at (grads (mem m c)) t (blk_q m c t) (blk_k m c t) (blk_v m c t) (blk_z m c t) (blk_f m c t) (blk_b m c t) (blk_l m c t)
    (blk_s m c t) (blk_d m c t) (fun b l => (blk_hi m c t 0 b l).trans (hi_cos (mem m c) b l))
    (fun b l => (blk_hi m c t 1 b l).trans (hi_sin (mem m c) b l)) (fun b l => (blk_hi m c t 2 b l).trans (hi_sign (mem m c) b l))
    (fun r l => (blk_lo m c t 0 r l).trans (lo_cos (mem m c) r l)) (fun r l => (blk_lo m c t 1 r l).trans (lo_sin (mem m c) r l))
    (fun r l => (blk_lo m c t 2 r l).trans (lo_sign (mem m c) r l)) r n

/-- The sum over all rows. -/
def total (n : Fin 2304) (j : Fin 1024) : EReal :=
  ∑ i : Fin 4096, (grads (mem m c)).col i.val n.val * m ((c : Thread nD τ).loc main_arg0) (ix2 i j)

/-- The point's share of the sum. -/
def share (n : Fin 2304) (j : Fin 1024) : EReal :=
  ∑ r : Fin 512, (grads (mem m c)).col (512 * t.val + r.val) n.val * m ((c : Thread nD τ).loc main_arg0) (ix2 (row t r) j)

theorem share_eq (n : Fin 2304) (j : Fin 1024) :
    ∑ r : Fin 512, Dx (grid0.coords t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r n) * iblk m c 0 t (ix2 r j) = share m c t n j :=
  Finset.sum_congr rfl fun r _ => congrArg₂ (· * ·) (dx_at m c t r n) (blk_x m c t r j)

/-- The block after the last point. -/
theorem last (n : Fin 2304) (j : Fin 1024) : outsAt0 m c t0_7.val t0_7.isLt (ix2 n j) = total m c n j := by
  rw [Pipeline.eq_sum_fin_of_reset_step_apply_last (fun n h => outsAt0 m c n h) 8 (fun _ => (0 : EReal))
    (fun t y => share m c t (y 0) (y 1))
    (fun t h y => by
      idx_vars y
      rw [outsAt0_A m c t h]
      exact (out_A ..).trans (congrArg _ (share_eq m c t y0 y1)))
    (fun t h y => by
      idx_vars y
      rw [outsAt0_B m c t h]
      exact (out_B ..).trans (congrArg _ (share_eq m c t y0 y1)))
    (le_of_eq N_0) t0_7 rfl (ix2 n j), zero_add]
  refine Fin.sum_mul_add_congr fun s k hl => ?_
  have e : row s k = ⟨s.val * 512 + k.val, hl⟩ := Fin.ext (by show 512 * s.val + k.val = s.val * 512 + k.val; omega)
  exact congrArg (fun i : Fin 4096 => (grads (mem m c)).col i.val n.val * m ((c : Thread nD τ).loc main_arg0) (ix2 i j)) e

/-- What the call leaves. -/
theorem final : (dats m 0 c).arrAt 12 (cfgs 0).N = fun y : S2304x1024.Idx => total m c (y 0) (y 1) := by
  refine (dats m 0 c).arrAt_eq_of_after_last 12 t0_7 (by decide +kernel) _ fun y => ?_
  blk_simp
  rw [after0_12]
  idx_vars y
  refine (last m c y0 y1).trans ?_
  blk_ext [idx t0_7]

/-! ## The line after the call -/

/-- What the arrays hold when the call ends. -/
def VA : Valuation τ sig (Elt Ideal) :=
  Pipeline.withArrays (cfgs 0).spec c (V0 m c) fun w => (dats m 0 c).arrAt w (cfgs 0).N

theorem VA_at (k : Fin 13) : VA m c (Proc.devRef .tc (Pipeline.arrRef (cfgs 0).spec k)) = (dats m 0 c).arrAt k (cfgs 0).N :=
  Pipeline.withArrays_arr _ (by decide) c (V0 m c) _ k

theorem tail_eq (b : Ref sig .tc) :
    Pipeline.afterTail₀ cfgs (dats m) 0 (V0 m) [hostOps1] c b = StableHlo.after hostOps1 (VA m c) (Proc.devRef .tc b) := by
  simp only [Pipeline.afterTail₀, VA, List.flatten_cons, List.flatten_nil, List.append_nil]

/-- The gradient of the projection's weights. -/
def resW : FVec Ideal S1024x2304 .f32 := fun y => total m c (y 1) (y 0)

theorem line (V : Valuation τ sig (Elt Ideal)) (h : V (Proc.devRef .tc main_v65) = fun y : S2304x1024.Idx => total m c (y 0) (y 1)) :
    StableHlo.after hostOps1 V (Proc.devRef .tc main_v66) = resW m c := by
  simp only [hostOps1]; after_results
  rw [h]
  funext y; idx_vars y; pointwise [resW]

/-- Every execution ends with the weights' gradient in the result and the arguments unchanged. -/
theorem run (g : Dev nD → PrngReg) :
    θ_run defs (onTc (τ := τ) (main (F := Ideal))) ⟨m, fun _ => 0, g⟩ fun r => ∀ c : Dev nD,
      r.2.mem ((c.tc : Thread nD τ).loc main_v66) = resW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r hr c => ?_) (θ_run_and (run_main m g) (unchanged m g))
  obtain ⟨hr, ha⟩ := hr
  exact ⟨(((hr c).2 main_v66 (Pipeline.mem_restRefs_of main_v66 (by decide) (by decide))).trans (tail_eq m c main_v66)).trans
    (line m c _ ((VA_at m c 12).trans (final m c))), ha c⟩

end Cert.Pw

end
-- ==== Proof.RefW.lean ====
/- The reference's gradient of the projection's weights: the product of the input's transpose with the matrix of gradients. -/
module

public import proofs.«01_k».proof.Proof.Gen.Reference3Ideal.Run
public import proofs.«01_k».proof.Proof.RefX

@[expose] public section

set_option maxRecDepth 16384
set_option maxHeartbeats 2000000

noncomputable section

namespace Cert.Prefw

open Idealize.ShloMosaic Idealize.ShloMosaic.TcCoe Idealize.ShloMosaic.Tactic Cert.Reference3Ideal Cert.Reference3Ideal.Gen Cert.Pref

/-- The product over the rows, transposed. -/
def out (g : FVec Ideal S4096x2304 .f32) (x : FVec Ideal S4096x1024 .f32) : FVec Ideal S1024x2304 .f32 :=
  transpose S1024x2304 [1, 0] (Host.dotGeneral dot_S4096x2304_S4096x1024_S2304x1024_0_0_1_1_n_n none g x) transposes_S2304x1024_S1024x2304_1_0

theorem out_at (g : FVec Ideal S4096x2304 .f32) (x : FVec Ideal S4096x1024 .f32) (j : Fin 1024) (n : Fin 2304) :
    out g x (ix2 j n) = ∑ i : Fin 4096, g (ix2 i n) * x (ix2 i j) := by
  pointwise [out]

theorem res_eq (m : (ℓ : Loc nD τ sig) → Buf (Elt Ideal) ℓ) (c : Dev nD) :
    Value.res_main_v117 m c = out
      (Pref.M (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg2)))
      (m ((c.tc : Thread nD τ).loc main_arg0)) := by
  simp only [Value.res_main_v117, out, Pref.M, turn8, turn2, ang]

end Cert.Prefw

end
-- ==== Proof.ClaimsW.lean ====
/- The claims on the gradient of the projection's weights. -/
module

public import proofs.«01_k».proof.Proof.FinalW
public import proofs.«01_k».proof.Proof.RefW
public import proofs.«01_k».proof.Defs

@[expose] public section

set_option maxRecDepth 16384

noncomputable section

namespace Cert.Pw

open Idealize.ShloMosaic Idealize.ShloMosaic.TcCoe Idealize.ShloMosaic.Tactic Cert.Proj

theorem frame_ideal : @Cert.quiescent_Kernel3Ideal Cert.Kernel3Ideal.Gen.facts := fun m ρ _ => Cert.Kernel3Ideal.Gen.frame (F := Ideal) m ρ

theorem frame_ref : @Cert.quiescent_Reference3Ideal Cert.Reference3Ideal.Gen.facts := by
  intro m g _
  refine (θ_run Cert.Reference3Ideal.defs _ _).mono (fun r h => ⟨fun c => ?_, sem_eq_zero_of_no_sems (by decide) r.2⟩)
    (Cert.Reference3Ideal.Value.run (F := Ideal) m g)
  obtain ⟨-, h⟩ := h c
  exact h

/-- Where the two launches have the same arguments, the reference's result is the kernel's. -/
theorem res_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (e2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (e3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (e4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (e5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (e6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (e7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (e8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    (e9 : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9))
    (e10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) :
    Cert.Reference3Ideal.Value.res_main_v117 m' c = resW m c := by
  rw [Cert.Prefw.res_eq, e0, e2, e3, e4, e5, e6, e7, e8, e9, e10]
  funext y
  idx_vars y
  rw [Cert.Prefw.out_at]
  exact Finset.sum_congr rfl fun i _ => congrArg₂ (· * ·) ((Cert.Pref.M_at _ _ _ _ _ _ _ _ _ i y1).trans rfl) rfl

theorem algebraic :
    @Cert.algebraic_Kernel3Ideal_Reference3Ideal Cert.Kernel3Ideal.Gen.facts Cert.Reference3Ideal.Gen.facts := by
  intro m g m' g' _ hagree
  refine ⟨fun c => resW m c, (θ_run _ _ _).mono (fun r h c => h c) (run m g),
    (θ_run _ _ _).mono (fun r h c => ?_) (Cert.Reference3Ideal.Value.run (F := Ideal) m' g')⟩
  obtain ⟨e0, -, e2, e3, e4, e5, e6, e7, e8, e9, e10, -⟩ := hagree c
  obtain ⟨h0, h⟩ := h c
  exact ⟨h0.trans (res_eq m m' c e0 e2 e3 e4 e5 e6 e7 e8 e9 e10), h⟩

end Cert.Pw

end
-- ==== Proof.lean ====
/- The claim of this directory: the conjunction of the claims proved in Claims.lean, KernelFrame.lean, ClaimsX.lean and
   ClaimsW.lean, with the witnesses of the side conditions the programs state. -/
module

public import proofs.«01_k».proof.Proof.Claims
public import proofs.«01_k».proof.Proof.KernelFrame
public import proofs.«01_k».proof.Proof.Gen.Kernel2.Frame
public import proofs.«01_k».proof.Proof.Gen.Kernel2Ideal.Value
public import proofs.«01_k».proof.Proof.Gen.Reference2Ideal.Run
public import proofs.«01_k».proof.Proof.ClaimsX
public import proofs.«01_k».proof.Proof.Gen.Kernel3.Frame
public import proofs.«01_k».proof.Proof.Gen.Kernel3Ideal.Frame
public import proofs.«01_k».proof.Proof.Gen.Reference3Ideal.Run
public import proofs.«01_k».proof.Proof.ClaimsW

@[expose] public section

noncomputable section

namespace Cert.Proof

/-- All the claims hold. -/
theorem claim : Cert.Claim :=
  haveI : Cert.Pre_finite.Facts := Cert.Pre_finite.facts
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite.facts, Cert.Mid.frame_kernel, Cert.Mid.frame_ideal, Cert.Mid.frame_ideal_pre,
    Cert.Mid.frame_ref, Cert.Mid.frame_ref_pre, fun m ρ _ => Cert.Kernel2.Gen.frame m ρ, Cert.Px.frame_ideal, Cert.Px.frame_ref,
    fun m ρ _ => Cert.Kernel3.Gen.frame m ρ, Cert.Pw.frame_ideal, Cert.Pw.frame_ref, Cert.Mid.preserves, Cert.Mid.algebraic, trivial,
    Cert.Px.algebraic, trivial, Cert.Pw.algebraic⟩

end Cert.Proof

end
